-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsRefIdeal (m : (ℓ : Loc Cert.StatsRefIdeal.nD Cert.StatsRefIdeal.τ Cert.StatsRefIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondRefIdeal (m : (ℓ : Loc Cert.SecondRefIdeal.nD Cert.SecondRefIdeal.τ Cert.SecondRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Centres (m : (ℓ : Loc Cert.Centres.nD Cert.Centres.τ Cert.Centres.sig) → Buf (Elt Bits) ℓ) : Prop :=
  True

def Pre_CentresIdeal (m : (ℓ : Loc Cert.CentresIdeal.nD Cert.CentresIdeal.τ Cert.CentresIdeal.sig) → Buf (Elt Ideal) ℓ) : Prop :=
  True

def Pre_CentresRefIdeal (m : (ℓ : Loc Cert.CentresRefIdeal.nD Cert.CentresRefIdeal.τ Cert.CentresRefIdeal.sig) → Buf (Elt Ideal) ℓ) : Prop :=
  True

def Pre_Outcome (m : (ℓ : Loc Cert.Outcome.nD Cert.Outcome.τ Cert.Outcome.sig) → Buf (Elt Bits) ℓ) : Prop :=
  True

def Pre_OutcomeIdeal (m : (ℓ : Loc Cert.OutcomeIdeal.nD Cert.OutcomeIdeal.τ Cert.OutcomeIdeal.sig) → Buf (Elt Ideal) ℓ) : Prop :=
  True

def Pre_OutcomeIdeal_finite [hPre_finite : Cert.Pre_finite.Facts] (m : (ℓ : Loc Cert.OutcomeIdeal.nD Cert.OutcomeIdeal.τ Cert.OutcomeIdeal.sig) → Buf (Elt Ideal) ℓ) : Prop :=
  ∀ c : Dev Cert.OutcomeIdeal.nD,
    (Cert.Pre_finite.fn (F := Ideal) (m ((c.tc : Thread Cert.OutcomeIdeal.nD Cert.OutcomeIdeal.τ).loc Cert.OutcomeIdeal.main_arg0)) (m ((c.tc : Thread Cert.OutcomeIdeal.nD Cert.OutcomeIdeal.τ).loc Cert.OutcomeIdeal.main_arg1)) (m ((c.tc : Thread Cert.OutcomeIdeal.nD Cert.OutcomeIdeal.τ).loc Cert.OutcomeIdeal.main_arg2)) (m ((c.tc : Thread Cert.OutcomeIdeal.nD Cert.OutcomeIdeal.τ).loc Cert.OutcomeIdeal.main_arg3))) = (fun _ => 1#1)

def Pre_OutcomeRefIdeal (m : (ℓ : Loc Cert.OutcomeRefIdeal.nD Cert.OutcomeRefIdeal.τ Cert.OutcomeRefIdeal.sig) → Buf (Elt Ideal) ℓ) : Prop :=
  True

def Pre_OutcomeRefIdeal_finite [hPre_finite : Cert.Pre_finite.Facts] (m : (ℓ : Loc Cert.OutcomeRefIdeal.nD Cert.OutcomeRefIdeal.τ Cert.OutcomeRefIdeal.sig) → Buf (Elt Ideal) ℓ) : Prop :=
  ∀ c : Dev Cert.OutcomeRefIdeal.nD,
    (Cert.Pre_finite.fn (F := Ideal) (m ((c.tc : Thread Cert.OutcomeRefIdeal.nD Cert.OutcomeRefIdeal.τ).loc Cert.OutcomeRefIdeal.main_arg0)) (m ((c.tc : Thread Cert.OutcomeRefIdeal.nD Cert.OutcomeRefIdeal.τ).loc Cert.OutcomeRefIdeal.main_arg1)) (m ((c.tc : Thread Cert.OutcomeRefIdeal.nD Cert.OutcomeRefIdeal.τ).loc Cert.OutcomeRefIdeal.main_arg2)) (m ((c.tc : Thread Cert.OutcomeRefIdeal.nD Cert.OutcomeRefIdeal.τ).loc Cert.OutcomeRefIdeal.main_arg3))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_inside [hPre_inside : Cert.Pre_inside.Facts] (m : (ℓ : Loc Cert.HeadIdeal.nD Cert.HeadIdeal.τ Cert.HeadIdeal.sig) → Buf (Elt Ideal) ℓ) : Prop :=
  ∀ c : Dev Cert.HeadIdeal.nD,
    (Cert.Pre_inside.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_inside [hPre_inside : Cert.Pre_inside.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_inside.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))) = (fun _ => 1#1)

def Pre_Moments (m : (ℓ : Loc Cert.Moments.nD Cert.Moments.τ Cert.Moments.sig) → Buf (Elt Bits) ℓ) : Prop :=
  True

def Pre_MomentsIdeal (m : (ℓ : Loc Cert.MomentsIdeal.nD Cert.MomentsIdeal.τ Cert.MomentsIdeal.sig) → Buf (Elt Ideal) ℓ) : Prop :=
  True

def Pre_MomentsIdeal_bounded [hPre_bounded : Cert.Pre_bounded.Facts] (m : (ℓ : Loc Cert.MomentsIdeal.nD Cert.MomentsIdeal.τ Cert.MomentsIdeal.sig) → Buf (Elt Ideal) ℓ) : Prop :=
  ∀ c : Dev Cert.MomentsIdeal.nD,
    (Cert.Pre_bounded.fn (F := Ideal) (m ((c.tc : Thread Cert.MomentsIdeal.nD Cert.MomentsIdeal.τ).loc Cert.MomentsIdeal.main_arg0)) (m ((c.tc : Thread Cert.MomentsIdeal.nD Cert.MomentsIdeal.τ).loc Cert.MomentsIdeal.main_arg1)) (m ((c.tc : Thread Cert.MomentsIdeal.nD Cert.MomentsIdeal.τ).loc Cert.MomentsIdeal.main_arg2))) = (fun _ => 1#1)

def Pre_MomentsRefIdeal (m : (ℓ : Loc Cert.MomentsRefIdeal.nD Cert.MomentsRefIdeal.τ Cert.MomentsRefIdeal.sig) → Buf (Elt Ideal) ℓ) : Prop :=
  True

def Pre_MomentsRefIdeal_bounded [hPre_bounded : Cert.Pre_bounded.Facts] (m : (ℓ : Loc Cert.MomentsRefIdeal.nD Cert.MomentsRefIdeal.τ Cert.MomentsRefIdeal.sig) → Buf (Elt Ideal) ℓ) : Prop :=
  ∀ c : Dev Cert.MomentsRefIdeal.nD,
    (Cert.Pre_bounded.fn (F := Ideal) (m ((c.tc : Thread Cert.MomentsRefIdeal.nD Cert.MomentsRefIdeal.τ).loc Cert.MomentsRefIdeal.main_arg0)) (m ((c.tc : Thread Cert.MomentsRefIdeal.nD Cert.MomentsRefIdeal.τ).loc Cert.MomentsRefIdeal.main_arg1)) (m ((c.tc : Thread Cert.MomentsRefIdeal.nD Cert.MomentsRefIdeal.τ).loc Cert.MomentsRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1)
      ∧ r.2.mem ((c.tc : Thread Cert.Table.nD Cert.Table.τ).loc Cert.Table.main_arg2) = m ((c.tc : Thread Cert.Table.nD Cert.Table.τ).loc Cert.Table.main_arg2)
      ∧ r.2.mem ((c.tc : Thread Cert.Table.nD Cert.Table.τ).loc Cert.Table.main_arg3) = m ((c.tc : Thread Cert.Table.nD Cert.Table.τ).loc Cert.Table.main_arg3))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
      ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
      ∧ r.2.mem ((c.tc : Thread Cert.TableIdeal.nD Cert.TableIdeal.τ).loc Cert.TableIdeal.main_arg3) = m ((c.tc : Thread Cert.TableIdeal.nD Cert.TableIdeal.τ).loc Cert.TableIdeal.main_arg3))
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      r.2.mem ((c.tc : Thread Cert.TableRefIdeal.nD Cert.TableRefIdeal.τ).loc Cert.TableRefIdeal.main_arg0) = m ((c.tc : Thread Cert.TableRefIdeal.nD Cert.TableRefIdeal.τ).loc Cert.TableRefIdeal.main_arg0)
      ∧ r.2.mem ((c.tc : Thread Cert.TableRefIdeal.nD Cert.TableRefIdeal.τ).loc Cert.TableRefIdeal.main_arg1) = m ((c.tc : Thread Cert.TableRefIdeal.nD Cert.TableRefIdeal.τ).loc Cert.TableRefIdeal.main_arg1)
      ∧ r.2.mem ((c.tc : Thread Cert.TableRefIdeal.nD Cert.TableRefIdeal.τ).loc Cert.TableRefIdeal.main_arg2) = m ((c.tc : Thread Cert.TableRefIdeal.nD Cert.TableRefIdeal.τ).loc Cert.TableRefIdeal.main_arg2)
      ∧ r.2.mem ((c.tc : Thread Cert.TableRefIdeal.nD Cert.TableRefIdeal.τ).loc Cert.TableRefIdeal.main_arg3) = m ((c.tc : Thread Cert.TableRefIdeal.nD Cert.TableRefIdeal.τ).loc Cert.TableRefIdeal.main_arg3))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1)
      ∧ r.2.mem ((c.tc : Thread Cert.SecondRefIdeal.nD Cert.SecondRefIdeal.τ).loc Cert.SecondRefIdeal.main_arg2) = m ((c.tc : Thread Cert.SecondRefIdeal.nD Cert.SecondRefIdeal.τ).loc Cert.SecondRefIdeal.main_arg2)
      ∧ r.2.mem ((c.tc : Thread Cert.SecondRefIdeal.nD Cert.SecondRefIdeal.τ).loc Cert.SecondRefIdeal.main_arg3) = m ((c.tc : Thread Cert.SecondRefIdeal.nD Cert.SecondRefIdeal.τ).loc Cert.SecondRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Centres [hCentres : Cert.Centres.Facts] : Prop :=
  ∀ (m : (ℓ : Loc Cert.Centres.nD Cert.Centres.τ Cert.Centres.sig) → Buf (Elt Bits) ℓ) (g : Dev Cert.Centres.nD → PrngReg), Pre_Centres m →
    θ_run (Cert.Centres.defs (F := Bits)) (onTc (τ := Cert.Centres.τ) (Cert.Centres.main (F := Bits))) ⟨m, fun _ => 0, g⟩ (fun r => (∀ c : Dev Cert.Centres.nD,
      r.2.mem ((c.tc : Thread Cert.Centres.nD Cert.Centres.τ).loc Cert.Centres.main_arg0) = m ((c.tc : Thread Cert.Centres.nD Cert.Centres.τ).loc Cert.Centres.main_arg0))
      ∧ r.2.sem = fun _ => 0)

def quiescent_CentresIdeal [hCentresIdeal : Cert.CentresIdeal.Facts] : Prop :=
  ∀ (m : (ℓ : Loc Cert.CentresIdeal.nD Cert.CentresIdeal.τ Cert.CentresIdeal.sig) → Buf (Elt Ideal) ℓ) (g : Dev Cert.CentresIdeal.nD → PrngReg), Pre_CentresIdeal m →
    θ_run (Cert.CentresIdeal.defs (F := Ideal)) (onTc (τ := Cert.CentresIdeal.τ) (Cert.CentresIdeal.main (F := Ideal))) ⟨m, fun _ => 0, g⟩ (fun r => (∀ c : Dev Cert.CentresIdeal.nD,
      r.2.mem ((c.tc : Thread Cert.CentresIdeal.nD Cert.CentresIdeal.τ).loc Cert.CentresIdeal.main_arg0) = m ((c.tc : Thread Cert.CentresIdeal.nD Cert.CentresIdeal.τ).loc Cert.CentresIdeal.main_arg0))
      ∧ r.2.sem = fun _ => 0)

def quiescent_CentresRefIdeal [hCentresRefIdeal : Cert.CentresRefIdeal.Facts] : Prop :=
  ∀ (m : (ℓ : Loc Cert.CentresRefIdeal.nD Cert.CentresRefIdeal.τ Cert.CentresRefIdeal.sig) → Buf (Elt Ideal) ℓ) (g : Dev Cert.CentresRefIdeal.nD → PrngReg), Pre_CentresRefIdeal m →
    θ_run (Cert.CentresRefIdeal.defs (F := Ideal)) (onTc (τ := Cert.CentresRefIdeal.τ) (Cert.CentresRefIdeal.main (F := Ideal))) ⟨m, fun _ => 0, g⟩ (fun r => (∀ c : Dev Cert.CentresRefIdeal.nD,
      r.2.mem ((c.tc : Thread Cert.CentresRefIdeal.nD Cert.CentresRefIdeal.τ).loc Cert.CentresRefIdeal.main_arg0) = m ((c.tc : Thread Cert.CentresRefIdeal.nD Cert.CentresRefIdeal.τ).loc Cert.CentresRefIdeal.main_arg0))
      ∧ r.2.sem = fun _ => 0)

def quiescent_Outcome [hOutcome : Cert.Outcome.Facts] : Prop :=
  ∀ (m : (ℓ : Loc Cert.Outcome.nD Cert.Outcome.τ Cert.Outcome.sig) → Buf (Elt Bits) ℓ) (g : Dev Cert.Outcome.nD → PrngReg), Pre_Outcome m →
    θ_run (Cert.Outcome.defs (F := Bits)) (onTc (τ := Cert.Outcome.τ) (Cert.Outcome.main (F := Bits))) ⟨m, fun _ => 0, g⟩ (fun r => (∀ c : Dev Cert.Outcome.nD,
      r.2.mem ((c.tc : Thread Cert.Outcome.nD Cert.Outcome.τ).loc Cert.Outcome.main_arg0) = m ((c.tc : Thread Cert.Outcome.nD Cert.Outcome.τ).loc Cert.Outcome.main_arg0)
      ∧ r.2.mem ((c.tc : Thread Cert.Outcome.nD Cert.Outcome.τ).loc Cert.Outcome.main_arg1) = m ((c.tc : Thread Cert.Outcome.nD Cert.Outcome.τ).loc Cert.Outcome.main_arg1)
      ∧ r.2.mem ((c.tc : Thread Cert.Outcome.nD Cert.Outcome.τ).loc Cert.Outcome.main_arg2) = m ((c.tc : Thread Cert.Outcome.nD Cert.Outcome.τ).loc Cert.Outcome.main_arg2)
      ∧ r.2.mem ((c.tc : Thread Cert.Outcome.nD Cert.Outcome.τ).loc Cert.Outcome.main_arg3) = m ((c.tc : Thread Cert.Outcome.nD Cert.Outcome.τ).loc Cert.Outcome.main_arg3))
      ∧ r.2.sem = fun _ => 0)

def quiescent_OutcomeIdeal [hOutcomeIdeal : Cert.OutcomeIdeal.Facts] : Prop :=
  ∀ (m : (ℓ : Loc Cert.OutcomeIdeal.nD Cert.OutcomeIdeal.τ Cert.OutcomeIdeal.sig) → Buf (Elt Ideal) ℓ) (g : Dev Cert.OutcomeIdeal.nD → PrngReg), Pre_OutcomeIdeal m →
    θ_run (Cert.OutcomeIdeal.defs (F := Ideal)) (onTc (τ := Cert.OutcomeIdeal.τ) (Cert.OutcomeIdeal.main (F := Ideal))) ⟨m, fun _ => 0, g⟩ (fun r => (∀ c : Dev Cert.OutcomeIdeal.nD,
      r.2.mem ((c.tc : Thread Cert.OutcomeIdeal.nD Cert.OutcomeIdeal.τ).loc Cert.OutcomeIdeal.main_arg0) = m ((c.tc : Thread Cert.OutcomeIdeal.nD Cert.OutcomeIdeal.τ).loc Cert.OutcomeIdeal.main_arg0)
      ∧ r.2.mem ((c.tc : Thread Cert.OutcomeIdeal.nD Cert.OutcomeIdeal.τ).loc Cert.OutcomeIdeal.main_arg1) = m ((c.tc : Thread Cert.OutcomeIdeal.nD Cert.OutcomeIdeal.τ).loc Cert.OutcomeIdeal.main_arg1)
      ∧ r.2.mem ((c.tc : Thread Cert.OutcomeIdeal.nD Cert.OutcomeIdeal.τ).loc Cert.OutcomeIdeal.main_arg2) = m ((c.tc : Thread Cert.OutcomeIdeal.nD Cert.OutcomeIdeal.τ).loc Cert.OutcomeIdeal.main_arg2)
      ∧ r.2.mem ((c.tc : Thread Cert.OutcomeIdeal.nD Cert.OutcomeIdeal.τ).loc Cert.OutcomeIdeal.main_arg3) = m ((c.tc : Thread Cert.OutcomeIdeal.nD Cert.OutcomeIdeal.τ).loc Cert.OutcomeIdeal.main_arg3))
      ∧ r.2.sem = fun _ => 0)

def quiescent_OutcomeIdeal_pre_finite [hOutcomeIdeal : Cert.OutcomeIdeal.Facts] [hPre_finite : Cert.Pre_finite.Facts] : Prop :=
  ∀ (m : (ℓ : Loc Cert.OutcomeIdeal.nD Cert.OutcomeIdeal.τ Cert.OutcomeIdeal.sig) → Buf (Elt Ideal) ℓ) (g : Dev Cert.OutcomeIdeal.nD → PrngReg), Pre_OutcomeIdeal_finite m →
    θ_run (Cert.OutcomeIdeal.defs (F := Ideal)) (onTc (τ := Cert.OutcomeIdeal.τ) (Cert.OutcomeIdeal.main (F := Ideal))) ⟨m, fun _ => 0, g⟩ (fun r => (∀ c : Dev Cert.OutcomeIdeal.nD,
      r.2.mem ((c.tc : Thread Cert.OutcomeIdeal.nD Cert.OutcomeIdeal.τ).loc Cert.OutcomeIdeal.main_arg0) = m ((c.tc : Thread Cert.OutcomeIdeal.nD Cert.OutcomeIdeal.τ).loc Cert.OutcomeIdeal.main_arg0)
      ∧ r.2.mem ((c.tc : Thread Cert.OutcomeIdeal.nD Cert.OutcomeIdeal.τ).loc Cert.OutcomeIdeal.main_arg1) = m ((c.tc : Thread Cert.OutcomeIdeal.nD Cert.OutcomeIdeal.τ).loc Cert.OutcomeIdeal.main_arg1)
      ∧ r.2.mem ((c.tc : Thread Cert.OutcomeIdeal.nD Cert.OutcomeIdeal.τ).loc Cert.OutcomeIdeal.main_arg2) = m ((c.tc : Thread Cert.OutcomeIdeal.nD Cert.OutcomeIdeal.τ).loc Cert.OutcomeIdeal.main_arg2)
      ∧ r.2.mem ((c.tc : Thread Cert.OutcomeIdeal.nD Cert.OutcomeIdeal.τ).loc Cert.OutcomeIdeal.main_arg3) = m ((c.tc : Thread Cert.OutcomeIdeal.nD Cert.OutcomeIdeal.τ).loc Cert.OutcomeIdeal.main_arg3))
      ∧ r.2.sem = fun _ => 0)

def quiescent_OutcomeRefIdeal [hOutcomeRefIdeal : Cert.OutcomeRefIdeal.Facts] : Prop :=
  ∀ (m : (ℓ : Loc Cert.OutcomeRefIdeal.nD Cert.OutcomeRefIdeal.τ Cert.OutcomeRefIdeal.sig) → Buf (Elt Ideal) ℓ) (g : Dev Cert.OutcomeRefIdeal.nD → PrngReg), Pre_OutcomeRefIdeal m →
    θ_run (Cert.OutcomeRefIdeal.defs (F := Ideal)) (onTc (τ := Cert.OutcomeRefIdeal.τ) (Cert.OutcomeRefIdeal.main (F := Ideal))) ⟨m, fun _ => 0, g⟩ (fun r => (∀ c : Dev Cert.OutcomeRefIdeal.nD,
      r.2.mem ((c.tc : Thread Cert.OutcomeRefIdeal.nD Cert.OutcomeRefIdeal.τ).loc Cert.OutcomeRefIdeal.main_arg0) = m ((c.tc : Thread Cert.OutcomeRefIdeal.nD Cert.OutcomeRefIdeal.τ).loc Cert.OutcomeRefIdeal.main_arg0)
      ∧ r.2.mem ((c.tc : Thread Cert.OutcomeRefIdeal.nD Cert.OutcomeRefIdeal.τ).loc Cert.OutcomeRefIdeal.main_arg1) = m ((c.tc : Thread Cert.OutcomeRefIdeal.nD Cert.OutcomeRefIdeal.τ).loc Cert.OutcomeRefIdeal.main_arg1)
      ∧ r.2.mem ((c.tc : Thread Cert.OutcomeRefIdeal.nD Cert.OutcomeRefIdeal.τ).loc Cert.OutcomeRefIdeal.main_arg2) = m ((c.tc : Thread Cert.OutcomeRefIdeal.nD Cert.OutcomeRefIdeal.τ).loc Cert.OutcomeRefIdeal.main_arg2)
      ∧ r.2.mem ((c.tc : Thread Cert.OutcomeRefIdeal.nD Cert.OutcomeRefIdeal.τ).loc Cert.OutcomeRefIdeal.main_arg3) = m ((c.tc : Thread Cert.OutcomeRefIdeal.nD Cert.OutcomeRefIdeal.τ).loc Cert.OutcomeRefIdeal.main_arg3))
      ∧ r.2.sem = fun _ => 0)

def quiescent_OutcomeRefIdeal_pre_finite [hOutcomeRefIdeal : Cert.OutcomeRefIdeal.Facts] [hPre_finite : Cert.Pre_finite.Facts] : Prop :=
  ∀ (m : (ℓ : Loc Cert.OutcomeRefIdeal.nD Cert.OutcomeRefIdeal.τ Cert.OutcomeRefIdeal.sig) → Buf (Elt Ideal) ℓ) (g : Dev Cert.OutcomeRefIdeal.nD → PrngReg), Pre_OutcomeRefIdeal_finite m →
    θ_run (Cert.OutcomeRefIdeal.defs (F := Ideal)) (onTc (τ := Cert.OutcomeRefIdeal.τ) (Cert.OutcomeRefIdeal.main (F := Ideal))) ⟨m, fun _ => 0, g⟩ (fun r => (∀ c : Dev Cert.OutcomeRefIdeal.nD,
      r.2.mem ((c.tc : Thread Cert.OutcomeRefIdeal.nD Cert.OutcomeRefIdeal.τ).loc Cert.OutcomeRefIdeal.main_arg0) = m ((c.tc : Thread Cert.OutcomeRefIdeal.nD Cert.OutcomeRefIdeal.τ).loc Cert.OutcomeRefIdeal.main_arg0)
      ∧ r.2.mem ((c.tc : Thread Cert.OutcomeRefIdeal.nD Cert.OutcomeRefIdeal.τ).loc Cert.OutcomeRefIdeal.main_arg1) = m ((c.tc : Thread Cert.OutcomeRefIdeal.nD Cert.OutcomeRefIdeal.τ).loc Cert.OutcomeRefIdeal.main_arg1)
      ∧ r.2.mem ((c.tc : Thread Cert.OutcomeRefIdeal.nD Cert.OutcomeRefIdeal.τ).loc Cert.OutcomeRefIdeal.main_arg2) = m ((c.tc : Thread Cert.OutcomeRefIdeal.nD Cert.OutcomeRefIdeal.τ).loc Cert.OutcomeRefIdeal.main_arg2)
      ∧ r.2.mem ((c.tc : Thread Cert.OutcomeRefIdeal.nD Cert.OutcomeRefIdeal.τ).loc Cert.OutcomeRefIdeal.main_arg3) = m ((c.tc : Thread Cert.OutcomeRefIdeal.nD Cert.OutcomeRefIdeal.τ).loc Cert.OutcomeRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadIdeal_pre_inside [hHeadIdeal : Cert.HeadIdeal.Facts] [hPre_inside : Cert.Pre_inside.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_inside m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_HeadRefIdeal_pre_inside [hHeadRefIdeal : Cert.HeadRefIdeal.Facts] [hPre_inside : Cert.Pre_inside.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_inside m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_Moments [hMoments : Cert.Moments.Facts] : Prop :=
  ∀ (m : (ℓ : Loc Cert.Moments.nD Cert.Moments.τ Cert.Moments.sig) → Buf (Elt Bits) ℓ) (g : Dev Cert.Moments.nD → PrngReg), Pre_Moments m →
    θ_run (Cert.Moments.defs (F := Bits)) (onTc (τ := Cert.Moments.τ) (Cert.Moments.main (F := Bits))) ⟨m, fun _ => 0, g⟩ (fun r => (∀ c : Dev Cert.Moments.nD,
      r.2.mem ((c.tc : Thread Cert.Moments.nD Cert.Moments.τ).loc Cert.Moments.main_arg0) = m ((c.tc : Thread Cert.Moments.nD Cert.Moments.τ).loc Cert.Moments.main_arg0)
      ∧ r.2.mem ((c.tc : Thread Cert.Moments.nD Cert.Moments.τ).loc Cert.Moments.main_arg1) = m ((c.tc : Thread Cert.Moments.nD Cert.Moments.τ).loc Cert.Moments.main_arg1)
      ∧ r.2.mem ((c.tc : Thread Cert.Moments.nD Cert.Moments.τ).loc Cert.Moments.main_arg2) = m ((c.tc : Thread Cert.Moments.nD Cert.Moments.τ).loc Cert.Moments.main_arg2))
      ∧ r.2.sem = fun _ => 0)

def quiescent_MomentsIdeal [hMomentsIdeal : Cert.MomentsIdeal.Facts] : Prop :=
  ∀ (m : (ℓ : Loc Cert.MomentsIdeal.nD Cert.MomentsIdeal.τ Cert.MomentsIdeal.sig) → Buf (Elt Ideal) ℓ) (g : Dev Cert.MomentsIdeal.nD → PrngReg), Pre_MomentsIdeal m →
    θ_run (Cert.MomentsIdeal.defs (F := Ideal)) (onTc (τ := Cert.MomentsIdeal.τ) (Cert.MomentsIdeal.main (F := Ideal))) ⟨m, fun _ => 0, g⟩ (fun r => (∀ c : Dev Cert.MomentsIdeal.nD,
      r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
      ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
      ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2))
      ∧ r.2.sem = fun _ => 0)

def quiescent_MomentsIdeal_pre_bounded [hMomentsIdeal : Cert.MomentsIdeal.Facts] [hPre_bounded : Cert.Pre_bounded.Facts] : Prop :=
  ∀ (m : (ℓ : Loc Cert.MomentsIdeal.nD Cert.MomentsIdeal.τ Cert.MomentsIdeal.sig) → Buf (Elt Ideal) ℓ) (g : Dev Cert.MomentsIdeal.nD → PrngReg), Pre_MomentsIdeal_bounded m →
    θ_run (Cert.MomentsIdeal.defs (F := Ideal)) (onTc (τ := Cert.MomentsIdeal.τ) (Cert.MomentsIdeal.main (F := Ideal))) ⟨m, fun _ => 0, g⟩ (fun r => (∀ c : Dev Cert.MomentsIdeal.nD,
      r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
      ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
      ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2))
      ∧ r.2.sem = fun _ => 0)

def quiescent_MomentsRefIdeal [hMomentsRefIdeal : Cert.MomentsRefIdeal.Facts] : Prop :=
  ∀ (m : (ℓ : Loc Cert.MomentsRefIdeal.nD Cert.MomentsRefIdeal.τ Cert.MomentsRefIdeal.sig) → Buf (Elt Ideal) ℓ) (g : Dev Cert.MomentsRefIdeal.nD → PrngReg), Pre_MomentsRefIdeal m →
    θ_run (Cert.MomentsRefIdeal.defs (F := Ideal)) (onTc (τ := Cert.MomentsRefIdeal.τ) (Cert.MomentsRefIdeal.main (F := Ideal))) ⟨m, fun _ => 0, g⟩ (fun r => (∀ c : Dev Cert.MomentsRefIdeal.nD,
      r.2.mem ((c.tc : Thread Cert.MomentsRefIdeal.nD Cert.MomentsRefIdeal.τ).loc Cert.MomentsRefIdeal.main_arg0) = m ((c.tc : Thread Cert.MomentsRefIdeal.nD Cert.MomentsRefIdeal.τ).loc Cert.MomentsRefIdeal.main_arg0)
      ∧ r.2.mem ((c.tc : Thread Cert.MomentsRefIdeal.nD Cert.MomentsRefIdeal.τ).loc Cert.MomentsRefIdeal.main_arg1) = m ((c.tc : Thread Cert.MomentsRefIdeal.nD Cert.MomentsRefIdeal.τ).loc Cert.MomentsRefIdeal.main_arg1)
      ∧ r.2.mem ((c.tc : Thread Cert.MomentsRefIdeal.nD Cert.MomentsRefIdeal.τ).loc Cert.MomentsRefIdeal.main_arg2) = m ((c.tc : Thread Cert.MomentsRefIdeal.nD Cert.MomentsRefIdeal.τ).loc Cert.MomentsRefIdeal.main_arg2))
      ∧ r.2.sem = fun _ => 0)

def quiescent_MomentsRefIdeal_pre_bounded [hMomentsRefIdeal : Cert.MomentsRefIdeal.Facts] [hPre_bounded : Cert.Pre_bounded.Facts] : Prop :=
  ∀ (m : (ℓ : Loc Cert.MomentsRefIdeal.nD Cert.MomentsRefIdeal.τ Cert.MomentsRefIdeal.sig) → Buf (Elt Ideal) ℓ) (g : Dev Cert.MomentsRefIdeal.nD → PrngReg), Pre_MomentsRefIdeal_bounded m →
    θ_run (Cert.MomentsRefIdeal.defs (F := Ideal)) (onTc (τ := Cert.MomentsRefIdeal.τ) (Cert.MomentsRefIdeal.main (F := Ideal))) ⟨m, fun _ => 0, g⟩ (fun r => (∀ c : Dev Cert.MomentsRefIdeal.nD,
      r.2.mem ((c.tc : Thread Cert.MomentsRefIdeal.nD Cert.MomentsRefIdeal.τ).loc Cert.MomentsRefIdeal.main_arg0) = m ((c.tc : Thread Cert.MomentsRefIdeal.nD Cert.MomentsRefIdeal.τ).loc Cert.MomentsRefIdeal.main_arg0)
      ∧ r.2.mem ((c.tc : Thread Cert.MomentsRefIdeal.nD Cert.MomentsRefIdeal.τ).loc Cert.MomentsRefIdeal.main_arg1) = m ((c.tc : Thread Cert.MomentsRefIdeal.nD Cert.MomentsRefIdeal.τ).loc Cert.MomentsRefIdeal.main_arg1)
      ∧ r.2.mem ((c.tc : Thread Cert.MomentsRefIdeal.nD Cert.MomentsRefIdeal.τ).loc Cert.MomentsRefIdeal.main_arg2) = m ((c.tc : Thread Cert.MomentsRefIdeal.nD Cert.MomentsRefIdeal.τ).loc Cert.MomentsRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Table_TableIdeal : Prop :=
  True

def algebraic_TableIdeal_TableRefIdeal [hTableIdeal : Cert.TableIdeal.Facts] [hTableRefIdeal : Cert.TableRefIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableRefIdeal.nD Cert.TableRefIdeal.τ Cert.TableRefIdeal.sig) → Buf (Elt Ideal) ℓ) (g' : Dev Cert.TableRefIdeal.nD → PrngReg), Pre_TableIdeal m →
    (∀ c : Dev Cert.TableIdeal.nD,
      m' ((c.tc : Thread Cert.TableRefIdeal.nD Cert.TableRefIdeal.τ).loc Cert.TableRefIdeal.main_arg0) = m ((c.tc : Thread Cert.TableIdeal.nD Cert.TableIdeal.τ).loc Cert.TableIdeal.main_arg0)
      ∧ m' ((c.tc : Thread Cert.TableRefIdeal.nD Cert.TableRefIdeal.τ).loc Cert.TableRefIdeal.main_arg1) = m ((c.tc : Thread Cert.TableIdeal.nD Cert.TableIdeal.τ).loc Cert.TableIdeal.main_arg1)
      ∧ m' ((c.tc : Thread Cert.TableRefIdeal.nD Cert.TableRefIdeal.τ).loc Cert.TableRefIdeal.main_arg2) = m ((c.tc : Thread Cert.TableIdeal.nD Cert.TableIdeal.τ).loc Cert.TableIdeal.main_arg2)
      ∧ m' ((c.tc : Thread Cert.TableRefIdeal.nD Cert.TableRefIdeal.τ).loc Cert.TableRefIdeal.main_arg3) = m ((c.tc : Thread Cert.TableIdeal.nD Cert.TableIdeal.τ).loc Cert.TableIdeal.main_arg3)) →
    ∃ (v0 : (c : Dev Cert.TableIdeal.nD) → Buf (Elt Ideal) ((c.tc : Thread Cert.TableIdeal.nD Cert.TableIdeal.τ).loc Cert.TableIdeal.main_v9)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v9) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
          ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
          ∧ r.2.mem ((c.tc : Thread Cert.TableIdeal.nD Cert.TableIdeal.τ).loc Cert.TableIdeal.main_arg3) = m ((c.tc : Thread Cert.TableIdeal.nD Cert.TableIdeal.τ).loc Cert.TableIdeal.main_arg3))
      ∧ θ_run (Cert.TableRefIdeal.defs (F := Ideal)) (onTc (τ := Cert.TableRefIdeal.τ) (Cert.TableRefIdeal.main (F := Ideal))) ⟨m', fun _ => 0, g'⟩ (fun r => ∀ c : Dev Cert.TableRefIdeal.nD,
          r.2.mem ((c.tc : Thread Cert.TableRefIdeal.nD Cert.TableRefIdeal.τ).loc Cert.TableRefIdeal.main_v8) = v0 c
          ∧ r.2.mem ((c.tc : Thread Cert.TableRefIdeal.nD Cert.TableRefIdeal.τ).loc Cert.TableRefIdeal.main_arg0) = m' ((c.tc : Thread Cert.TableRefIdeal.nD Cert.TableRefIdeal.τ).loc Cert.TableRefIdeal.main_arg0)
          ∧ r.2.mem ((c.tc : Thread Cert.TableRefIdeal.nD Cert.TableRefIdeal.τ).loc Cert.TableRefIdeal.main_arg1) = m' ((c.tc : Thread Cert.TableRefIdeal.nD Cert.TableRefIdeal.τ).loc Cert.TableRefIdeal.main_arg1)
          ∧ r.2.mem ((c.tc : Thread Cert.TableRefIdeal.nD Cert.TableRefIdeal.τ).loc Cert.TableRefIdeal.main_arg2) = m' ((c.tc : Thread Cert.TableRefIdeal.nD Cert.TableRefIdeal.τ).loc Cert.TableRefIdeal.main_arg2)
          ∧ r.2.mem ((c.tc : Thread Cert.TableRefIdeal.nD Cert.TableRefIdeal.τ).loc Cert.TableRefIdeal.main_arg3) = m' ((c.tc : Thread Cert.TableRefIdeal.nD Cert.TableRefIdeal.τ).loc Cert.TableRefIdeal.main_arg3))

def preserves_Stats_StatsIdeal : Prop :=
  True

def algebraic_StatsIdeal_StatsRefIdeal [hStatsIdeal : Cert.StatsIdeal.Facts] [hStatsRefIdeal : Cert.StatsRefIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)) →
    ∃ (v0 : (c : Dev Cert.StatsIdeal.nD) → Buf (Elt Ideal) ((c.tc : Thread Cert.StatsIdeal.nD Cert.StatsIdeal.τ).loc Cert.StatsIdeal.main_v0)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0) = v0 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v6) = v0 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0))

def preserves_Second_SecondIdeal : Prop :=
  True

def algebraic_SecondIdeal_SecondRefIdeal [hSecondIdeal : Cert.SecondIdeal.Facts] [hSecondRefIdeal : Cert.SecondRefIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)
      ∧ m' ((c.tc : Thread Cert.SecondRefIdeal.nD Cert.SecondRefIdeal.τ).loc Cert.SecondRefIdeal.main_arg2) = m ((c.tc : Thread Cert.SecondIdeal.nD Cert.SecondIdeal.τ).loc Cert.SecondIdeal.main_arg2)
      ∧ m' ((c.tc : Thread Cert.SecondRefIdeal.nD Cert.SecondRefIdeal.τ).loc Cert.SecondRefIdeal.main_arg3) = m ((c.tc : Thread Cert.SecondIdeal.nD Cert.SecondIdeal.τ).loc Cert.SecondIdeal.main_arg3)) →
    ∃ (v0 : (c : Dev Cert.SecondIdeal.nD) → Buf (Elt Ideal) ((c.tc : Thread Cert.SecondIdeal.nD Cert.SecondIdeal.τ).loc Cert.SecondIdeal.main_v3_0)) (v1 : (c : Dev Cert.SecondIdeal.nD) → Buf (Elt Ideal) ((c.tc : Thread Cert.SecondIdeal.nD Cert.SecondIdeal.τ).loc Cert.SecondIdeal.main_v3_1)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3_0) = v0 c
          ∧ r.2.mem ((c.tc : Thread Cert.SecondIdeal.nD Cert.SecondIdeal.τ).loc Cert.SecondIdeal.main_v3_1) = v1 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v9) = v0 c
          ∧ r.2.mem ((c.tc : Thread Cert.SecondRefIdeal.nD Cert.SecondRefIdeal.τ).loc Cert.SecondRefIdeal.main_v16) = v1 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1)
          ∧ r.2.mem ((c.tc : Thread Cert.SecondRefIdeal.nD Cert.SecondRefIdeal.τ).loc Cert.SecondRefIdeal.main_arg2) = m' ((c.tc : Thread Cert.SecondRefIdeal.nD Cert.SecondRefIdeal.τ).loc Cert.SecondRefIdeal.main_arg2)
          ∧ r.2.mem ((c.tc : Thread Cert.SecondRefIdeal.nD Cert.SecondRefIdeal.τ).loc Cert.SecondRefIdeal.main_arg3) = m' ((c.tc : Thread Cert.SecondRefIdeal.nD Cert.SecondRefIdeal.τ).loc Cert.SecondRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v7) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Centres_CentresIdeal : Prop :=
  True

def algebraic_CentresIdeal_CentresRefIdeal [hCentresIdeal : Cert.CentresIdeal.Facts] [hCentresRefIdeal : Cert.CentresRefIdeal.Facts] : Prop :=
  ∀ (m : (ℓ : Loc Cert.CentresIdeal.nD Cert.CentresIdeal.τ Cert.CentresIdeal.sig) → Buf (Elt Ideal) ℓ) (g : Dev Cert.CentresIdeal.nD → PrngReg)
    (m' : (ℓ : Loc Cert.CentresRefIdeal.nD Cert.CentresRefIdeal.τ Cert.CentresRefIdeal.sig) → Buf (Elt Ideal) ℓ) (g' : Dev Cert.CentresRefIdeal.nD → PrngReg), Pre_CentresIdeal m →
    (∀ c : Dev Cert.CentresIdeal.nD,
      m' ((c.tc : Thread Cert.CentresRefIdeal.nD Cert.CentresRefIdeal.τ).loc Cert.CentresRefIdeal.main_arg0) = m ((c.tc : Thread Cert.CentresIdeal.nD Cert.CentresIdeal.τ).loc Cert.CentresIdeal.main_arg0)) →
    ∃ (v0 : (c : Dev Cert.CentresIdeal.nD) → Buf (Elt Ideal) ((c.tc : Thread Cert.CentresIdeal.nD Cert.CentresIdeal.τ).loc Cert.CentresIdeal.main_v8)),
      θ_run (Cert.CentresIdeal.defs (F := Ideal)) (onTc (τ := Cert.CentresIdeal.τ) (Cert.CentresIdeal.main (F := Ideal))) ⟨m, fun _ => 0, g⟩ (fun r => ∀ c : Dev Cert.CentresIdeal.nD,
          r.2.mem ((c.tc : Thread Cert.CentresIdeal.nD Cert.CentresIdeal.τ).loc Cert.CentresIdeal.main_v8) = v0 c
          ∧ r.2.mem ((c.tc : Thread Cert.CentresIdeal.nD Cert.CentresIdeal.τ).loc Cert.CentresIdeal.main_arg0) = m ((c.tc : Thread Cert.CentresIdeal.nD Cert.CentresIdeal.τ).loc Cert.CentresIdeal.main_arg0))
      ∧ θ_run (Cert.CentresRefIdeal.defs (F := Ideal)) (onTc (τ := Cert.CentresRefIdeal.τ) (Cert.CentresRefIdeal.main (F := Ideal))) ⟨m', fun _ => 0, g'⟩ (fun r => ∀ c : Dev Cert.CentresRefIdeal.nD,
          r.2.mem ((c.tc : Thread Cert.CentresRefIdeal.nD Cert.CentresRefIdeal.τ).loc Cert.CentresRefIdeal.main_v23) = v0 c
          ∧ r.2.mem ((c.tc : Thread Cert.CentresRefIdeal.nD Cert.CentresRefIdeal.τ).loc Cert.CentresRefIdeal.main_arg0) = m' ((c.tc : Thread Cert.CentresRefIdeal.nD Cert.CentresRefIdeal.τ).loc Cert.CentresRefIdeal.main_arg0))

def preserves_Outcome_OutcomeIdeal : Prop :=
  True

def algebraic_OutcomeIdeal_OutcomeRefIdeal_pre_finite [hOutcomeIdeal : Cert.OutcomeIdeal.Facts] [hOutcomeRefIdeal : Cert.OutcomeRefIdeal.Facts] [hPre_finite : Cert.Pre_finite.Facts] : Prop :=
  ∀ (m : (ℓ : Loc Cert.OutcomeIdeal.nD Cert.OutcomeIdeal.τ Cert.OutcomeIdeal.sig) → Buf (Elt Ideal) ℓ) (g : Dev Cert.OutcomeIdeal.nD → PrngReg)
    (m' : (ℓ : Loc Cert.OutcomeRefIdeal.nD Cert.OutcomeRefIdeal.τ Cert.OutcomeRefIdeal.sig) → Buf (Elt Ideal) ℓ) (g' : Dev Cert.OutcomeRefIdeal.nD → PrngReg), Pre_OutcomeIdeal_finite m →
    (∀ c : Dev Cert.OutcomeIdeal.nD,
      m' ((c.tc : Thread Cert.OutcomeRefIdeal.nD Cert.OutcomeRefIdeal.τ).loc Cert.OutcomeRefIdeal.main_arg0) = m ((c.tc : Thread Cert.OutcomeIdeal.nD Cert.OutcomeIdeal.τ).loc Cert.OutcomeIdeal.main_arg0)
      ∧ m' ((c.tc : Thread Cert.OutcomeRefIdeal.nD Cert.OutcomeRefIdeal.τ).loc Cert.OutcomeRefIdeal.main_arg1) = m ((c.tc : Thread Cert.OutcomeIdeal.nD Cert.OutcomeIdeal.τ).loc Cert.OutcomeIdeal.main_arg1)
      ∧ m' ((c.tc : Thread Cert.OutcomeRefIdeal.nD Cert.OutcomeRefIdeal.τ).loc Cert.OutcomeRefIdeal.main_arg2) = m ((c.tc : Thread Cert.OutcomeIdeal.nD Cert.OutcomeIdeal.τ).loc Cert.OutcomeIdeal.main_arg2)
      ∧ m' ((c.tc : Thread Cert.OutcomeRefIdeal.nD Cert.OutcomeRefIdeal.τ).loc Cert.OutcomeRefIdeal.main_arg3) = m ((c.tc : Thread Cert.OutcomeIdeal.nD Cert.OutcomeIdeal.τ).loc Cert.OutcomeIdeal.main_arg3)) →
    ∃ (v0 : (c : Dev Cert.OutcomeIdeal.nD) → Buf (Elt Ideal) ((c.tc : Thread Cert.OutcomeIdeal.nD Cert.OutcomeIdeal.τ).loc Cert.OutcomeIdeal.main_v22)),
      θ_run (Cert.OutcomeIdeal.defs (F := Ideal)) (onTc (τ := Cert.OutcomeIdeal.τ) (Cert.OutcomeIdeal.main (F := Ideal))) ⟨m, fun _ => 0, g⟩ (fun r => ∀ c : Dev Cert.OutcomeIdeal.nD,
          r.2.mem ((c.tc : Thread Cert.OutcomeIdeal.nD Cert.OutcomeIdeal.τ).loc Cert.OutcomeIdeal.main_v22) = v0 c
          ∧ r.2.mem ((c.tc : Thread Cert.OutcomeIdeal.nD Cert.OutcomeIdeal.τ).loc Cert.OutcomeIdeal.main_arg0) = m ((c.tc : Thread Cert.OutcomeIdeal.nD Cert.OutcomeIdeal.τ).loc Cert.OutcomeIdeal.main_arg0)
          ∧ r.2.mem ((c.tc : Thread Cert.OutcomeIdeal.nD Cert.OutcomeIdeal.τ).loc Cert.OutcomeIdeal.main_arg1) = m ((c.tc : Thread Cert.OutcomeIdeal.nD Cert.OutcomeIdeal.τ).loc Cert.OutcomeIdeal.main_arg1)
          ∧ r.2.mem ((c.tc : Thread Cert.OutcomeIdeal.nD Cert.OutcomeIdeal.τ).loc Cert.OutcomeIdeal.main_arg2) = m ((c.tc : Thread Cert.OutcomeIdeal.nD Cert.OutcomeIdeal.τ).loc Cert.OutcomeIdeal.main_arg2)
          ∧ r.2.mem ((c.tc : Thread Cert.OutcomeIdeal.nD Cert.OutcomeIdeal.τ).loc Cert.OutcomeIdeal.main_arg3) = m ((c.tc : Thread Cert.OutcomeIdeal.nD Cert.OutcomeIdeal.τ).loc Cert.OutcomeIdeal.main_arg3))
      ∧ θ_run (Cert.OutcomeRefIdeal.defs (F := Ideal)) (onTc (τ := Cert.OutcomeRefIdeal.τ) (Cert.OutcomeRefIdeal.main (F := Ideal))) ⟨m', fun _ => 0, g'⟩ (fun r => ∀ c : Dev Cert.OutcomeRefIdeal.nD,
          r.2.mem ((c.tc : Thread Cert.OutcomeRefIdeal.nD Cert.OutcomeRefIdeal.τ).loc Cert.OutcomeRefIdeal.main_v30) = v0 c
          ∧ r.2.mem ((c.tc : Thread Cert.OutcomeRefIdeal.nD Cert.OutcomeRefIdeal.τ).loc Cert.OutcomeRefIdeal.main_arg0) = m' ((c.tc : Thread Cert.OutcomeRefIdeal.nD Cert.OutcomeRefIdeal.τ).loc Cert.OutcomeRefIdeal.main_arg0)
          ∧ r.2.mem ((c.tc : Thread Cert.OutcomeRefIdeal.nD Cert.OutcomeRefIdeal.τ).loc Cert.OutcomeRefIdeal.main_arg1) = m' ((c.tc : Thread Cert.OutcomeRefIdeal.nD Cert.OutcomeRefIdeal.τ).loc Cert.OutcomeRefIdeal.main_arg1)
          ∧ r.2.mem ((c.tc : Thread Cert.OutcomeRefIdeal.nD Cert.OutcomeRefIdeal.τ).loc Cert.OutcomeRefIdeal.main_arg2) = m' ((c.tc : Thread Cert.OutcomeRefIdeal.nD Cert.OutcomeRefIdeal.τ).loc Cert.OutcomeRefIdeal.main_arg2)
          ∧ r.2.mem ((c.tc : Thread Cert.OutcomeRefIdeal.nD Cert.OutcomeRefIdeal.τ).loc Cert.OutcomeRefIdeal.main_arg3) = m' ((c.tc : Thread Cert.OutcomeRefIdeal.nD Cert.OutcomeRefIdeal.τ).loc Cert.OutcomeRefIdeal.main_arg3))

def preserves_Head_HeadIdeal : Prop :=
  True

def algebraic_HeadIdeal_HeadRefIdeal_pre_inside [hHeadIdeal : Cert.HeadIdeal.Facts] [hHeadRefIdeal : Cert.HeadRefIdeal.Facts] [hPre_inside : Cert.Pre_inside.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_inside m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v30)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v30) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v47) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_Moments_MomentsIdeal : Prop :=
  True

def algebraic_MomentsIdeal_MomentsRefIdeal_pre_bounded [hMomentsIdeal : Cert.MomentsIdeal.Facts] [hMomentsRefIdeal : Cert.MomentsRefIdeal.Facts] [hPre_bounded : Cert.Pre_bounded.Facts] : Prop :=
  ∀ (m : (ℓ : Loc Cert.MomentsIdeal.nD Cert.MomentsIdeal.τ Cert.MomentsIdeal.sig) → Buf (Elt Ideal) ℓ) (g : Dev Cert.MomentsIdeal.nD → PrngReg)
    (m' : (ℓ : Loc Cert.MomentsRefIdeal.nD Cert.MomentsRefIdeal.τ Cert.MomentsRefIdeal.sig) → Buf (Elt Ideal) ℓ) (g' : Dev Cert.MomentsRefIdeal.nD → PrngReg), Pre_MomentsIdeal_bounded m →
    (∀ c : Dev Cert.MomentsIdeal.nD,
      m' ((c.tc : Thread Cert.MomentsRefIdeal.nD Cert.MomentsRefIdeal.τ).loc Cert.MomentsRefIdeal.main_arg0) = m ((c.tc : Thread Cert.MomentsIdeal.nD Cert.MomentsIdeal.τ).loc Cert.MomentsIdeal.main_arg0)
      ∧ m' ((c.tc : Thread Cert.MomentsRefIdeal.nD Cert.MomentsRefIdeal.τ).loc Cert.MomentsRefIdeal.main_arg1) = m ((c.tc : Thread Cert.MomentsIdeal.nD Cert.MomentsIdeal.τ).loc Cert.MomentsIdeal.main_arg1)
      ∧ m' ((c.tc : Thread Cert.MomentsRefIdeal.nD Cert.MomentsRefIdeal.τ).loc Cert.MomentsRefIdeal.main_arg2) = m ((c.tc : Thread Cert.MomentsIdeal.nD Cert.MomentsIdeal.τ).loc Cert.MomentsIdeal.main_arg2)) →
    ∃ (v0 : (c : Dev Cert.MomentsIdeal.nD) → Buf (Elt Ideal) ((c.tc : Thread Cert.MomentsIdeal.nD Cert.MomentsIdeal.τ).loc Cert.MomentsIdeal.main_v16)) (v1 : (c : Dev Cert.MomentsIdeal.nD) → Buf (Elt Ideal) ((c.tc : Thread Cert.MomentsIdeal.nD Cert.MomentsIdeal.τ).loc Cert.MomentsIdeal.main_v18)),
      θ_run (Cert.MomentsIdeal.defs (F := Ideal)) (onTc (τ := Cert.MomentsIdeal.τ) (Cert.MomentsIdeal.main (F := Ideal))) ⟨m, fun _ => 0, g⟩ (fun r => ∀ c : Dev Cert.MomentsIdeal.nD,
          r.2.mem ((c.tc : Thread Cert.MomentsIdeal.nD Cert.MomentsIdeal.τ).loc Cert.MomentsIdeal.main_v16) = v0 c
          ∧ r.2.mem ((c.tc : Thread Cert.MomentsIdeal.nD Cert.MomentsIdeal.τ).loc Cert.MomentsIdeal.main_v18) = v1 c
          ∧ r.2.mem ((c.tc : Thread Cert.MomentsIdeal.nD Cert.MomentsIdeal.τ).loc Cert.MomentsIdeal.main_arg0) = m ((c.tc : Thread Cert.MomentsIdeal.nD Cert.MomentsIdeal.τ).loc Cert.MomentsIdeal.main_arg0)
          ∧ r.2.mem ((c.tc : Thread Cert.MomentsIdeal.nD Cert.MomentsIdeal.τ).loc Cert.MomentsIdeal.main_arg1) = m ((c.tc : Thread Cert.MomentsIdeal.nD Cert.MomentsIdeal.τ).loc Cert.MomentsIdeal.main_arg1)
          ∧ r.2.mem ((c.tc : Thread Cert.MomentsIdeal.nD Cert.MomentsIdeal.τ).loc Cert.MomentsIdeal.main_arg2) = m ((c.tc : Thread Cert.MomentsIdeal.nD Cert.MomentsIdeal.τ).loc Cert.MomentsIdeal.main_arg2))
      ∧ θ_run (Cert.MomentsRefIdeal.defs (F := Ideal)) (onTc (τ := Cert.MomentsRefIdeal.τ) (Cert.MomentsRefIdeal.main (F := Ideal))) ⟨m', fun _ => 0, g'⟩ (fun r => ∀ c : Dev Cert.MomentsRefIdeal.nD,
          r.2.mem ((c.tc : Thread Cert.MomentsRefIdeal.nD Cert.MomentsRefIdeal.τ).loc Cert.MomentsRefIdeal.main_v4) = v0 c
          ∧ r.2.mem ((c.tc : Thread Cert.MomentsRefIdeal.nD Cert.MomentsRefIdeal.τ).loc Cert.MomentsRefIdeal.main_v9) = v1 c
          ∧ r.2.mem ((c.tc : Thread Cert.MomentsRefIdeal.nD Cert.MomentsRefIdeal.τ).loc Cert.MomentsRefIdeal.main_arg0) = m' ((c.tc : Thread Cert.MomentsRefIdeal.nD Cert.MomentsRefIdeal.τ).loc Cert.MomentsRefIdeal.main_arg0)
          ∧ r.2.mem ((c.tc : Thread Cert.MomentsRefIdeal.nD Cert.MomentsRefIdeal.τ).loc Cert.MomentsRefIdeal.main_arg1) = m' ((c.tc : Thread Cert.MomentsRefIdeal.nD Cert.MomentsRefIdeal.τ).loc Cert.MomentsRefIdeal.main_arg1)
          ∧ r.2.mem ((c.tc : Thread Cert.MomentsRefIdeal.nD Cert.MomentsRefIdeal.τ).loc Cert.MomentsRefIdeal.main_arg2) = m' ((c.tc : Thread Cert.MomentsRefIdeal.nD Cert.MomentsRefIdeal.τ).loc Cert.MomentsRefIdeal.main_arg2))

def Claim : Prop :=
  ∃ (hKernel : Cert.Kernel.Facts) (hKernelIdeal : Cert.KernelIdeal.Facts) (hReferenceIdeal : Cert.ReferenceIdeal.Facts) (hTable : Cert.Table.Facts) (hTableIdeal : Cert.TableIdeal.Facts) (hTableRefIdeal : Cert.TableRefIdeal.Facts) (hStats : Cert.Stats.Facts) (hStatsIdeal : Cert.StatsIdeal.Facts) (hStatsRefIdeal : Cert.StatsRefIdeal.Facts) (hSecond : Cert.Second.Facts) (hSecondIdeal : Cert.SecondIdeal.Facts) (hSecondRefIdeal : Cert.SecondRefIdeal.Facts) (hFinal : Cert.Final.Facts) (hFinalIdeal : Cert.FinalIdeal.Facts) (hFinalRefIdeal : Cert.FinalRefIdeal.Facts) (hCentres : Cert.Centres.Facts) (hCentresIdeal : Cert.CentresIdeal.Facts) (hCentresRefIdeal : Cert.CentresRefIdeal.Facts) (hOutcome : Cert.Outcome.Facts) (hOutcomeIdeal : Cert.OutcomeIdeal.Facts) (hOutcomeRefIdeal : Cert.OutcomeRefIdeal.Facts) (hHead : Cert.Head.Facts) (hHeadIdeal : Cert.HeadIdeal.Facts) (hHeadRefIdeal : Cert.HeadRefIdeal.Facts) (hMoments : Cert.Moments.Facts) (hMomentsIdeal : Cert.MomentsIdeal.Facts) (hMomentsRefIdeal : Cert.MomentsRefIdeal.Facts) (hPre_finite : Cert.Pre_finite.Facts) (hPre_inside : Cert.Pre_inside.Facts) (hPre_bounded : Cert.Pre_bounded.Facts),
    quiescent_Kernel (hKernel := hKernel)
    ∧ quiescent_KernelIdeal (hKernelIdeal := hKernelIdeal)
    ∧ quiescent_ReferenceIdeal (hReferenceIdeal := hReferenceIdeal)
    ∧ quiescent_Table (hTable := hTable)
    ∧ quiescent_TableIdeal (hTableIdeal := hTableIdeal)
    ∧ quiescent_TableRefIdeal (hTableRefIdeal := hTableRefIdeal)
    ∧ quiescent_Stats (hStats := hStats)
    ∧ quiescent_StatsIdeal (hStatsIdeal := hStatsIdeal)
    ∧ quiescent_StatsRefIdeal (hStatsRefIdeal := hStatsRefIdeal)
    ∧ quiescent_Second (hSecond := hSecond)
    ∧ quiescent_SecondIdeal (hSecondIdeal := hSecondIdeal)
    ∧ quiescent_SecondRefIdeal (hSecondRefIdeal := hSecondRefIdeal)
    ∧ quiescent_Final (hFinal := hFinal)
    ∧ quiescent_FinalIdeal (hFinalIdeal := hFinalIdeal)
    ∧ quiescent_FinalRefIdeal (hFinalRefIdeal := hFinalRefIdeal)
    ∧ quiescent_Centres (hCentres := hCentres)
    ∧ quiescent_CentresIdeal (hCentresIdeal := hCentresIdeal)
    ∧ quiescent_CentresRefIdeal (hCentresRefIdeal := hCentresRefIdeal)
    ∧ quiescent_Outcome (hOutcome := hOutcome)
    ∧ quiescent_OutcomeIdeal (hOutcomeIdeal := hOutcomeIdeal)
    ∧ quiescent_OutcomeIdeal_pre_finite (hOutcomeIdeal := hOutcomeIdeal) (hPre_finite := hPre_finite)
    ∧ quiescent_OutcomeRefIdeal (hOutcomeRefIdeal := hOutcomeRefIdeal)
    ∧ quiescent_OutcomeRefIdeal_pre_finite (hOutcomeRefIdeal := hOutcomeRefIdeal) (hPre_finite := hPre_finite)
    ∧ quiescent_Head (hHead := hHead)
    ∧ quiescent_HeadIdeal (hHeadIdeal := hHeadIdeal)
    ∧ quiescent_HeadIdeal_pre_inside (hHeadIdeal := hHeadIdeal) (hPre_inside := hPre_inside)
    ∧ quiescent_HeadRefIdeal (hHeadRefIdeal := hHeadRefIdeal)
    ∧ quiescent_HeadRefIdeal_pre_inside (hHeadRefIdeal := hHeadRefIdeal) (hPre_inside := hPre_inside)
    ∧ quiescent_Moments (hMoments := hMoments)
    ∧ quiescent_MomentsIdeal (hMomentsIdeal := hMomentsIdeal)
    ∧ quiescent_MomentsIdeal_pre_bounded (hMomentsIdeal := hMomentsIdeal) (hPre_bounded := hPre_bounded)
    ∧ quiescent_MomentsRefIdeal (hMomentsRefIdeal := hMomentsRefIdeal)
    ∧ quiescent_MomentsRefIdeal_pre_bounded (hMomentsRefIdeal := hMomentsRefIdeal) (hPre_bounded := hPre_bounded)
    ∧ preserves_Kernel_KernelIdeal
    ∧ algebraic_KernelIdeal_ReferenceIdeal (hKernelIdeal := hKernelIdeal) (hReferenceIdeal := hReferenceIdeal)
    ∧ preserves_Table_TableIdeal
    ∧ algebraic_TableIdeal_TableRefIdeal (hTableIdeal := hTableIdeal) (hTableRefIdeal := hTableRefIdeal)
    ∧ preserves_Stats_StatsIdeal
    ∧ algebraic_StatsIdeal_StatsRefIdeal (hStatsIdeal := hStatsIdeal) (hStatsRefIdeal := hStatsRefIdeal)
    ∧ preserves_Second_SecondIdeal
    ∧ algebraic_SecondIdeal_SecondRefIdeal (hSecondIdeal := hSecondIdeal) (hSecondRefIdeal := hSecondRefIdeal)
    ∧ preserves_Final_FinalIdeal
    ∧ algebraic_FinalIdeal_FinalRefIdeal (hFinalIdeal := hFinalIdeal) (hFinalRefIdeal := hFinalRefIdeal)
    ∧ preserves_Centres_CentresIdeal
    ∧ algebraic_CentresIdeal_CentresRefIdeal (hCentresIdeal := hCentresIdeal) (hCentresRefIdeal := hCentresRefIdeal)
    ∧ preserves_Outcome_OutcomeIdeal
    ∧ algebraic_OutcomeIdeal_OutcomeRefIdeal_pre_finite (hOutcomeIdeal := hOutcomeIdeal) (hOutcomeRefIdeal := hOutcomeRefIdeal) (hPre_finite := hPre_finite)
    ∧ preserves_Head_HeadIdeal
    ∧ algebraic_HeadIdeal_HeadRefIdeal_pre_inside (hHeadIdeal := hHeadIdeal) (hHeadRefIdeal := hHeadRefIdeal) (hPre_inside := hPre_inside)
    ∧ preserves_Moments_MomentsIdeal
    ∧ algebraic_MomentsIdeal_MomentsRefIdeal_pre_bounded (hMomentsIdeal := hMomentsIdeal) (hMomentsRefIdeal := hMomentsRefIdeal) (hPre_bounded := hPre_bounded)
-- ==== Pre_bounded.lean ====
abbrev S262144x64 : Shape := ⟨2, ![262144, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : FVec F S64 .f32) (main_arg2 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  main_v3
-- ==== Pre_finite.lean ====
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩

class Facts : Prop where
  slices_S8x128_S1x128_0_0 : S8x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S8192x128 .f32) (main_arg1 : FVec F S8x128 .f32) (main_arg2 : FVec F S128 .f32) (main_arg3 : FVec F S128 .f32) : IVec S_ 1 :=
  let main_v0 : FVec F S1x128 .f32 := (extractStridedSlice S1x128 ![0, 0] · slices_S8x128_S1x128_0_0) main_arg1
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_c : IVec S_ 1 := constantI S_ 1 1#1
  let main_v5 : IVec S_ 1 := (fun x v => Host.reduce IntOp.andi x v reducesTo_S128_S_d0 h_S_) main_v4 main_c
  let main_v6 : FVec F S128 .f32 := Host.absf main_arg2
  let main_cst_0 : FVec F S_ .f32 := constant S_ .f32 0x7F800000#32
  let main_v7 : FVec F S128 .f32 := broadcastInDim S128 ![] bcast_S_S128 main_cst_0
  let main_v8 : IVec S128 1 := cmpf .olt main_v6 main_v7
  let main_c_1 : IVec S_ 1 := constantI S_ 1 1#1
  let main_v9 : IVec S_ 1 := (fun x v => Host.reduce IntOp.andi x v reducesTo_S128_S_d0 h_S_) main_v8 main_c_1
  let main_v10 : IVec S_ 1 := andi main_v5 main_v9
  main_v10
-- ==== Pre_inside.lean ====
abbrev S16x3x4096 : Shape := ⟨3, ![16, 3, 4096]⟩
abbrev S16x64x4096 : Shape := ⟨3, ![16, 64, 4096]⟩
abbrev S64x67 : Shape := ⟨2, ![64, 67]⟩
abbrev S64 : Shape := ⟨1, ![64]⟩
abbrev S16x512x3 : Shape := ⟨3, ![16, 512, 3]⟩
abbrev S16x512x32 : Shape := ⟨3, ![16, 512, 32]⟩
abbrev S_ : Shape := ⟨0, ![]⟩
abbrev S64x3 : Shape := ⟨2, ![64, 3]⟩

class Facts : Prop where
  bcast_S_S16x512x32 : S_.BroadcastsInDim S16x512x32 (![] : Fin 0 → Fin S16x512x32.rank)
  reducesTo_S16x512x32_S_d0_1_2 : S16x512x32.ReducesTo [0, 1, 2] S_
  h_S_ : 0 < S_.numel
  slices_S64x67_S64x3_0_0 : S64x67.Slices ![0, 0] S64x3
  bcast_S_S64x3 : S_.BroadcastsInDim S64x3 (![] : Fin 0 → Fin S64x3.rank)
  reducesTo_S64x3_S_d0_1 : S64x3.ReducesTo [0, 1] S_
  bcast_S_S16x512x3 : S_.BroadcastsInDim S16x512x3 (![] : Fin 0 → Fin S16x512x3.rank)
  reducesTo_S16x512x3_S_d0_1_2 : S16x512x3.ReducesTo [0, 1, 2] S_

variable [Facts]

def fn {F : FTy → Type} [FloatOps F] (main_arg0 : FVec F S16x3x4096 .f32) (main_arg1 : FVec F S16x64x4096 .f32) (main_arg2 : FVec F S64x67 .f32) (main_arg3 : FVec F S64 .f32) (main_arg4 : FVec F S16x512x3 .f32) (main_arg5 : IVec S16x512x32 32) : IVec S_ 1 :=
  let main_c : IVec S_ 32 := constantI S_ 32 0#32
  let main_v0 : IVec S16x512x32 32 := broadcastInDim S16x512x32 ![] bcast_S_S16x512x32 main_c
  let main_v1 : IVec S16x512x32 1 := cmpi .sge main_arg5 main_v0
  let main_c_0 : IVec S_ 32 := constantI S_ 32 4096#32
  let main_v2 : IVec S16x512x32 32 := broadcastInDim S16x512x32 ![] bcast_S_S16x512x32 main_c_0
  let main_v3 : IVec S16x512x32 1 := cmpi .slt main_arg5 main_v2
  let main_v4 : IVec S16x512x32 1 := andi main_v1 main_v3
  let main_c_1 : IVec S_ 1 := constantI S_ 1 1#1
  let main_v5 : IVec S_ 1 := (fun x v => Host.reduce IntOp.andi x v reducesTo_S16x512x32_S_d0_1_2 h_S_) main_v4 main_c_1
  let main_v6 : FVec F S64x3 .f32 := (extractStridedSlice S64x3 ![0, 0] · slices_S64x67_S64x3_0_0) main_arg2
  let main_v7 : FVec F S64x3 .f32 := Host.absf main_v6
  let main_cst : FVec F S_ .f32 := constant S_ .f32 0x7F800000#32
  let main_v8 : FVec F S64x3 .f32 := broadcastInDim S64x3 ![] bcast_S_S64x3 main_cst
  let main_v9 : IVec S64x3 1 := cmpf .olt main_v7 main_v8
  let main_c_2 : IVec S_ 1 := constantI S_ 1 1#1
  let main_v10 : IVec S_ 1 := (fun x v => Host.reduce IntOp.andi x v reducesTo_S64x3_S_d0_1 h_S_) main_v9 main_c_2
  let main_v11 : IVec S_ 1 := andi main_v5 main_v10
  let main_v12 : FVec F S16x512x3 .f32 := Host.absf main_arg4
  let main_cst_3 : FVec F S_ .f32 := constant S_ .f32 0x7F800000#32
  let main_v13 : FVec F S16x512x3 .f32 := broadcastInDim S16x512x3 ![] bcast_S_S16x512x3 main_cst_3
  let main_v14 : IVec S16x512x3 1 := cmpf .olt main_v12 main_v13
  let main_c_4 : IVec S_ 1 := constantI S_ 1 1#1
  let main_v15 : IVec S_ 1 := (fun x v => Host.reduce IntOp.andi x v reducesTo_S16x512x3_S_d0_1_2 h_S_) main_v14 main_c_4
  let main_v16 : IVec S_ 1 := andi main_v11 main_v15
  main_v16
-- ==== Kernel.lean ====
abbrev S262144x64 : Shape := ⟨2, ![262144, 64]⟩
abbrev S64 : Shape := ⟨1, ![64]⟩
abbrev S128x64 : Shape := ⟨2, ![128, 64]⟩
abbrev S1x64 : Shape := ⟨2, ![1, 64]⟩
abbrev S64x128 : Shape := ⟨2, ![64, 128]⟩
abbrev S8192x128 : Shape := ⟨2, ![8192, 128]⟩
abbrev S8x128 : Shape := ⟨2, ![8, 128]⟩
abbrev S1024x64 : Shape := ⟨2, ![1024, 64]⟩
abbrev S32x128 : Shape := ⟨2, ![32, 128]⟩
abbrev S1024x128 : Shape := ⟨2, ![1024, 128]⟩
abbrev S1x128 : Shape := ⟨2, ![1, 128]⟩
abbrev S128 : Shape := ⟨1, ![128]⟩
abbrev S32x32x128 : Shape := ⟨3, ![32, 32, 128]⟩

abbrev nBuf : Space → Nat
  | .hbm => 9
  | .vmem => 9
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S128x64, .f32⟩
  | .hbm, ⟨4, _⟩ => ⟨S1x64, .f32⟩
  | .hbm, ⟨5, _⟩ => ⟨S1x64, .f32⟩
  | .hbm, ⟨6, _⟩ => ⟨S64x128, .f32⟩
  | .hbm, ⟨7, _⟩ => ⟨S8192x128, .f32⟩
  | .hbm, ⟨8, _⟩ => ⟨S8x128, .f32⟩
  | .local _ .vmem, ⟨0, _⟩ => ⟨S1024x64, .f32⟩
  | .local _ .vmem, ⟨1, _⟩ => ⟨S1024x64, .f32⟩
  | .local _ .vmem, ⟨2, _⟩ => ⟨S1x64, .f32⟩
  | .local _ .vmem, ⟨3, _⟩ => ⟨S1x64, .f32⟩
  | .local _ .vmem, ⟨4, _⟩ => ⟨S64x128, .f32⟩
  | .local _ .vmem, ⟨5, _⟩ => ⟨S32x128, .f32⟩
  | .local _ .vmem, ⟨6, _⟩ => ⟨S32x128, .f32⟩
  | .local _ .vmem, ⟨7, _⟩ => ⟨S8x128, .f32⟩
  | .local _ .vmem, ⟨8, _⟩ => ⟨S8x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v35 : BitVec 1 := Scalar.cmpi .eq arg0 c255_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S262144x64 : Shape := ⟨2, ![262144, 64]⟩
abbrev S64 : Shape := ⟨1, ![64]⟩
abbrev S128x64 : Shape := ⟨2, ![128, 64]⟩
abbrev S1x64 : Shape := ⟨2, ![1, 64]⟩
abbrev S_ : Shape := ⟨0, ![]⟩
abbrev S64x128 : Shape := ⟨2, ![64, 128]⟩
abbrev S262144x128 : Shape := ⟨2, ![262144, 128]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S8192x32x128 : Shape := ⟨3, ![8192, 32, 128]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S128x64, .f32⟩
  | .hbm, ⟨4, _⟩ => ⟨S1x64, .f32⟩
  | .hbm, ⟨5, _⟩ => ⟨S262144x64, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144x64, .f32⟩
  | .hbm, ⟨12, _⟩ => ⟨S262144x64, .f32⟩
  | .hbm, ⟨13, _⟩ => ⟨S64x128, .f32⟩
  | .hbm, ⟨14, _⟩ => ⟨S262144x128, .f32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S262144x128, .f32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S6x128, .f32⟩
  | .hbm, ⟨24, _⟩ => ⟨S8x128, .f32⟩
  | .hbm, ⟨25, _⟩ => ⟨S8192x32x128, .f32⟩
  | .hbm, ⟨26, _⟩ => ⟨S_, .f32⟩
  | .hbm, ⟨27, _⟩ => ⟨S8192x128, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Table.lean ====
abbrev S16x3x4096 : Shape := ⟨3, ![16, 3, 4096]⟩
abbrev S16x64x4096 : Shape := ⟨3, ![16, 64, 4096]⟩
abbrev S64x67 : Shape := ⟨2, ![64, 67]⟩
abbrev S64 : Shape := ⟨1, ![64]⟩
abbrev S16x4096x3 : Shape := ⟨3, ![16, 4096, 3]⟩
abbrev S16x4096x64 : Shape := ⟨3, ![16, 4096, 64]⟩
abbrev S65536x64 : Shape := ⟨2, ![65536, 64]⟩
abbrev S65536x3 : Shape := ⟨2, ![65536, 3]⟩
abbrev S64x64 : Shape := ⟨2, ![64, 64]⟩
abbrev S64x3 : Shape := ⟨2, ![64, 3]⟩
abbrev S3x64 : Shape := ⟨2, ![3, 64]⟩
abbrev S1x64 : Shape := ⟨2, ![1, 64]⟩
abbrev S2048x64 : Shape := ⟨2, ![2048, 64]⟩
abbrev S2048x3 : Shape := ⟨2, ![2048, 3]⟩
abbrev S2048x1 : Shape := ⟨2, ![2048, 1]⟩

abbrev nBuf : Space → Nat
  | .hbm => 14
  | .vmem => 9
  | .smem => 0
  | _ => 0

abbrev bufTy : (tb : Table) → Fin (tcTables nBuf tb) → BufTy
  | .hbm, ⟨0, _⟩ => ⟨S16x3x4096, .f32⟩
  | .hbm, ⟨1, _⟩ => ⟨S16x64x4096, .f32⟩
  | .hbm, ⟨2, _⟩ => ⟨S64x67, .f32⟩
  | .hbm, ⟨3, _⟩ => ⟨S64, .f32⟩
  | .hbm, ⟨4, _⟩ => ⟨S16x4096x3, .f32⟩
  | .hbm, ⟨5, _⟩ => ⟨S16x4096x64, .f32⟩
  | .hbm, ⟨6, _⟩ => ⟨S65536x64, .f32⟩
  | .hbm, ⟨7, _⟩ => ⟨S65536x3, .f32⟩
  | .hbm, ⟨8, _⟩ => ⟨S64x64, .f32⟩
  | .hbm, ⟨9, _⟩ => ⟨S64x64, .f32⟩
  | .hbm, ⟨10, _⟩ => ⟨S64x3, .f32⟩
  | .hbm, ⟨11, _⟩ => ⟨S3x64, .f32⟩
  | .hbm, ⟨12, _⟩ => ⟨S1x64, .f32⟩
  | .hbm, ⟨13, _⟩ => ⟨S65536x64, .f32⟩
  | .local _ .vmem, ⟨0, _⟩ => ⟨S2048x64, .f32⟩
  | .local _ .vmem, ⟨1, _⟩ => ⟨S2048x64, .f32⟩
  | .local _ .vmem, ⟨2, _⟩ => ⟨S2048x3, .f32⟩
  | .local _ .vmem, ⟨3, _⟩ => ⟨S2048x3, .f32⟩
  | .local _ .vmem, ⟨4, _⟩ => ⟨S64x64, .f32⟩
  | .local _ .vmem, ⟨5, _⟩ => ⟨S3x64, .f32⟩
  | .local _ .vmem, ⟨6, _⟩ => ⟨S1x64, .f32⟩
  | .local _ .vmem, ⟨7, _⟩ => ⟨S2048x64, .f32⟩
  | .local _ .vmem, ⟨8, _⟩ => ⟨S2048x64, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TableRefIdeal.lean ====
abbrev S16x3x4096 : Shape := ⟨3, ![16, 3, 4096]⟩
abbrev S16x64x4096 : Shape := ⟨3, ![16, 64, 4096]⟩
abbrev S64x67 : Shape := ⟨2, ![64, 67]⟩
abbrev S64 : Shape := ⟨1, ![64]⟩
abbrev S16x4096x3 : Shape := ⟨3, ![16, 4096, 3]⟩
abbrev S16x4096x64 : Shape := ⟨3, ![16, 4096, 64]⟩
abbrev S16x4096x67 : Shape := ⟨3, ![16, 4096, 67]⟩
abbrev S65536x67 : Shape := ⟨2, ![65536, 67]⟩
abbrev S67x64 : Shape := ⟨2, ![67, 64]⟩
abbrev S65536x64 : Shape := ⟨2, ![65536, 64]⟩
abbrev S1x64 : Shape := ⟨2, ![1, 64]⟩

abbrev nBuf : Space → Nat
  | .hbm => 13
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x64x4096, .f32⟩
  | .hbm, ⟨2, _⟩ => ⟨S64x67, .f32⟩
  | .hbm, ⟨3, _⟩ => ⟨S64, .f32⟩
  | .hbm, ⟨4, _⟩ => ⟨S16x4096x3, .f32⟩
  | .hbm, ⟨5, _⟩ => ⟨S16x4096x64, .f32⟩
  | .hbm, ⟨6, _⟩ => ⟨S16x4096x67, .f32⟩
  | .hbm, ⟨7, _⟩ => ⟨S65536x67, .f32⟩
  | .hbm, ⟨8, _⟩ => ⟨S67x64, .f32⟩
  | .hbm, ⟨9, _⟩ => ⟨S65536x64, .f32⟩
  | .hbm, ⟨10, _⟩ => ⟨S1x64, .f32⟩
  | .hbm, ⟨11, _⟩ => ⟨S65536x64, .f32⟩
  | .hbm, ⟨12, _⟩ => ⟨S65536x64, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Stats.lean ====
abbrev S262144x64 : Shape := ⟨2, ![262144, 64]⟩
abbrev S8x64 : Shape := ⟨2, ![8, 64]⟩
abbrev S1024x64 : Shape := ⟨2, ![1024, 64]⟩
abbrev S1x64 : Shape := ⟨2, ![1, 64]⟩
abbrev S64 : Shape := ⟨1, ![64]⟩

abbrev nBuf : Space → Nat
  | .hbm => 2
  | .vmem => 4
  | .smem => 0
  | _ => 0

abbrev bufTy : (tb : Table) → Fin (tcTables nBuf tb) → BufTy
  | .hbm, ⟨0, _⟩ => ⟨S262144x64, .f32⟩
  | .hbm, ⟨1, _⟩ => ⟨S8x64, .f32⟩
  | .local _ .vmem, ⟨0, _⟩ => ⟨S1024x64, .f32⟩
  | .local _ .vmem, ⟨1, _⟩ => ⟨S1024x64, .f32⟩
  | .local _ .vmem, ⟨2, _⟩ => ⟨S8x64, .f32⟩
  | .local _ .vmem, ⟨3, _⟩ => ⟨S8x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v19 : BitVec 1 := Scalar.cmpi .eq arg0 c255_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== StatsRefIdeal.lean ====
abbrev S262144x64 : Shape := ⟨2, ![262144, 64]⟩
abbrev S_ : Shape := ⟨0, ![]⟩
abbrev S64 : Shape := ⟨1, ![64]⟩
abbrev S1x64 : Shape := ⟨2, ![1, 64]⟩
abbrev S6x64 : Shape := ⟨2, ![6, 64]⟩
abbrev S8x64 : Shape := ⟨2, ![8, 64]⟩

abbrev nBuf : Space → Nat
  | .hbm => 11
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S_, .f32⟩
  | .hbm, ⟨2, _⟩ => ⟨S64, .f32⟩
  | .hbm, ⟨3, _⟩ => ⟨S1x64, .f32⟩
  | .hbm, ⟨4, _⟩ => ⟨S262144x64, .f32⟩
  | .hbm, ⟨5, _⟩ => ⟨S_, .f32⟩
  | .hbm, ⟨6, _⟩ => ⟨S64, .f32⟩
  | .hbm, ⟨7, _⟩ => ⟨S1x64, .f32⟩
  | .hbm, ⟨8, _⟩ => ⟨S_, .f32⟩
  | .hbm, ⟨9, _⟩ => ⟨S6x64, .f32⟩
  | .hbm, ⟨10, _⟩ => ⟨S8x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Second.lean ====
abbrev S262144x64 : Shape := ⟨2, ![262144, 64]⟩
abbrev S64 : Shape := ⟨1, ![64]⟩
abbrev S64x64 : Shape := ⟨2, ![64, 64]⟩
abbrev S1x64 : Shape := ⟨2, ![1, 64]⟩
abbrev S8x64 : Shape := ⟨2, ![8, 64]⟩
abbrev S1024x64 : Shape := ⟨2, ![1024, 64]⟩

abbrev nBuf : Space → Nat
  | .hbm => 9
  | .vmem => 9
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S1x64, .f32⟩
  | .hbm, ⟨5, _⟩ => ⟨S1x64, .f32⟩
  | .hbm, ⟨6, _⟩ => ⟨S64x64, .f32⟩
  | .hbm, ⟨7, _⟩ => ⟨S262144x64, .f32⟩
  | .hbm, ⟨8, _⟩ => ⟨S8x64, .f32⟩
  | .local _ .vmem, ⟨0, _⟩ => ⟨S1024x64, .f32⟩
  | .local _ .vmem, ⟨1, _⟩ => ⟨S1024x64, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1024x64, .f32⟩
  | .local _ .vmem, ⟨6, _⟩ => ⟨S1024x64, .f32⟩
  | .local _ .vmem, ⟨7, _⟩ => ⟨S8x64, .f32⟩
  | .local _ .vmem, ⟨8, _⟩ => ⟨S8x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v33 : BitVec 1 := Scalar.cmpi .eq arg0 c255_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SecondRefIdeal.lean ====
abbrev S262144x64 : Shape := ⟨2, ![262144, 64]⟩
abbrev S64 : Shape := ⟨1, ![64]⟩
abbrev S64x64 : Shape := ⟨2, ![64, 64]⟩
abbrev S1x64 : Shape := ⟨2, ![1, 64]⟩
abbrev S_ : Shape := ⟨0, ![]⟩
abbrev S6x64 : Shape := ⟨2, ![6, 64]⟩
abbrev S8x64 : Shape := ⟨2, ![8, 64]⟩

abbrev nBuf : Space → Nat
  | .hbm => 25
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S1x64, .f32⟩
  | .hbm, ⟨5, _⟩ => ⟨S262144x64, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144x64, .f32⟩
  | .hbm, ⟨12, _⟩ => ⟨S262144x64, .f32⟩
  | .hbm, ⟨13, _⟩ => ⟨S64x64, .f32⟩
  | .hbm, ⟨14, _⟩ => ⟨S262144x64, .f32⟩
  | .hbm, ⟨15, _⟩ => ⟨S_, .f32⟩
  | .hbm, ⟨16, _⟩ => ⟨S64, .f32⟩
  | .hbm, ⟨17, _⟩ => ⟨S1x64, .f32⟩
  | .hbm, ⟨18, _⟩ => ⟨S262144x64, .f32⟩
  | .hbm, ⟨19, _⟩ => ⟨S_, .f32⟩
  | .hbm, ⟨20, _⟩ => ⟨S64, .f32⟩
  | .hbm, ⟨21, _⟩ => ⟨S1x64, .f32⟩
  | .hbm, ⟨22, _⟩ => ⟨S_, .f32⟩
  | .hbm, ⟨23, _⟩ => ⟨S6x64, .f32⟩
  | .hbm, ⟨24, _⟩ => ⟨S8x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Final.lean ====
abbrev S8192x128 : Shape := ⟨2, ![8192, 128]⟩
abbrev S128 : Shape := ⟨1, ![128]⟩
abbrev S1x128 : Shape := ⟨2, ![1, 128]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S8192x128 : Shape := ⟨2, ![8192, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S_, .f32⟩
  | .hbm, ⟨10, _⟩ => ⟨S8192x128, .f32⟩
  | .hbm, ⟨11, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Centres.lean ====
abbrev S16x3x4096 : Shape := ⟨3, ![16, 3, 4096]⟩
abbrev S16x4096x3 : Shape := ⟨3, ![16, 4096, 3]⟩
abbrev S_ : Shape := ⟨0, ![]⟩
abbrev S16x4096 : Shape := ⟨2, ![16, 4096]⟩
abbrev S16 : Shape := ⟨1, ![16]⟩
abbrev S512x16 : Shape := ⟨2, ![512, 16]⟩
abbrev S16x1 : Shape := ⟨2, ![16, 1]⟩
abbrev S16x2 : Shape := ⟨2, ![16, 2]⟩
abbrev S16x3 : Shape := ⟨2, ![16, 3]⟩
abbrev S16x1x3 : Shape := ⟨3, ![16, 1, 3]⟩
abbrev S1x16 : Shape := ⟨2, ![1, 16]⟩
abbrev S16x512 : Shape := ⟨2, ![16, 512]⟩
abbrev S16x512x1 : Shape := ⟨3, ![16, 512, 1]⟩
abbrev S1 : Shape := ⟨1, ![1]⟩
abbrev S1x1x1 : Shape := ⟨3, ![1, 1, 1]⟩
abbrev S16x512x3 : Shape := ⟨3, ![16, 512, 3]⟩
abbrev S16x3x512 : Shape := ⟨3, ![16, 3, 512]⟩

abbrev nBuf : Space → Nat
  | .hbm => 77
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x4096x3, .f32⟩
  | .hbm, ⟨2, _⟩ => ⟨S_, .f32⟩
  | .hbm, ⟨3, _⟩ => ⟨S16x4096, .f32⟩
  | .hbm, ⟨4, _⟩ => ⟨S_, .i32⟩
  | .hbm, ⟨5, _⟩ => ⟨S16, .i32⟩
  | .hbm, ⟨6, _⟩ => ⟨S_, .i32⟩
  | .hbm, ⟨7, _⟩ => ⟨S512x16, .i32⟩
  | .hbm, ⟨8, _⟩ => ⟨S_, .i32⟩
  | .hbm, ⟨9, _⟩ => ⟨S16x4096x3, .f32⟩
  | .hbm, ⟨10, _⟩ => ⟨S_, .i32⟩
  | .hbm, ⟨11, _⟩ => ⟨S16x4096, .f32⟩
  | .hbm, ⟨12, _⟩ => ⟨S16, .i32⟩
  | .hbm, ⟨13, _⟩ => ⟨S512x16, .i32⟩
  | .hbm, ⟨14, _⟩ => ⟨S_, .i32⟩
  | .hbm, ⟨15, _⟩ => ⟨S_, .i1⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S16x1, .i32⟩
  | .hbm, ⟨33, _⟩ => ⟨S16x2, .i32⟩
  | .hbm, ⟨34, _⟩ => ⟨S16x3, .f32⟩
  | .hbm, ⟨35, _⟩ => ⟨S16x1x3, .f32⟩
  | .hbm, ⟨36, _⟩ => ⟨S16x4096x3, .f32⟩
  | .hbm, ⟨37, _⟩ => ⟨S16x4096x3, .f32⟩
  | .hbm, ⟨38, _⟩ => ⟨S16x4096x3, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S16x4096, .i32⟩
  | .hbm, ⟨43, _⟩ => ⟨S_, .f32⟩
  | .hbm, ⟨44, _⟩ => ⟨S_, .i32⟩
  | .hbm, ⟨45, _⟩ => ⟨S16, .f32⟩
  | .hbm, ⟨46, _⟩ => ⟨S16, .i32⟩
  | .hbm, ⟨47, _⟩ => ⟨S1x16, .i32⟩
  | .hbm, ⟨48, _⟩ => ⟨S_, .i32⟩
  | .hbm, ⟨49, _⟩ => ⟨S512x16, .i32⟩
  | .hbm, ⟨50, _⟩ => ⟨S_, .i32⟩
  | .hbm, ⟨51, _⟩ => ⟨S_, .i32⟩
  | .hbm, ⟨52, _⟩ => ⟨S16x512, .i32⟩
  | .hbm, ⟨53, _⟩ => ⟨S16x512x1, .i32⟩
  | .hbm, ⟨54, _⟩ => ⟨S_, .i32⟩
  | .hbm, ⟨55, _⟩ => ⟨S16x512x1, .i32⟩
  | .hbm, ⟨56, _⟩ => ⟨S16x512x1, .i1⟩
  | .hbm, ⟨57, _⟩ => ⟨S_, .i32⟩
  | .hbm, ⟨58, _⟩ => ⟨S16x512x1, .i32⟩
  | .hbm, ⟨59, _⟩ => ⟨S16x512x1, .i32⟩
  | .hbm, ⟨60, _⟩ => ⟨S16x512x1, .i32⟩
  | .hbm, ⟨61, _⟩ => ⟨S1, .i32⟩
  | .hbm, ⟨62, _⟩ => ⟨S_, .i32⟩
  | .hbm, ⟨63, _⟩ => ⟨S16x512x1, .i32⟩
  | .hbm, ⟨64, _⟩ => ⟨S16x512x1, .i1⟩
  | .hbm, ⟨65, _⟩ => ⟨S1x1x1, .i32⟩
  | .hbm, ⟨66, _⟩ => ⟨S16x512x1, .i32⟩
  | .hbm, ⟨67, _⟩ => ⟨S16x512x1, .i1⟩
  | .hbm, ⟨68, _⟩ => ⟨S16x512x1, .i1⟩
  | .hbm, ⟨69, _⟩ => ⟨S_, .i1⟩
  | .hbm, ⟨70, _⟩ => ⟨S16x512, .i1⟩
  | .hbm, ⟨71, _⟩ => ⟨S16x512x3, .f32⟩
  | .hbm, ⟨72, _⟩ => ⟨S16x512x3, .i1⟩
  | .hbm, ⟨73, _⟩ => ⟨S_, .f32⟩
  | .hbm, ⟨74, _⟩ => ⟨S16x512x3, .f32⟩
  | .hbm, ⟨75, _⟩ => ⟨S16x512x3, .f32⟩
  | .hbm, ⟨76, _⟩ => ⟨S16x3x512, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_while0c_c_6 : Ref sig .tc := ⟨.hbm, 14, rfl⟩
abbrev main_while0c_v9 : Ref sig .tc := ⟨.hbm, 15, rfl⟩
abbrev main_while0b_v9 : Ref sig .tc := ⟨.hbm, 16, rfl⟩
abbrev main_while0b_c_6 : Ref sig .tc := ⟨.hbm, 17, rfl⟩
abbrev main_while0b_v10 : Ref sig .tc := ⟨.hbm, 18, rfl⟩
abbrev main_while0b_v11 : Ref sig .tc := ⟨.hbm, 19, rfl⟩
abbrev main_while0b_c_7 : Ref sig .tc := ⟨.hbm, 20, rfl⟩
abbrev main_while0b_v12 : Ref sig .tc := ⟨.hbm, 21, rfl⟩
abbrev main_while0b_v13 : Ref sig .tc := ⟨.hbm, 22, rfl⟩
abbrev main_while0b_v14 : Ref sig .tc := ⟨.hbm, 23, rfl⟩
abbrev main_while0b_c_8 : Ref sig .tc := ⟨.hbm, 24, rfl⟩
abbrev main_while0b_v15 : Ref sig .tc := ⟨.hbm, 25, rfl⟩
abbrev main_while0b_v16 : Ref sig .tc := ⟨.hbm, 26, rfl⟩
abbrev main_while0b_c_9 : Ref sig .tc := ⟨.hbm, 27, rfl⟩
abbrev main_while0b_v17 : Ref sig .tc := ⟨.hbm, 28, rfl⟩
abbrev main_while0b_v18 : Ref sig .tc := ⟨.hbm, 29, rfl⟩
abbrev main_while0b_v19 : Ref sig .tc := ⟨.hbm, 30, rfl⟩
abbrev main_while0b_v20 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_cst_10 : Ref sig .tc := ⟨.hbm, 39, rfl⟩
abbrev main_while0b_v28 : Ref sig .tc := ⟨.hbm, 40, rfl⟩
abbrev main_while0b_v29 : Ref sig .tc := ⟨.hbm, 41, rfl⟩
abbrev main_while0b_call0_v0 : Ref sig .tc := ⟨.hbm, 42, rfl⟩
abbrev main_while0b_call0_cst : Ref sig .tc := ⟨.hbm, 43, rfl⟩
abbrev main_while0b_call0_c : Ref sig .tc := ⟨.hbm, 44, rfl⟩
abbrev main_while0b_call0_v1_0 : Ref sig .tc := ⟨.hbm, 45, rfl⟩
abbrev main_while0b_v30 : Ref sig .tc := ⟨.hbm, 46, rfl⟩
abbrev main_while0b_call1_v0 : Ref sig .tc := ⟨.hbm, 47, rfl⟩
abbrev main_while0b_call1_c : Ref sig .tc := ⟨.hbm, 48, rfl⟩
abbrev main_while0b_v31 : Ref sig .tc := ⟨.hbm, 49, rfl⟩
abbrev main_while0b_c_11 : Ref sig .tc := ⟨.hbm, 50, rfl⟩
abbrev main_while0b_v32 : Ref sig .tc := ⟨.hbm, 51, rfl⟩
abbrev main_v5 : Ref sig .tc := ⟨.hbm, 52, rfl⟩
abbrev main_v6 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_c_2 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_c_3 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v7 : Ref sig .tc := ⟨.hbm, 75, rfl⟩
abbrev main_v8 : Ref sig .tc := ⟨.hbm, 76, rfl⟩

abbrev nD : Nat := 1
abbrev τ : Topo := Topo.v7x

variable {F : FTy → Type} [FloatOps F]

abbrev main_while0_count : Scf.Loop 32 := ⟨0#32, 512#32, 1#32⟩
-- ==== CentresRefIdeal.lean ====
abbrev S16x3x4096 : Shape := ⟨3, ![16, 3, 4096]⟩
abbrev S16x4096x3 : Shape := ⟨3, ![16, 4096, 3]⟩
abbrev S_ : Shape := ⟨0, ![]⟩
abbrev S16x4096 : Shape := ⟨2, ![16, 4096]⟩
abbrev S16 : Shape := ⟨1, ![16]⟩
abbrev S512x16 : Shape := ⟨2, ![512, 16]⟩
abbrev S16x1 : Shape := ⟨2, ![16, 1]⟩
abbrev S16x2 : Shape := ⟨2, ![16, 2]⟩
abbrev S16x3 : Shape := ⟨2, ![16, 3]⟩
abbrev S16x1x3 : Shape := ⟨3, ![16, 1, 3]⟩
abbrev S1x16 : Shape := ⟨2, ![1, 16]⟩
abbrev S16x512 : Shape := ⟨2, ![16, 512]⟩
abbrev S16x512x1 : Shape := ⟨3, ![16, 512, 1]⟩
abbrev S16x512x2 : Shape := ⟨3, ![16, 512, 2]⟩
abbrev S16x512x3 : Shape := ⟨3, ![16, 512, 3]⟩
abbrev S16x3x512 : Shape := ⟨3, ![16, 3, 512]⟩

abbrev nBuf : Space → Nat
  | .hbm => 75
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x4096x3, .f32⟩
  | .hbm, ⟨2, _⟩ => ⟨S_, .f32⟩
  | .hbm, ⟨3, _⟩ => ⟨S16x4096, .f32⟩
  | .hbm, ⟨4, _⟩ => ⟨S_, .i32⟩
  | .hbm, ⟨5, _⟩ => ⟨S16, .i32⟩
  | .hbm, ⟨6, _⟩ => ⟨S_, .i32⟩
  | .hbm, ⟨7, _⟩ => ⟨S512x16, .i32⟩
  | .hbm, ⟨8, _⟩ => ⟨S_, .i32⟩
  | .hbm, ⟨9, _⟩ => ⟨S16x4096x3, .f32⟩
  | .hbm, ⟨10, _⟩ => ⟨S_, .i32⟩
  | .hbm, ⟨11, _⟩ => ⟨S16x4096, .f32⟩
  | .hbm, ⟨12, _⟩ => ⟨S16, .i32⟩
  | .hbm, ⟨13, _⟩ => ⟨S512x16, .i32⟩
  | .hbm, ⟨14, _⟩ => ⟨S_, .i32⟩
  | .hbm, ⟨15, _⟩ => ⟨S_, .i1⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S16x1, .i32⟩
  | .hbm, ⟨33, _⟩ => ⟨S16x2, .i32⟩
  | .hbm, ⟨34, _⟩ => ⟨S16x3, .f32⟩
  | .hbm, ⟨35, _⟩ => ⟨S16x1x3, .f32⟩
  | .hbm, ⟨36, _⟩ => ⟨S16x4096x3, .f32⟩
  | .hbm, ⟨37, _⟩ => ⟨S16x4096x3, .f32⟩
  | .hbm, ⟨38, _⟩ => ⟨S16x4096x3, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S16x4096, .i32⟩
  | .hbm, ⟨43, _⟩ => ⟨S_, .f32⟩
  | .hbm, ⟨44, _⟩ => ⟨S_, .i32⟩
  | .hbm, ⟨45, _⟩ => ⟨S16, .f32⟩
  | .hbm, ⟨46, _⟩ => ⟨S16, .i32⟩
  | .hbm, ⟨47, _⟩ => ⟨S1x16, .i32⟩
  | .hbm, ⟨48, _⟩ => ⟨S_, .i32⟩
  | .hbm, ⟨49, _⟩ => ⟨S512x16, .i32⟩
  | .hbm, ⟨50, _⟩ => ⟨S_, .i32⟩
  | .hbm, ⟨51, _⟩ => ⟨S_, .i32⟩
  | .hbm, ⟨52, _⟩ => ⟨S16x512, .i32⟩
  | .hbm, ⟨53, _⟩ => ⟨S16, .i32⟩
  | .hbm, ⟨54, _⟩ => ⟨S16x1, .i32⟩
  | .hbm, ⟨55, _⟩ => ⟨S_, .i32⟩
  | .hbm, ⟨56, _⟩ => ⟨S16x1, .i32⟩
  | .hbm, ⟨57, _⟩ => ⟨S16x1, .i1⟩
  | .hbm, ⟨58, _⟩ => ⟨S_, .i32⟩
  | .hbm, ⟨59, _⟩ => ⟨S16x1, .i32⟩
  | .hbm, ⟨60, _⟩ => ⟨S16x1, .i32⟩
  | .hbm, ⟨61, _⟩ => ⟨S16x1, .i32⟩
  | .hbm, ⟨62, _⟩ => ⟨S_, .i32⟩
  | .hbm, ⟨63, _⟩ => ⟨S16x512, .i32⟩
  | .hbm, ⟨64, _⟩ => ⟨S16x512, .i1⟩
  | .hbm, ⟨65, _⟩ => ⟨S_, .i32⟩
  | .hbm, ⟨66, _⟩ => ⟨S16x512, .i32⟩
  | .hbm, ⟨67, _⟩ => ⟨S16x512, .i32⟩
  | .hbm, ⟨68, _⟩ => ⟨S16x512, .i32⟩
  | .hbm, ⟨69, _⟩ => ⟨S16x512, .i32⟩
  | .hbm, ⟨70, _⟩ => ⟨S16x512x1, .i32⟩
  | .hbm, ⟨71, _⟩ => ⟨S16x512x1, .i32⟩
  | .hbm, ⟨72, _⟩ => ⟨S16x512x2, .i32⟩
  | .hbm, ⟨73, _⟩ => ⟨S16x512x3, .f32⟩
  | .hbm, ⟨74, _⟩ => ⟨S16x3x512, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_while0c_c_10 : Ref sig .tc := ⟨.hbm, 14, rfl⟩
abbrev main_while0c_v24 : Ref sig .tc := ⟨.hbm, 15, rfl⟩
abbrev main_while0b_v24 : Ref sig .tc := ⟨.hbm, 16, rfl⟩
abbrev main_while0b_c_10 : Ref sig .tc := ⟨.hbm, 17, rfl⟩
abbrev main_while0b_v25 : Ref sig .tc := ⟨.hbm, 18, rfl⟩
abbrev main_while0b_v26 : Ref sig .tc := ⟨.hbm, 19, rfl⟩
abbrev main_while0b_c_11 : Ref sig .tc := ⟨.hbm, 20, rfl⟩
abbrev main_while0b_v27 : Ref sig .tc := ⟨.hbm, 21, rfl⟩
abbrev main_while0b_v28 : Ref sig .tc := ⟨.hbm, 22, rfl⟩
abbrev main_while0b_v29 : Ref sig .tc := ⟨.hbm, 23, rfl⟩
abbrev main_while0b_c_12 : Ref sig .tc := ⟨.hbm, 24, rfl⟩
abbrev main_while0b_v30 : Ref sig .tc := ⟨.hbm, 25, rfl⟩
abbrev main_while0b_v31 : Ref sig .tc := ⟨.hbm, 26, rfl⟩
abbrev main_while0b_c_13 : Ref sig .tc := ⟨.hbm, 27, rfl⟩
abbrev main_while0b_v32 : Ref sig .tc := ⟨.hbm, 28, rfl⟩
abbrev main_while0b_v33 : Ref sig .tc := ⟨.hbm, 29, rfl⟩
abbrev main_while0b_v34 : Ref sig .tc := ⟨.hbm, 30, rfl⟩
abbrev main_while0b_v35 : Ref sig .tc := ⟨.hbm, 31, rfl⟩
abbrev main_while0b_v36 : Ref sig .tc := ⟨.hbm, 32, rfl⟩
abbrev main_while0b_v37 : Ref sig .tc := ⟨.hbm, 33, rfl⟩
abbrev main_while0b_v38 : Ref sig .tc := ⟨.hbm, 34, rfl⟩
abbrev main_while0b_v39 : Ref sig .tc := ⟨.hbm, 35, rfl⟩
abbrev main_while0b_v40 : Ref sig .tc := ⟨.hbm, 36, rfl⟩
abbrev main_while0b_v41 : Ref sig .tc := ⟨.hbm, 37, rfl⟩
abbrev main_while0b_v42 : Ref sig .tc := ⟨.hbm, 38, rfl⟩
abbrev main_while0b_cst_14 : Ref sig .tc := ⟨.hbm, 39, rfl⟩
abbrev main_while0b_v43 : Ref sig .tc := ⟨.hbm, 40, rfl⟩
abbrev main_while0b_v44 : Ref sig .tc := ⟨.hbm, 41, rfl⟩
abbrev main_while0b_call0_v0 : Ref sig .tc := ⟨.hbm, 42, rfl⟩
abbrev main_while0b_call0_cst : Ref sig .tc := ⟨.hbm, 43, rfl⟩
abbrev main_while0b_call0_c : Ref sig .tc := ⟨.hbm, 44, rfl⟩
abbrev main_while0b_call0_v1_0 : Ref sig .tc := ⟨.hbm, 45, rfl⟩
abbrev main_while0b_v45 : Ref sig .tc := ⟨.hbm, 46, rfl⟩
abbrev main_while0b_call1_v0 : Ref sig .tc := ⟨.hbm, 47, rfl⟩
abbrev main_while0b_call1_c : Ref sig .tc := ⟨.hbm, 48, rfl⟩
abbrev main_while0b_v46 : Ref sig .tc := ⟨.hbm, 49, rfl⟩
abbrev main_while0b_c_15 : Ref sig .tc := ⟨.hbm, 50, rfl⟩
abbrev main_while0b_v47 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_c_2 : Ref sig .tc := ⟨.hbm, 55, rfl⟩
abbrev main_v8 : Ref sig .tc := ⟨.hbm, 56, rfl⟩
abbrev main_v9 : Ref sig .tc := ⟨.hbm, 57, rfl⟩
abbrev main_c_3 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_c_4 : Ref sig .tc := ⟨.hbm, 62, rfl⟩
abbrev main_v13 : Ref sig .tc := ⟨.hbm, 63, rfl⟩
abbrev main_v14 : Ref sig .tc := ⟨.hbm, 64, rfl⟩
abbrev main_c_5 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩

abbrev nD : Nat := 1
abbrev τ : Topo := Topo.v7x

variable {F : FTy → Type} [FloatOps F]

abbrev main_while0_count : Scf.Loop 32 := ⟨0#32, 512#32, 1#32⟩
-- ==== Outcome.lean ====
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S1024x128 : Shape := ⟨2, ![1024, 128]⟩
abbrev S16x512x128 : Shape := ⟨3, ![16, 512, 128]⟩
abbrev S16x128x512 : Shape := ⟨3, ![16, 128, 512]⟩

abbrev nBuf : Space → Nat
  | .hbm => 31
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8x128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S8192x128, .f32⟩
  | .hbm, ⟨29, _⟩ => ⟨S16x512x128, .f32⟩
  | .hbm, ⟨30, _⟩ => ⟨S16x128x512, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutcomeRefIdeal.lean ====
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S16x512x128 : Shape := ⟨3, ![16, 512, 128]⟩
abbrev S16x128x512 : Shape := ⟨3, ![16, 128, 512]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8x128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S8192x128, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S16x512x128, .f32⟩
  | .hbm, ⟨39, _⟩ => ⟨S16x128x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Head.lean ====
abbrev S16x3x4096 : Shape := ⟨3, ![16, 3, 4096]⟩
abbrev S16x64x4096 : Shape := ⟨3, ![16, 64, 4096]⟩
abbrev S64x67 : Shape := ⟨2, ![64, 67]⟩
abbrev S64 : Shape := ⟨1, ![64]⟩
abbrev S16x512x3 : Shape := ⟨3, ![16, 512, 3]⟩
abbrev S16x512x32 : Shape := ⟨3, ![16, 512, 32]⟩
abbrev S16 : Shape := ⟨1, ![16]⟩
abbrev S_ : Shape := ⟨0, ![]⟩
abbrev S16x1x1 : Shape := ⟨3, ![16, 1, 1]⟩
abbrev S16x4096x3 : Shape := ⟨3, ![16, 4096, 3]⟩
abbrev S16x4096x64 : Shape := ⟨3, ![16, 4096, 64]⟩
abbrev S65536x64 : Shape := ⟨2, ![65536, 64]⟩
abbrev S65536x3 : Shape := ⟨2, ![65536, 3]⟩
abbrev S64x64 : Shape := ⟨2, ![64, 64]⟩
abbrev S64x3 : Shape := ⟨2, ![64, 3]⟩
abbrev S3x64 : Shape := ⟨2, ![3, 64]⟩
abbrev S1x64 : Shape := ⟨2, ![1, 64]⟩
abbrev S2048x64 : Shape := ⟨2, ![2048, 64]⟩
abbrev S2048x3 : Shape := ⟨2, ![2048, 3]⟩
abbrev S2048x1 : Shape := ⟨2, ![2048, 1]⟩
abbrev S262144 : Shape := ⟨1, ![262144]⟩
abbrev S262144x1 : Shape := ⟨2, ![262144, 1]⟩
abbrev S262144x64 : Shape := ⟨2, ![262144, 64]⟩
abbrev S16x512x64 : Shape := ⟨3, ![16, 512, 64]⟩
abbrev S16x512x32x64 : Shape := ⟨4, ![16, 512, 32, 64]⟩
abbrev S16x512x1x64 : Shape := ⟨4, ![16, 512, 1, 64]⟩

abbrev nBuf : Space → Nat
  | .hbm => 40
  | .vmem => 9
  | .smem => 0
  | _ => 0

abbrev bufTy : (tb : Table) → Fin (tcTables nBuf tb) → BufTy
  | .hbm, ⟨0, _⟩ => ⟨S16x3x4096, .f32⟩
  | .hbm, ⟨1, _⟩ => ⟨S16x64x4096, .f32⟩
  | .hbm, ⟨2, _⟩ => ⟨S64x67, .f32⟩
  | .hbm, ⟨3, _⟩ => ⟨S64, .f32⟩
  | .hbm, ⟨4, _⟩ => ⟨S16x512x3, .f32⟩
  | .hbm, ⟨5, _⟩ => ⟨S16x512x32, .i32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16x1x1, .i32⟩
  | .hbm, ⟨11, _⟩ => ⟨S16x512x32, .i32⟩
  | .hbm, ⟨12, _⟩ => ⟨S16x512x32, .i32⟩
  | .hbm, ⟨13, _⟩ => ⟨S16x4096x3, .f32⟩
  | .hbm, ⟨14, _⟩ => ⟨S16x4096x64, .f32⟩
  | .hbm, ⟨15, _⟩ => ⟨S65536x64, .f32⟩
  | .hbm, ⟨16, _⟩ => ⟨S65536x3, .f32⟩
  | .hbm, ⟨17, _⟩ => ⟨S64x64, .f32⟩
  | .hbm, ⟨18, _⟩ => ⟨S64x64, .f32⟩
  | .hbm, ⟨19, _⟩ => ⟨S64x3, .f32⟩
  | .hbm, ⟨20, _⟩ => ⟨S3x64, .f32⟩
  | .hbm, ⟨21, _⟩ => ⟨S1x64, .f32⟩
  | .hbm, ⟨22, _⟩ => ⟨S65536x64, .f32⟩
  | .hbm, ⟨23, _⟩ => ⟨S262144, .i32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S262144x1, .i32⟩
  | .hbm, ⟨32, _⟩ => ⟨S262144x64, .f32⟩
  | .hbm, ⟨33, _⟩ => ⟨S64x3, .f32⟩
  | .hbm, ⟨34, _⟩ => ⟨S16x512x64, .f32⟩
  | .hbm, ⟨35, _⟩ => ⟨S16x512x32x64, .f32⟩
  | .hbm, ⟨36, _⟩ => ⟨S16x512x1x64, .f32⟩
  | .hbm, ⟨37, _⟩ => ⟨S16x512x32x64, .f32⟩
  | .hbm, ⟨38, _⟩ => ⟨S16x512x32x64, .f32⟩
  | .hbm, ⟨39, _⟩ => ⟨S262144x64, .f32⟩
  | .local _ .vmem, ⟨0, _⟩ => ⟨S2048x64, .f32⟩
  | .local _ .vmem, ⟨1, _⟩ => ⟨S2048x64, .f32⟩
  | .local _ .vmem, ⟨2, _⟩ => ⟨S2048x3, .f32⟩
  | .local _ .vmem, ⟨3, _⟩ => ⟨S2048x3, .f32⟩
  | .local _ .vmem, ⟨4, _⟩ => ⟨S64x64, .f32⟩
  | .local _ .vmem, ⟨5, _⟩ => ⟨S3x64, .f32⟩
  | .local _ .vmem, ⟨6, _⟩ => ⟨S1x64, .f32⟩
  | .local _ .vmem, ⟨7, _⟩ => ⟨S2048x64, .f32⟩
  | .local _ .vmem, ⟨8, _⟩ => ⟨S2048x64, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadRefIdeal.lean ====
abbrev S16x3x4096 : Shape := ⟨3, ![16, 3, 4096]⟩
abbrev S16x64x4096 : Shape := ⟨3, ![16, 64, 4096]⟩
abbrev S64x67 : Shape := ⟨2, ![64, 67]⟩
abbrev S64 : Shape := ⟨1, ![64]⟩
abbrev S16x512x3 : Shape := ⟨3, ![16, 512, 3]⟩
abbrev S16x512x32 : Shape := ⟨3, ![16, 512, 32]⟩
abbrev S16x4096x3 : Shape := ⟨3, ![16, 4096, 3]⟩
abbrev S16x4096x64 : Shape := ⟨3, ![16, 4096, 64]⟩
abbrev S16 : Shape := ⟨1, ![16]⟩
abbrev S16x1x1 : Shape := ⟨3, ![16, 1, 1]⟩
abbrev S_ : Shape := ⟨0, ![]⟩
abbrev S16x512x32x1 : Shape := ⟨4, ![16, 512, 32, 1]⟩
abbrev S16x512x32x2 : Shape := ⟨4, ![16, 512, 32, 2]⟩
abbrev S16x512x32x3 : Shape := ⟨4, ![16, 512, 32, 3]⟩
abbrev S16x512x1x3 : Shape := ⟨4, ![16, 512, 1, 3]⟩
abbrev S16x512x32x64 : Shape := ⟨4, ![16, 512, 32, 64]⟩
abbrev S16x512x32x67 : Shape := ⟨4, ![16, 512, 32, 67]⟩
abbrev S16x67x32x512 : Shape := ⟨4, ![16, 67, 32, 512]⟩
abbrev S64x16x32x512 : Shape := ⟨4, ![64, 16, 32, 512]⟩
abbrev S16x64x32x512 : Shape := ⟨4, ![16, 64, 32, 512]⟩
abbrev S1x64x1x1 : Shape := ⟨4, ![1, 64, 1, 1]⟩
abbrev S262144x64 : Shape := ⟨2, ![262144, 64]⟩

abbrev nBuf : Space → Nat
  | .hbm => 62
  | .vmem => 0
  | .smem => 0
  | _ => 0

abbrev bufTy : (tb : Table) → Fin (tcTables nBuf tb) → BufTy
  | .hbm, ⟨0, _⟩ => ⟨S16x3x4096, .f32⟩
  | .hbm, ⟨1, _⟩ => ⟨S16x64x4096, .f32⟩
  | .hbm, ⟨2, _⟩ => ⟨S64x67, .f32⟩
  | .hbm, ⟨3, _⟩ => ⟨S64, .f32⟩
  | .hbm, ⟨4, _⟩ => ⟨S16x512x3, .f32⟩
  | .hbm, ⟨5, _⟩ => ⟨S16x512x32, .i32⟩
  | .hbm, ⟨6, _⟩ => ⟨S16x4096x3, .f32⟩
  | .hbm, ⟨7, _⟩ => ⟨S16x4096x64, .f32⟩
  | .hbm, ⟨8, _⟩ => ⟨S16, .i32⟩
  | .hbm, ⟨9, _⟩ => ⟨S16x1x1, .i32⟩
  | .hbm, ⟨10, _⟩ => ⟨S_, .i32⟩
  | .hbm, ⟨11, _⟩ => ⟨S16x1x1, .i32⟩
  | .hbm, ⟨12, _⟩ => ⟨S16x1x1, .i1⟩
  | .hbm, ⟨13, _⟩ => ⟨S_, .i32⟩
  | .hbm, ⟨14, _⟩ => ⟨S16x1x1, .i32⟩
  | .hbm, ⟨15, _⟩ => ⟨S16x1x1, .i32⟩
  | .hbm, ⟨16, _⟩ => ⟨S16x1x1, .i32⟩
  | .hbm, ⟨17, _⟩ => ⟨S_, .i32⟩
  | .hbm, ⟨18, _⟩ => ⟨S16x512x32, .i32⟩
  | .hbm, ⟨19, _⟩ => ⟨S16x512x32, .i1⟩
  | .hbm, ⟨20, _⟩ => ⟨S_, .i32⟩
  | .hbm, ⟨21, _⟩ => ⟨S16x512x32, .i32⟩
  | .hbm, ⟨22, _⟩ => ⟨S16x512x32, .i32⟩
  | .hbm, ⟨23, _⟩ => ⟨S16x512x32, .i32⟩
  | .hbm, ⟨24, _⟩ => ⟨S16x512x32, .i32⟩
  | .hbm, ⟨25, _⟩ => ⟨S16x512x32x1, .i32⟩
  | .hbm, ⟨26, _⟩ => ⟨S16x512x32x1, .i32⟩
  | .hbm, ⟨27, _⟩ => ⟨S16x512x32x2, .i32⟩
  | .hbm, ⟨28, _⟩ => ⟨S16x512x32x3, .f32⟩
  | .hbm, ⟨29, _⟩ => ⟨S16x512x1x3, .f32⟩
  | .hbm, ⟨30, _⟩ => ⟨S16x512x32x3, .f32⟩
  | .hbm, ⟨31, _⟩ => ⟨S16x512x32x3, .f32⟩
  | .hbm, ⟨32, _⟩ => ⟨S16, .i32⟩
  | .hbm, ⟨33, _⟩ => ⟨S16x1x1, .i32⟩
  | .hbm, ⟨34, _⟩ => ⟨S_, .i32⟩
  | .hbm, ⟨35, _⟩ => ⟨S16x1x1, .i32⟩
  | .hbm, ⟨36, _⟩ => ⟨S16x1x1, .i1⟩
  | .hbm, ⟨37, _⟩ => ⟨S_, .i32⟩
  | .hbm, ⟨38, _⟩ => ⟨S16x1x1, .i32⟩
  | .hbm, ⟨39, _⟩ => ⟨S16x1x1, .i32⟩
  | .hbm, ⟨40, _⟩ => ⟨S16x1x1, .i32⟩
  | .hbm, ⟨41, _⟩ => ⟨S_, .i32⟩
  | .hbm, ⟨42, _⟩ => ⟨S16x512x32, .i32⟩
  | .hbm, ⟨43, _⟩ => ⟨S16x512x32, .i1⟩
  | .hbm, ⟨44, _⟩ => ⟨S_, .i32⟩
  | .hbm, ⟨45, _⟩ => ⟨S16x512x32, .i32⟩
  | .hbm, ⟨46, _⟩ => ⟨S16x512x32, .i32⟩
  | .hbm, ⟨47, _⟩ => ⟨S16x512x32, .i32⟩
  | .hbm, ⟨48, _⟩ => ⟨S16x512x32, .i32⟩
  | .hbm, ⟨49, _⟩ => ⟨S16x512x32x1, .i32⟩
  | .hbm, ⟨50, _⟩ => ⟨S16x512x32x1, .i32⟩
  | .hbm, ⟨51, _⟩ => ⟨S16x512x32x2, .i32⟩
  | .hbm, ⟨52, _⟩ => ⟨S16x512x32x64, .f32⟩
  | .hbm, ⟨53, _⟩ => ⟨S16x512x32x67, .f32⟩
  | .hbm, ⟨54, _⟩ => ⟨S16x67x32x512, .f32⟩
  | .hbm, ⟨55, _⟩ => ⟨S64x16x32x512, .f32⟩
  | .hbm, ⟨56, _⟩ => ⟨S16x64x32x512, .f32⟩
  | .hbm, ⟨57, _⟩ => ⟨S1x64x1x1, .f32⟩
  | .hbm, ⟨58, _⟩ => ⟨S16x64x32x512, .f32⟩
  | .hbm, ⟨59, _⟩ => ⟨S16x64x32x512, .f32⟩
  | .hbm, ⟨60, _⟩ => ⟨S16x512x32x64, .f32⟩
  | .hbm, ⟨61, _⟩ => ⟨S262144x64, .f32⟩
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Moments.lean ====
abbrev S262144x64 : Shape := ⟨2, ![262144, 64]⟩
abbrev S64 : Shape := ⟨1, ![64]⟩
abbrev S8x64 : Shape := ⟨2, ![8, 64]⟩
abbrev S1024x64 : Shape := ⟨2, ![1024, 64]⟩
abbrev S1x64 : Shape := ⟨2, ![1, 64]⟩
abbrev S_ : Shape := ⟨0, ![]⟩

abbrev nBuf : Space → Nat
  | .hbm => 26
  | .vmem => 4
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S8x64, .f32⟩
  | .hbm, ⟨4, _⟩ => ⟨S1x64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .local _ .vmem, ⟨0, _⟩ => ⟨S1024x64, .f32⟩
  | .local _ .vmem, ⟨1, _⟩ => ⟨S1024x64, .f32⟩
  | .local _ .vmem, ⟨2, _⟩ => ⟨S8x64, .f32⟩
  | .local _ .vmem, ⟨3, _⟩ => ⟨S8x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v19 : BitVec 1 := Scalar.cmpi .eq arg0 c255_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== MomentsRefIdeal.lean ====
abbrev S262144x64 : Shape := ⟨2, ![262144, 64]⟩
abbrev S64 : Shape := ⟨1, ![64]⟩
abbrev S_ : Shape := ⟨0, ![]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S262144x64, .f32⟩
  | .hbm, ⟨11, _⟩ => ⟨S262144x64, .f32⟩
  | .hbm, ⟨12, _⟩ => ⟨S262144x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_cst_2 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_cst_3 : Ref sig .tc := ⟨.hbm, 20, rfl⟩
abbrev main_call0_v12 : Ref sig .tc := ⟨.hbm, 21, rfl⟩
abbrev main_call0_cst_4 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]
-- ==== Proof.Rows.lean ====
/- Two rows of an eight-row accumulator: what the two row stores of a grid point leave in it, read back. -/
module

public import Idealize.ShloMosaic.Lib.WritesUnit
public import Idealize.ShloMosaic.Lib.Pointwise
public import Idealize.ShloMosaic.Lib.Pipeline.Value
public import Idealize.ShloMosaic.Lib.Tactic

@[expose] public section

set_option maxRecDepth 16384

noncomputable section

namespace Cert.Rows

open Idealize.ShloMosaic

variable {sig : RefSig} {κ : Kind} {sp : Space} {e : EltTy} {Val : EltTy → Type} {d : ℕ}

theorem hz : (![0, 0] : Fin 2 → Nat) = fun _ => 0 := funext fun a => by fin_cases a <;> rfl

/-- Rows 0 and 1 replaced, the other six kept. -/
def put01 {α : Type} (acc : (⟨2, ![8, d]⟩ : Shape).Idx → α) (r0 r1 : (⟨2, ![1, d]⟩ : Shape).Idx → α) :
    (⟨2, ![8, d]⟩ : Shape).Idx → α := fun y =>
  if (y 0).val = 1 then r1 (ix2 0 (y 1)) else if (y 0).val = 0 then r0 (ix2 0 (y 1)) else acc y

/-- Row `k` alone. -/
def row {α : Type} (acc : (⟨2, ![8, d]⟩ : Shape).Idx → α) (k : Fin 8) : (⟨2, ![1, d]⟩ : Shape).Idx → α :=
  fun x => acc (ix2 k (x 1))

theorem ld_row (acc : (⟨2, ![8, d]⟩ : Shape).Idx → Val e) (k : Fin 8)
    (inb : ∀ a : Fin 2, (![k.val, 0] : Fin 2 → ℕ) a + (![1, d] : Fin 2 → ℕ) a ≤ (![8, d] : Fin 2 → ℕ) a) :
    View.ld acc (Rect.unit (s := ⟨2, ![8, d]⟩) ![k.val, 0] ![1, d] inb) = row acc k := by
  rw [View.ld_unit]
  funext x
  show acc _ = acc _
  congr 1
  funext a
  apply Fin.ext
  have h0 : (x 0).val = 0 := by have : (x 0).val < 1 := (x 0).isLt; omega
  match a with
  | ⟨0, _⟩ => show k.val + (x 0).val = k.val; omega
  | ⟨1, _⟩ => show 0 + (x 1).val = (x 1).val; omega

variable (v : View sig κ sp (⟨2, ![8, d]⟩ : Shape) e)

section
variable (f : v.ty.Contents Val)
  (inb0 : ∀ a : Fin 2, (![0, 0] : Fin 2 → ℕ) a + (![1, d] : Fin 2 → ℕ) a ≤ (![8, d] : Fin 2 → ℕ) a)
  (inb1 : ∀ a : Fin 2, (![1, 0] : Fin 2 → ℕ) a + (![1, d] : Fin 2 → ℕ) a ≤ (![8, d] : Fin 2 → ℕ) a)

theorem read_two (r0 r1 : (⟨2, ![1, d]⟩ : Shape).Idx → Val e) (L : List (View.Piece Val (⟨2, ![8, d]⟩ : Shape) e)) :
    v.read Val (v.writes Val f ((⟨Rect.unit (s := ⟨2, ![8, d]⟩) ![1, 0] ![1, d] inb1, r1⟩ : View.Piece Val (⟨2, ![8, d]⟩ : Shape) e)
      :: (⟨Rect.unit (s := ⟨2, ![8, d]⟩) ![0, 0] ![1, d] inb0, r0⟩ : View.Piece Val (⟨2, ![8, d]⟩ : Shape) e) :: L))
      = put01 (v.read Val (v.writes Val f L)) r0 r1 := by
  funext y
  unfold put01
  by_cases h1 : (y 0).val = 1
  · rw [if_pos h1]
    exact View.read_writes_cons_rows_of_mem v f inb1 r1 _ y (ix2 0 (y 1)) rfl (by rw [h1]; rfl) rfl
  · rw [if_neg h1, View.read_writes_cons_rows_of_not_mem v f (o := 1) (W := 1) inb1 r1 _ y rfl rfl (by omega)]
    by_cases h0 : (y 0).val = 0
    · rw [if_pos h0]
      exact View.read_writes_cons_rows_of_mem v f inb0 r0 _ y (ix2 0 (y 1)) rfl (by rw [h0]; rfl) rfl
    · rw [if_neg h0, View.read_writes_cons_rows_of_not_mem v f (o := 0) (W := 1) inb0 r0 _ y rfl rfl (by omega)]

theorem read_whole [∀ e, Nonempty (Val e)] (inb : ∀ a : Fin 2, (![0, 0] : Fin 2 → ℕ) a + (![8, d] : Fin 2 → ℕ) a ≤ (![8, d] : Fin 2 → ℕ) a)
    (w : (⟨2, ![8, d]⟩ : Shape).Idx → Val e) :
    v.read Val (v.writes Val f [(⟨Rect.unit (s := ⟨2, ![8, d]⟩) ![0, 0] ![8, d] inb, w⟩ : View.Piece Val (⟨2, ![8, d]⟩ : Shape) e)]) = w := by
  funext y
  exact View.read_writes_cons_rows_of_mem v f inb w _ y y rfl (by rw [Nat.zero_add]) rfl

theorem readCov0 [∀ e, Nonempty (Val e)] (inb : ∀ a : Fin 2, (![0, 0] : Fin 2 → ℕ) a + (![8, d] : Fin 2 → ℕ) a ≤ (![8, d] : Fin 2 → ℕ) a)
    (w : (⟨2, ![8, d]⟩ : Shape).Idx → Val e) :
    v.readCov [(⟨Rect.unit (s := ⟨2, ![8, d]⟩) ![0, 0] ![8, d] inb, w⟩ : View.Piece Val (⟨2, ![8, d]⟩ : Shape) e)]
      (Rect.unit (s := ⟨2, ![8, d]⟩) ![0, 0] ![1, d] inb0).toLoadRect = row w 0 := by
  have h := ld_row (Val := Val) (e := e) w 0 inb0
  rw [← h]
  funext x
  show v.read Val (v.writes Val v.junk _) ((Rect.unit (s := ⟨2, ![8, d]⟩) ![0, 0] ![1, d] inb0).emb x) = w ((Rect.unit (s := ⟨2, ![8, d]⟩) ![0, 0] ![1, d] inb0).emb x)
  rw [read_whole]

theorem readCov1 [∀ e, Nonempty (Val e)] (inb : ∀ a : Fin 2, (![0, 0] : Fin 2 → ℕ) a + (![8, d] : Fin 2 → ℕ) a ≤ (![8, d] : Fin 2 → ℕ) a)
    (w : (⟨2, ![8, d]⟩ : Shape).Idx → Val e) (r0 : (⟨2, ![1, d]⟩ : Shape).Idx → Val e) :
    v.readCov [(⟨Rect.unit (s := ⟨2, ![8, d]⟩) ![0, 0] ![1, d] inb0, r0⟩ : View.Piece Val (⟨2, ![8, d]⟩ : Shape) e),
        (⟨Rect.unit (s := ⟨2, ![8, d]⟩) ![0, 0] ![8, d] inb, w⟩ : View.Piece Val (⟨2, ![8, d]⟩ : Shape) e)]
      (Rect.unit (s := ⟨2, ![8, d]⟩) ![1, 0] ![1, d] inb1).toLoadRect = row w 1 := by
  have h := ld_row (Val := Val) (e := e) w 1 inb1
  rw [← h]
  funext x
  show v.read Val (v.writes Val v.junk _) ((Rect.unit (s := ⟨2, ![8, d]⟩) ![1, 0] ![1, d] inb1).emb x) = w ((Rect.unit (s := ⟨2, ![8, d]⟩) ![1, 0] ![1, d] inb1).emb x)
  rw [View.read_writes_cons_rows_of_not_mem v v.junk (o := 0) (W := 1) inb0 r0 _ _ rfl rfl (.inr (by
    show 0 + 1 ≤ 1 + 1 * _
    omega)), read_whole]

end

end Cert.Rows

end
-- ==== Proof.Step.lean ====
/- What one grid point leaves: the block of group maxima and the accumulator with its two rows added to. -/
module

public import proofs.«01_k».proof.Proof.Gen.KernelIdeal.Value
public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.SL.Sem
open Cert.Rows

variable {F : FTy → Type} [FloatOps F]

/-- The accumulator after a point, from the accumulator before it. -/
def stepAcc (x0 : Vec F S1024x64 .f32) (x1 : Vec F S1x64 .f32) (x2 : Vec F S1x64 .f32) (x3 : Vec F S64x128 .f32) (acc : Vec F S8x128 .f32) : Vec F S8x128 .f32 :=
  put01 (d := 128) acc (k0_pay4 x0 x1 x2 x3 (row (d := 128) acc 0)) (k0_pay5 x0 x1 x2 x3 (row (d := 128) acc 1))

section
variable (c : Dev nD) (i : grid0.Coords) (arg1 : Memref sig .tc .vmem S1024x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S32x128 .f32) (harg5 : arg5.IsWhole) (arg6 : Memref sig .tc .vmem S8x128 .f32) (harg6 : arg6.IsWhole) (arg7 : Memref sig .tc .vmem S8x128 .f32) (harg7 : arg7.IsWhole)
    (x0 : Vec F S1024x64 .f32) (x1 : Vec F S1x64 .f32) (x2 : Vec F S1x64 .f32) (x3 : Vec F S64x128 .f32) (xs0 : Vec F S8x128 .f32)

theorem sout_A (hc0 : cond0_0 i) (hc1 : ¬cond0_1 i) :
    sout0_A_0 c i arg1 harg1 arg2 harg2 arg3 harg3 arg4 harg4 arg5 harg5 arg6 harg6 arg7 harg7 hc0 hc1 x0 x1 x2 x3 = stepAcc x0 x1 x2 x3 (k0_pay2 (F := F)) := by
  unfold sout0_A_0 kernelRun0_A
  dsimp only
  sl_unfold_words
  refine (read_two (d := 128) VS0_0 VS0_0.junk _ _ _ _ _).trans ?_
  unfold stepAcc
  rw [read_whole (d := 128), readCov0 (d := 128), readCov1 (d := 128)]
  simp only [View.readAt_eq_ld, harg1.read_unread, harg2.read_unread, harg3.read_unread, harg4.read_unread,
    View.ld_unit_zero (S := S1024x64) hz, View.ld_unit_zero (S := S1x64) hz, View.ld_unit_zero (S := S64x128) hz]

theorem sout_B (hc0 : ¬cond0_0 i) (hc1 : ¬cond0_1 i) :
    sout0_B_0 c i arg1 harg1 arg2 harg2 arg3 harg3 arg4 harg4 arg5 harg5 arg6 harg6 arg7 harg7 hc0 hc1 x0 x1 x2 x3 xs0 = stepAcc x0 x1 x2 x3 xs0 := by
  unfold sout0_B_0 kernelRun0_B
  dsimp only
  sl_unfold_words
  refine (read_two (d := 128) arg7.view _ _ _ _ _ _).trans ?_
  unfold stepAcc
  simp only [View.readAt_eq_ld, harg1.read_unread, harg2.read_unread, harg3.read_unread, harg4.read_unread, harg7.read_unread,
    View.ld_unit_zero (S := S1024x64) hz, View.ld_unit_zero (S := S1x64) hz, View.ld_unit_zero (S := S64x128) hz, View.writes_nil]
  rw [← ld_row (Val := Elt F) (e := .f32) (d := 128) xs0 0 inb_S8x128_S1x128_0_0, ← ld_row (Val := Elt F) (e := .f32) (d := 128) xs0 1 inb_S8x128_S1x128_1_0]
  rfl

theorem sout_C (hc0 : ¬cond0_0 i) (hc1 : cond0_1 i) :
    sout0_C_0 c i arg1 harg1 arg2 harg2 arg3 harg3 arg4 harg4 arg5 harg5 arg6 harg6 arg7 harg7 hc0 hc1 x0 x1 x2 x3 xs0 = stepAcc x0 x1 x2 x3 xs0 := by
  unfold sout0_C_0 kernelRun0_C
  dsimp only
  sl_unfold_words
  refine (read_two (d := 128) arg7.view _ _ _ _ _ _).trans ?_
  unfold stepAcc
  simp only [View.readAt_eq_ld, harg1.read_unread, harg2.read_unread, harg3.read_unread, harg4.read_unread, harg7.read_unread,
    View.ld_unit_zero (S := S1024x64) hz, View.ld_unit_zero (S := S1x64) hz, View.ld_unit_zero (S := S64x128) hz, View.writes_nil]
  rw [← ld_row (Val := Elt F) (e := .f32) (d := 128) xs0 0 inb_S8x128_S1x128_0_0, ← ld_row (Val := Elt F) (e := .f32) (d := 128) xs0 1 inb_S8x128_S1x128_1_0]
  rfl

theorem out4_A (hc0 : cond0_0 i) (hc1 : ¬cond0_1 i) :
    out0_A_4 c i arg1 harg1 arg2 harg2 arg3 harg3 arg4 harg4 arg5 harg5 arg6 harg6 arg7 harg7 hc0 hc1 x0 x1 x2 x3 = k0_pay1 (k0_pay6 x0 x1 x2 x3) := by
  unfold out0_A_4
  rw [View.read_writes_junk_eq_canon]
  unfold kernelRun0_A
  dsimp only
  sl_unfold_words
  rw [View.canon_unit_zero (S := S32x128) hz]
  simp only [View.readAt_eq_ld, harg1.read_unread, harg2.read_unread, harg3.read_unread, harg4.read_unread,
    View.ld_unit_zero (S := S1024x64) hz, View.ld_unit_zero (S := S1x64) hz, View.ld_unit_zero (S := S64x128) hz]

theorem out4_B (hc0 : ¬cond0_0 i) (hc1 : ¬cond0_1 i) :
    out0_B_4 c i arg1 harg1 arg2 harg2 arg3 harg3 arg4 harg4 arg5 harg5 arg6 harg6 arg7 harg7 hc0 hc1 x0 x1 x2 x3 xs0 = k0_pay1 (k0_pay6 x0 x1 x2 x3) := by
  unfold out0_B_4
  rw [View.read_writes_junk_eq_canon]
  unfold kernelRun0_B
  dsimp only
  sl_unfold_words
  rw [View.canon_unit_zero (S := S32x128) hz]
  simp only [View.readAt_eq_ld, harg1.read_unread, harg2.read_unread, harg3.read_unread, harg4.read_unread,
    View.ld_unit_zero (S := S1024x64) hz, View.ld_unit_zero (S := S1x64) hz, View.ld_unit_zero (S := S64x128) hz]

theorem out4_C (hc0 : ¬cond0_0 i) (hc1 : cond0_1 i) :
    out0_C_4 c i arg1 harg1 arg2 harg2 arg3 harg3 arg4 harg4 arg5 harg5 arg6 harg6 arg7 harg7 hc0 hc1 x0 x1 x2 x3 xs0 = k0_pay1 (k0_pay6 x0 x1 x2 x3) := by
  unfold out0_C_4
  rw [View.read_writes_junk_eq_canon]
  unfold kernelRun0_C
  dsimp only
  sl_unfold_words
  rw [View.canon_unit_zero (S := S32x128) hz]
  simp only [View.readAt_eq_ld, harg1.read_unread, harg2.read_unread, harg3.read_unread, harg4.read_unread,
    View.ld_unit_zero (S := S1024x64) hz, View.ld_unit_zero (S := S1x64) hz, View.ld_unit_zero (S := S64x128) hz]

theorem out5_C (hc0 : ¬cond0_0 i) (hc1 : cond0_1 i) :
    out0_C_5 c i arg1 harg1 arg2 harg2 arg3 harg3 arg4 harg4 arg5 harg5 arg6 harg6 arg7 harg7 hc0 hc1 x0 x1 x2 x3 xs0 = stepAcc x0 x1 x2 x3 xs0 := by
  rw [← sout_C c i arg1 harg1 arg2 harg2 arg3 harg3 arg4 harg4 arg5 harg5 arg6 harg6 arg7 harg7 x0 x1 x2 x3 xs0 hc0 hc1]
  unfold out0_C_5 sout0_C_0
  rw [View.read_writes_junk_eq_canon]
  unfold kernelRun0_C
  dsimp only
  sl_unfold_words
  rw [View.canon_unit_zero (S := S8x128) hz]
  simp only [View.readAt_eq_ld, View.ld_unit_zero (S := S8x128) hz]

end

end Cert.KernelIdeal.Value

end
-- ==== Proof.Fold.lean ====
/- The scratch after each grid point, and what the two results take of it. -/
module

public import proofs.«01_k».proof.Proof.Step

@[expose] public section

set_option maxRecDepth 16384

noncomputable section

namespace Cert.KernelIdeal.Value

open Cert.KernelIdeal Cert.KernelIdeal.Gen Idealize.ShloMosaic Idealize.ShloMosaic.TcCoe Idealize.SL.Sem
open Cert.Rows

variable {F : FTy → Type} [FloatOps F]

variable (m : (ℓ : Loc nD τ sig) → Buf (Elt F) ℓ)

/-- The scratch after point `n`, as the fold of the point's step. -/
def accum (c : Dev nD) : ℕ → Vec F S8x128 .f32
  | 0 => if h : 0 < cfg0.N then stepAcc (iblk m c 0 ⟨0, h⟩) (iblk m c 1 ⟨0, h⟩) (iblk m c 2 ⟨0, h⟩) (iblk m c 3 ⟨0, h⟩) (k0_pay2 (F := F)) else k0_pay2 (F := F)
  | n + 1 => if h : n + 1 < cfg0.N then stepAcc (iblk m c 0 ⟨n + 1, h⟩) (iblk m c 1 ⟨n + 1, h⟩) (iblk m c 2 ⟨n + 1, h⟩) (iblk m c 3 ⟨n + 1, h⟩) (accum c n) else accum c n

abbrev fold (c : Dev nD) (n : ℕ) (h : 0 + n < cfg0.N) := Pipeline.accAt (fun n h => stAt0 m c n h junk0) (stAt0 m c) 0 n h

theorem fold_scratch (c : Dev nD) : ∀ (n : ℕ) (h : 0 + n < cfg0.N), (fold m c n h).2.2 = accum m c n
  | 0, h => by
    show (stAt0 m c 0 h junk0).2.2 = _
    rw [stAt0_A m c ⟨0, h⟩ _ (by simp) (by simp)]
    dsimp only
    rw [sout_A, accum, dif_pos]
  | n + 1, h => by
    have hN : 0 + (n + 1) < 256 := lt_of_lt_of_eq h N_0
    have hn : n + 1 < cfg0.N := by omega
    have ih := fold_scratch c n (by omega)
    have e : fold m c (n + 1) h = stAt0 m c (n + 1) hn (fold m c n (by omega)) := by
      show stAt0 m c (0 + (n + 1)) h _ = _
      congr 1
      omega
    rw [e, accum, dif_pos hn, ← ih]
    by_cases h1 : (n + 1) % 256 = 255
    · rw [stAt0_C m c ⟨n + 1, hn⟩ _ (by dsimp only; omega) h1]
      dsimp only
      rw [sout_C]
    · rw [stAt0_B m c ⟨n + 1, hn⟩ _ (by dsimp only; omega) h1]
      dsimp only
      rw [sout_B]

theorem fold_group (c : Dev nD) (n : ℕ) (h : 0 + n < cfg0.N) (hn : n < cfg0.N) :
    (fold m c n h).1 = k0_pay1 (k0_pay6 (iblk m c 0 ⟨n, hn⟩) (iblk m c 1 ⟨n, hn⟩) (iblk m c 2 ⟨n, hn⟩) (iblk m c 3 ⟨n, hn⟩)) := by
  cases n with
  | zero =>
    show (stAt0 m c 0 h junk0).1 = _
    rw [stAt0_A m c ⟨0, h⟩ _ (by simp) (by simp)]
    dsimp only
    rw [out4_A]
  | succ n =>
    have hN : n + 1 < 256 := lt_of_lt_of_eq hn N_0
    have e : fold m c (n + 1) h = stAt0 m c (n + 1) hn (fold m c n (by omega)) := by
      show stAt0 m c (0 + (n + 1)) h _ = _
      congr 1
      omega
    rw [e]
    by_cases h1 : (n + 1) % 256 = 255
    · rw [stAt0_C m c ⟨n + 1, hn⟩ _ (by dsimp only; omega) h1]
      dsimp only
      rw [out4_C]
    · rw [stAt0_B m c ⟨n + 1, hn⟩ _ (by dsimp only; omega) h1]
      dsimp only
      rw [out4_B]

theorem fold_stats (c : Dev nD) (n : ℕ) (h : 0 + (n + 1) < cfg0.N) (h1 : (n + 1) % 256 = 255) : (fold m c (n + 1) h).2.1 = accum m c (n + 1) := by
  have hn : n + 1 < cfg0.N := by omega
  have ih := fold_scratch m c n (by omega)
  have e : fold m c (n + 1) h = stAt0 m c (n + 1) hn (fold m c n (by omega)) := by
    show stAt0 m c (0 + (n + 1)) h _ = _
    congr 1
    omega
  rw [e, accum, dif_pos hn, ← ih, stAt0_C m c ⟨n + 1, hn⟩ _ (by dsimp only; omega) h1]
  dsimp only
  rw [out5_C]

theorem fold_last (c : Dev nD) : ∀ (n : ℕ) (h : 0 + n < cfg0.N) (_ : n % 256 = 255), (fold m c n h).2.1 = accum m c n
  | 0, _, h1 => absurd h1 (by decide)
  | n + 1, h, h1 => fold_stats m c n h h1

end Cert.KernelIdeal.Value
end
-- ==== Proof.Algebra.lean ====
/- The arithmetic of the layer over the extended reals: a block's product is the reference's rows of that block; the
   accumulator's two rows end at the column sums of the product and of its squares; a group's maximum is over its
   32 rows. -/
module

public import proofs.«01_k».proof.Proof.Step
public import proofs.«01_k».proof.Proof.Gen.ReferenceIdeal.Run
public import Idealize.ShloMosaic.Lib.Pointwise
public import Idealize.ShloMosaic.Lib.Pipeline.ValueKit.Point

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The reference's product: the scaled, shifted and clipped rows times the transposed weights. -/
def prod (z : Vec Ideal S262144x64 .f32) (sc : Vec Ideal S64 .f32) (sh : Vec Ideal S64 .f32) (w : Vec Ideal S128x64 .f32) : Vec Ideal S262144x128 .f32 :=
  Host.dotGeneral (F := Ideal) (φ₁ := .f32) (φ₂ := .f32) dot_S262144x64_S64x128_S262144x128_1_0_0_1_n_n none
    (maximumf (addf (mulf z (broadcastInDim S262144x64 ![0, 1] bcast_S1x64_S262144x64_0_1 (broadcastInDim S1x64 ![1] bcast_S64_S1x64_1 sc)))
      (broadcastInDim S262144x64 ![0, 1] bcast_S1x64_S262144x64_0_1 (broadcastInDim S1x64 ![1] bcast_S64_S1x64_1 sh)))
      (broadcastInDim S262144x64 ![] bcast_S_S262144x64 (constant S_ .f32 0x00000000#32)))
    (transpose S64x128 [1, 0] w transposes_S128x64_S64x128_1_0)

theorem prod_apply (z : Vec Ideal S262144x64 .f32) (sc : Vec Ideal S64 .f32) (sh : Vec Ideal S64 .f32) (w : Vec Ideal S128x64 .f32) (j : S262144x128.Idx) :
    prod z sc sh w j = ∑ k : Fin 64, max (z (ix2 (j 0) k) * sc (ix1 k) + sh (ix1 k)) 0 * w (ix2 (j 1) k) := by
  unfold prod
  pointwise [dot_S262144x64_S64x128_S262144x128_1_0_0_1_n_n]

end Cert.ReferenceIdeal.Value

namespace Cert.KernelIdeal.Value

open Cert.KernelIdeal Cert.KernelIdeal.Gen Idealize.ShloMosaic Idealize.ShloMosaic.TcCoe Idealize.SL.Sem
open Cert.Rows

theorem pay3_apply (x0 : Vec Ideal S1024x64 .f32) (x1 : Vec Ideal S1x64 .f32) (x2 : Vec Ideal S1x64 .f32) (x3 : Vec Ideal S64x128 .f32) (j : S1024x128.Idx) :
    k0_pay3 x0 x1 x2 x3 j = ∑ k : Fin 64, max (x0 (ix2 (j 0) k) * x1 (ix2 0 k) + x2 (ix2 0 k)) 0 * x3 (ix2 k (j 1)) := by
  unfold_payloads
  pointwise [dot_S1024x64_S64x128_S1024x128_1_0_0_1_n_n]

theorem pay4_apply (x0 : Vec Ideal S1024x64 .f32) (x1 : Vec Ideal S1x64 .f32) (x2 : Vec Ideal S1x64 .f32) (x3 : Vec Ideal S64x128 .f32) (a : Vec Ideal S1x128 .f32) (j : S1x128.Idx) :
    k0_pay4 x0 x1 x2 x3 a j = a j + ∑ r : Fin 1024, k0_pay3 x0 x1 x2 x3 (ix2 r (j 1)) := by
  unfold k0_pay4
  pointwise

theorem pay5_apply (x0 : Vec Ideal S1024x64 .f32) (x1 : Vec Ideal S1x64 .f32) (x2 : Vec Ideal S1x64 .f32) (x3 : Vec Ideal S64x128 .f32) (a : Vec Ideal S1x128 .f32) (j : S1x128.Idx) :
    k0_pay5 x0 x1 x2 x3 a j = a j + ∑ r : Fin 1024, k0_pay3 x0 x1 x2 x3 (ix2 r (j 1)) * k0_pay3 x0 x1 x2 x3 (ix2 r (j 1)) := by
  unfold k0_pay5
  pointwise

theorem pay16_apply (x0 : Vec Ideal S1024x64 .f32) (x1 : Vec Ideal S1x64 .f32) (x2 : Vec Ideal S1x64 .f32) (x3 : Vec Ideal S64x128 .f32) (j : S32x128.Idx) :
    k0_pay1 (k0_pay6 x0 x1 x2 x3) j = (Finset.univ : Finset (Fin 32)).fold max (Ideal.ofBits .f32 0xFF800000#32)
      (fun s => k0_pay3 x0 x1 x2 x3 (ix2 ⟨(j 0).val * 32 + s.val, by have := (j 0).isLt; have : (j 0).val < 32 := this; omega⟩ (j 1))) := by
  unfold k0_pay1 k0_pay6
  pointwise

variable (m : (ℓ : Loc nD τ sig) → Buf (Elt Ideal) ℓ)

/-- The reference's product of the launch's own arguments. -/
def P (c : Dev nD) : Vec Ideal ⟨2, ![262144, 128]⟩ .f32 :=
  Cert.ReferenceIdeal.Value.prod (m ((c : Thread nD τ).loc main_arg0)) (m ((c : Thread nD τ).loc main_arg1)) (m ((c : Thread nD τ).loc main_arg2)) (m ((c : Thread nD τ).loc main_arg3))

theorem blk0 (c : Dev nD) (t : Fin cfg0.N) (r : Fin 1024) (k : Fin 64) :
    (iblk m c 0 t : Vec Ideal S1024x64 .f32) (ix2 r k) = m ((c : Thread nD τ).loc main_arg0) (ix2 ⟨t.val * 1024 + r.val, by have h : t.val < 256 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  blk_ext [iblk, V, hi.1, hi.2]

theorem blk1 (c : Dev nD) (t : Fin cfg0.N) (k : Fin 64) :
    (iblk m c 1 t : Vec Ideal S1x64 .f32) (ix2 0 k) = m ((c : Thread nD τ).loc main_arg1) (ix1 k) := by
  have hi : win0_1.index t 0 = 0 ∧ win0_1.index t 1 = 0 :=
    (by decide +kernel : ∀ t : Fin grid0.N, win0_1.index t 0 = 0 ∧ win0_1.index t 1 = 0) t
  have e : V m c main_v0 = broadcastInDim S1x64 ![1] bcast_S64_S1x64_1 (m ((c : Thread nD τ).loc main_arg1)) := by entry_read; rfl
  have h : (iblk m c 1 t : Vec Ideal S1x64 .f32) (ix2 0 k) = V m c main_v0 (ix2 0 k) := by
    unfold iblk
    generalize V m c = W
    blk_ext [hi.1, hi.2]
  rw [h, e]
  pointwise

theorem blk2 (c : Dev nD) (t : Fin cfg0.N) (k : Fin 64) :
    (iblk m c 2 t : Vec Ideal S1x64 .f32) (ix2 0 k) = m ((c : Thread nD τ).loc main_arg2) (ix1 k) := by
  have hi : win0_2.index t 0 = 0 ∧ win0_2.index t 1 = 0 :=
    (by decide +kernel : ∀ t : Fin grid0.N, win0_2.index t 0 = 0 ∧ win0_2.index t 1 = 0) t
  have e : V m c main_v1 = broadcastInDim S1x64 ![1] bcast_S64_S1x64_1 (m ((c : Thread nD τ).loc main_arg2)) := by entry_read; rfl
  have h : (iblk m c 2 t : Vec Ideal S1x64 .f32) (ix2 0 k) = V m c main_v1 (ix2 0 k) := by
    unfold iblk
    generalize V m c = W
    blk_ext [hi.1, hi.2]
  rw [h, e]
  pointwise

theorem blk3 (c : Dev nD) (t : Fin cfg0.N) (k : Fin 64) (j : Fin 128) :
    (iblk m c 3 t : Vec Ideal S64x128 .f32) (ix2 k j) = m ((c : Thread nD τ).loc main_arg3) (ix2 j k) := by
  have hi : win0_3.index t 0 = 0 ∧ win0_3.index t 1 = 0 :=
    (by decide +kernel : ∀ t : Fin grid0.N, win0_3.index t 0 = 0 ∧ win0_3.index t 1 = 0) t
  have e : V m c main_v2 = transpose S64x128 [1, 0] (m ((c : Thread nD τ).loc main_arg3)) transposes_S128x64_S64x128_1_0 := by entry_read; rfl
  have h : (iblk m c 3 t : Vec Ideal S64x128 .f32) (ix2 k j) = V m c main_v2 (ix2 k j) := by
    unfold iblk
    generalize V m c = W
    blk_ext [hi.1, hi.2]
  rw [h, e]
  pointwise

theorem point (c : Dev nD) (t : Fin cfg0.N) (r : Fin 1024) (j : Fin 128) :
    k0_pay3 (iblk m c 0 t) (iblk m c 1 t) (iblk m c 2 t) (iblk m c 3 t) (ix2 r j)
      = P m c (ix2 ⟨t.val * 1024 + r.val, by have h : t.val < 256 := lt_of_lt_of_eq t.isLt N_0; have := r.isLt; omega⟩ j) := by
  rw [pay3_apply]
  unfold P
  rw [Cert.ReferenceIdeal.Value.prod_apply]
  refine Finset.sum_congr rfl fun k _ => ?_
  exact congrArg₂ (· * ·) (congrArg₂ max (congrArg₂ (· + ·) (congrArg₂ (· * ·) (blk0 m c t r k) (blk1 m c t k)) (blk2 m c t k)) rfl) (blk3 m c t k j)

end Cert.KernelIdeal.Value
end
-- ==== Proof.Sums.lean ====
/- Column sums gathered block by block: a block's share of a column, the shares of all blocks together, and an
   eight-row accumulator whose first two rows collect a column's sum and the sum of its squares. -/
module

public import proofs.«01_k».proof.Proof.Rows

@[expose] public section

set_option maxRecDepth 16384

noncomputable section

namespace Cert.Rows

open Idealize.ShloMosaic

variable {d : ℕ}

/-- A column's sum over the rows of block `t`. -/
def blockSum (X : Vec Ideal ⟨2, ![262144, d]⟩ .f32) (t : ℕ) (j : Fin d) : EReal :=
  if h : t < 256 then ∑ r : Fin 1024, X (ix2 ⟨t * 1024 + r.val, by have := r.isLt; omega⟩ j) else 0

theorem blockSum_total (X : Vec Ideal ⟨2, ![262144, d]⟩ .f32) (j : Fin d) :
    ∑ t ∈ Finset.range (255 + 1), blockSum X t j = ∑ r : Fin 262144, X (ix2 r j) := by
  rw [show 255 + 1 = 256 from rfl, Finset.sum_range, Fin.sum_univ_tiles 256 1024 (by norm_num) (fun r : Fin 262144 => X (ix2 r j))]
  refine Finset.sum_congr rfl fun t _ => ?_
  unfold blockSum
  rw [dif_pos t.isLt]

/-- The elementwise square. -/
def sq (X : Vec Ideal ⟨2, ![262144, d]⟩ .f32) : Vec Ideal ⟨2, ![262144, d]⟩ .f32 := fun y => X y * X y

/-- One block's share added to the first two rows. -/
def addBlock (X : Vec Ideal ⟨2, ![262144, d]⟩ .f32) (n : ℕ) (acc : Vec Ideal ⟨2, ![8, d]⟩ .f32) : Vec Ideal ⟨2, ![8, d]⟩ .f32 := fun y =>
  if (y 0).val = 1 then acc (ix2 1 (y 1)) + blockSum (sq X) n (y 1)
  else if (y 0).val = 0 then acc (ix2 0 (y 1)) + blockSum X n (y 1) else acc y

/-- The three kinds of rows the accumulator ends with. -/
def totals (X : Vec Ideal ⟨2, ![262144, d]⟩ .f32) : Vec Ideal ⟨2, ![8, d]⟩ .f32 := fun y =>
  if (y 0).val = 1 then ∑ r : Fin 262144, X (ix2 r (y 1)) * X (ix2 r (y 1))
  else if (y 0).val = 0 then ∑ r : Fin 262144, X (ix2 r (y 1)) else 0

theorem accum_rows (X : Vec Ideal ⟨2, ![262144, d]⟩ .f32) (A : ℕ → Vec Ideal ⟨2, ![8, d]⟩ .f32) (N : ℕ)
    (h0 : A 0 = addBlock X 0 (fun _ => (0 : EReal))) (hs : ∀ n, n + 1 < N → A (n + 1) = addBlock X (n + 1) (A n)) :
    ∀ (n : ℕ) (_ : n < N) (y : (⟨2, ![8, d]⟩ : Shape).Idx), A n y
      = if (y 0).val = 1 then ∑ t ∈ Finset.range (n + 1), blockSum (sq X) t (y 1)
        else if (y 0).val = 0 then ∑ t ∈ Finset.range (n + 1), blockSum X t (y 1) else 0
  | 0, _, y => by
    rw [h0]
    unfold addBlock
    simp only [zero_add, Finset.sum_range_one]
  | n + 1, h, y => by
    rw [hs n h]
    unfold addBlock
    rw [accum_rows X A N h0 hs n (by omega), accum_rows X A N h0 hs n (by omega), accum_rows X A N h0 hs n (by omega)]
    rw [Finset.sum_range_succ _ (n + 1), Finset.sum_range_succ _ (n + 1)]
    by_cases h1 : (y 0).val = 1
    · simp [h1]
    · by_cases h0 : (y 0).val = 0
      · simp [h0]
      · simp [h0, h1]

theorem accum_totals (X : Vec Ideal ⟨2, ![262144, d]⟩ .f32) (A : ℕ → Vec Ideal ⟨2, ![8, d]⟩ .f32) (N : ℕ) (hN : N = 256)
    (h0 : A 0 = addBlock X 0 (fun _ => (0 : EReal))) (hs : ∀ n, n + 1 < N → A (n + 1) = addBlock X (n + 1) (A n)) : A 255 = totals X := by
  funext y
  rw [accum_rows X A N h0 hs 255 (by omega)]
  exact if_congr Iff.rfl (blockSum_total (sq X) (y 1)) (if_congr Iff.rfl (blockSum_total X (y 1)) rfl)

end Cert.Rows

end
-- ==== Proof.Total.lean ====
/- The two results of the launch, equal to the reference's: the block maxima placed group by group, the column sums
   gathered over the whole grid. -/
module

public import proofs.«01_k».proof.Proof.Fold
public import proofs.«01_k».proof.Proof.Algebra
public import proofs.«01_k».proof.Proof.Sums

@[expose] public section

set_option maxRecDepth 16384

noncomputable section

namespace Cert.KernelIdeal.Value

open Cert.KernelIdeal Cert.KernelIdeal.Gen Idealize.ShloMosaic Idealize.ShloMosaic.TcCoe Idealize.SL.Sem
open Cert.Rows

variable (m : (ℓ : Loc nD τ sig) → Buf (Elt Ideal) ℓ)

theorem step_eq (c : Dev nD) (n : ℕ) (h : n < cfg0.N) (acc : Vec Ideal S8x128 .f32) :
    stepAcc (iblk m c 0 ⟨n, h⟩) (iblk m c 1 ⟨n, h⟩) (iblk m c 2 ⟨n, h⟩) (iblk m c 3 ⟨n, h⟩) acc = addBlock (d := 128) (P m c) n acc := by
  have hN : n < 256 := lt_of_lt_of_eq h N_0
  funext y
  unfold stepAcc put01 addBlock
  refine if_congr Iff.rfl ?_ (if_congr Iff.rfl ?_ rfl)
  · refine (pay5_apply _ _ _ _ _ _).trans (congrArg₂ (· + ·) rfl ?_)
    unfold blockSum
    rw [dif_pos hN]
    refine Finset.sum_congr rfl fun r _ => ?_
    exact congrArg₂ (· * ·) (point m c ⟨n, h⟩ r (y 1)) (point m c ⟨n, h⟩ r (y 1))
  · refine (pay4_apply _ _ _ _ _ _).trans (congrArg₂ (· + ·) rfl ?_)
    unfold blockSum
    rw [dif_pos hN]
    exact Finset.sum_congr rfl fun r _ => point m c ⟨n, h⟩ r (y 1)

theorem zero_eq : k0_pay2 (F := Ideal) = fun _ => (0 : EReal) := by
  funext y
  unfold k0_pay2
  pointwise

theorem stats (c : Dev nD) : G5 m c = totals (d := 128) (P m c) := by
  rw [G5_last, fold_last m c 255 _ (by decide)]
  refine accum_totals (d := 128) _ (accum m c) cfg0.N N_0 ?_ fun n hn => ?_
  · rw [accum, dif_pos (lt_of_lt_of_eq (by decide) N_0.symm), step_eq, zero_eq]
  · rw [accum, dif_pos hn, step_eq]

theorem groups (c : Dev nD) (y : S8192x128.Idx) : G4 m c y
      = (Finset.univ : Finset (Fin 32)).fold max (Ideal.ofBits .f32 0xFF800000#32)
        (fun s => P m c (ix2 ⟨(y 0).val * 32 + s.val, by have h : (y 0).val < 8192 := (y 0).isLt; have := s.isLt; omega⟩ (y 1))) := by
  have h0 : (y 0).val < 8192 := (y 0).isLt
  have h1 : (y 1).val < 128 := (y 1).isLt
  have hp : pt4Of y = (y 0).val / 32 := by
    show 1 * ((y 0).val / 32 - 0) + 1 * ((y 1).val / 128 - 0) = _
    omega
  have hn : pt4Of y < cfg0.N := by rw [hp]; exact lt_of_lt_of_eq (by omega) N_0.symm
  unfold G4
  rw [dif_pos hn]
  refine (congrFun (fold_group m c (pt4Of y) (by omega) hn) (loc4Of y)).trans ?_
  rw [pay16_apply]
  refine congrArg (fun f => Finset.fold max (Ideal.ofBits .f32 0xFF800000#32) f Finset.univ) (funext fun s => ?_)
  have hs := s.isLt
  have hl : (y 0).val % 32 < 32 := Nat.mod_lt _ (by decide)
  refine (point m c ⟨pt4Of y, hn⟩ ⟨(y 0).val % 32 * 32 + s.val, by omega⟩ ⟨(y 1).val % 128, Nat.mod_lt _ (by decide)⟩).trans ?_
  refine congrArg (P m c) ?_
  refine congrArg₂ ix2 (Fin.ext ?_) (Fin.ext ?_)
  · show pt4Of y * 1024 + ((y 0).val % 32 * 32 + s.val) = (y 0).val * 32 + s.val
    rw [hp]
    omega
  · show (y 1).val % 128 = (y 1).val
    omega

end Cert.KernelIdeal.Value
end
-- ==== Proof.Reference.lean ====
/- The reference's two results at an index. -/
module

public import proofs.«01_k».proof.Proof.Algebra
public import Idealize.ShloMosaic.Lib.ValueIdx
public import proofs.«01_k».proof.Proof.Sums

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Rows

theorem max_apply (X : Vec Ideal S262144x128 .f32) (y : S8192x128.Idx) :
    (Host.reduce FloatOps.maximumf (shapeCast S8192x32x128 X shapeCasts_S262144x128_S8192x32x128 : FVec Ideal S8192x32x128 .f32) (constant S_ .f32 0xFF800000#32) reducesTo_S8192x32x128_S8192x128_d1 h_S_ : FVec Ideal S8192x128 .f32) y
      = (Finset.univ : Finset (Fin 32)).fold max (Ideal.ofBits .f32 0xFF800000#32)
        (fun s => X (ix2 ⟨(y 0).val * 32 + s.val, by have h : (y 0).val < 8192 := (y 0).isLt; have := s.isLt; omega⟩ (y 1))) := by
  pointwise

theorem sum_apply (X : Vec Ideal S262144x128 .f32) (y : S1x128.Idx) :
    (broadcastInDim S1x128 ![1] bcast_S128_S1x128_1 (Host.reduceAdd X (constant (F := Ideal) S_ .f32 0x00000000#32) reducesTo_S262144x128_S128_d0 h_S_ : FVec Ideal S128 .f32)) y
      = ∑ r : Fin 262144, X (ix2 r (y 1)) := by
  pointwise

theorem zeros_apply (y : S6x128.Idx) : (broadcastInDim S6x128 ![] bcast_S_S6x128 (constant (F := Ideal) S_ .f32 0x00000000#32)) y = 0 := by
  pointwise

theorem cat_apply (a b : Vec Ideal S1x128 .f32) (z : Vec Ideal S6x128 .f32) (y : S8x128.Idx) :
    (concatenate S8x128 0 [⟨S1x128, a⟩, ⟨S1x128, b⟩, ⟨S6x128, z⟩] concatenates_S1x128_S1x128_S6x128_S8x128_d0) y
      = if (y 0).val = 1 then b (ix2 0 (y 1)) else if (y 0).val = 0 then a (ix2 0 (y 1)) else z (ix2 ⟨(y 0).val - 2, by have h : (y 0).val < 8 := (y 0).isLt; omega⟩ (y 1)) := by
  pointwise
  have h8 : (y 0).val < 8 := (y 0).isLt
  by_cases h1 : (y 0).val = 1
  · rw [dif_neg (by omega), dif_pos (by omega), if_pos h1]
    refine congrArg b (congrArg₂ ix2 (Fin.ext ?_) rfl)
    show (y 0).val - 1 = 0
    omega
  · rw [if_neg h1]
    by_cases h0 : (y 0).val = 0
    · rw [dif_pos (by omega), if_pos h0]
      exact congrArg a (congrArg₂ ix2 (Fin.ext h0) rfl)
    · rw [dif_neg (by omega), dif_neg (by omega), if_neg h0]
      refine congrArg z (congrArg₂ ix2 (Fin.ext ?_) rfl)
      show (y 0).val - 1 - 1 = (y 0).val - 2
      omega

/-- The reference's concatenation is the three kinds of rows. -/
theorem cat_totals (X : Vec Ideal S262144x128 .f32) :
    (concatenate S8x128 0 [⟨S1x128, (broadcastInDim S1x128 ![1] bcast_S128_S1x128_1 (Host.reduceAdd X (constant (F := Ideal) S_ .f32 0x00000000#32) reducesTo_S262144x128_S128_d0 h_S_ : FVec Ideal S128 .f32))⟩,
      ⟨S1x128, (broadcastInDim S1x128 ![1] bcast_S128_S1x128_1 (Host.reduceAdd (mulf (F := Ideal) (φ := .f32) X X) (constant (F := Ideal) S_ .f32 0x00000000#32) reducesTo_S262144x128_S128_d0 h_S_ : FVec Ideal S128 .f32))⟩,
      ⟨S6x128, (broadcastInDim S6x128 ![] bcast_S_S6x128 (constant (F := Ideal) S_ .f32 0x00000000#32))⟩] concatenates_S1x128_S1x128_S6x128_S8x128_d0) = totals (d := 128) X := by
  funext y
  refine (cat_apply _ _ _ y).trans ?_
  exact if_congr Iff.rfl (sum_apply (mulf (F := Ideal) (φ := .f32) X X) _) (if_congr Iff.rfl (sum_apply X _) (zeros_apply _))

end Cert.ReferenceIdeal.Value
end
-- ==== Proof.Table.lean ====
/- The first call: a table of first-layer rows, one per point — the features times their part of the weights, the three
   coordinates times theirs one by one, the bias — equal to the row of coordinates and features times the whole weights. -/
module

public import proofs.«01_k».proof.Proof.Gen.TableIdeal.Value
public import proofs.«01_k».proof.Proof.Gen.TableRefIdeal.Run
public import Idealize.ShloMosaic.Lib.Pointwise
public import Idealize.ShloMosaic.Lib.Pipeline.ValueKit.Point
public import proofs.«01_k».proof.Proof.Rows

@[expose] public section

set_option maxRecDepth 16384

noncomputable section

namespace Cert.TableRefIdeal.Value

open Cert.TableRefIdeal Cert.TableRefIdeal.Gen Idealize.ShloMosaic Idealize.ShloMosaic.TcCoe Idealize.SL.Sem

/-- A point's coordinates, then its features. -/
def both (xyz : Vec Ideal S16x3x4096 .f32) (pts : Vec Ideal S16x64x4096 .f32) : Vec Ideal S65536x67 .f32 :=
  shapeCast S65536x67 (concatenate S16x4096x67 2 [⟨S16x4096x3, transpose S16x4096x3 [0, 2, 1] xyz transposes_S16x3x4096_S16x4096x3_0_2_1⟩,
    ⟨S16x4096x64, transpose S16x4096x64 [0, 2, 1] pts transposes_S16x64x4096_S16x4096x64_0_2_1⟩] concatenates_S16x4096x3_S16x4096x64_S16x4096x67_d2) shapeCasts_S16x4096x67_S65536x67

/-- The reference's result. -/
def affine (xyz : Vec Ideal S16x3x4096 .f32) (pts : Vec Ideal S16x64x4096 .f32) (w : Vec Ideal S64x67 .f32) (b : Vec Ideal S64 .f32) : Vec Ideal S65536x64 .f32 :=
  addf (Host.dotGeneral (F := Ideal) (φ₁ := .f32) (φ₂ := .f32) dot_S65536x67_S67x64_S65536x64_1_0_0_1_n_n none (both xyz pts)
    (transpose S67x64 [1, 0] w transposes_S64x67_S67x64_1_0))
    (broadcastInDim S65536x64 ![0, 1] bcast_S1x64_S65536x64_0_1 (broadcastInDim S1x64 ![1] bcast_S64_S1x64_1 b))

theorem both_xyz (xyz : Vec Ideal S16x3x4096 .f32) (pts : Vec Ideal S16x64x4096 .f32) (r : Fin 65536) (k : Fin 3) :
    both xyz pts (ix2 r ⟨k.val, by omega⟩) = xyz (ix3 ⟨r.val / 4096, by omega⟩ k ⟨r.val % 4096, by omega⟩) := by
  unfold both
  pointwise

theorem both_pts (xyz : Vec Ideal S16x3x4096 .f32) (pts : Vec Ideal S16x64x4096 .f32) (r : Fin 65536) (k : Fin 64) :
    both xyz pts (ix2 r ⟨3 + k.val, by omega⟩) = pts (ix3 ⟨r.val / 4096, by omega⟩ k ⟨r.val % 4096, by omega⟩) := by
  unfold both
  pointwise

theorem affine_apply (xyz : Vec Ideal S16x3x4096 .f32) (pts : Vec Ideal S16x64x4096 .f32) (w : Vec Ideal S64x67 .f32) (b : Vec Ideal S64 .f32) (j : S65536x64.Idx) :
    affine xyz pts w b j = ∑ k : Fin 67, both xyz pts (ix2 (j 0) k) * w (ix2 (j 1) k) + b (ix1 (j 1)) := by
  unfold affine
  generalize both xyz pts = x
  pointwise [dot_S65536x67_S67x64_S65536x64_1_0_0_1_n_n]

end Cert.TableRefIdeal.Value

namespace Cert.TableIdeal.Value

open Cert.TableIdeal Cert.TableIdeal.Gen Idealize.ShloMosaic Idealize.ShloMosaic.TcCoe Idealize.SL.Sem
open Cert.Rows

theorem pay1_apply (v0 : Vec Ideal S2048x64 .f32) (v2 : Vec Ideal S64x64 .f32) (v5 : Vec Ideal S2048x1 .f32) (v7 : Vec Ideal S1x64 .f32) (v13 : Vec Ideal S2048x1 .f32) (v15 : Vec Ideal S1x64 .f32) (v21 : Vec Ideal S2048x1 .f32) (v23 : Vec Ideal S1x64 .f32) (v29 : Vec Ideal S1x64 .f32) (j : S2048x64.Idx) :
    k0_pay1 v0 v2 v5 v7 v13 v15 v21 v23 v29 j = (∑ k : Fin 64, v0 (ix2 (j 0) k) * v2 (ix2 k (j 1))) + v5 (ix2 (j 0) 0) * v7 (ix2 0 (j 1))
      + v13 (ix2 (j 0) 0) * v15 (ix2 0 (j 1)) + v21 (ix2 (j 0) 0) * v23 (ix2 0 (j 1)) + v29 (ix2 0 (j 1)) := by
  unfold_payloads
  pointwise [dot_S2048x64_S64x64_S2048x64_1_0_0_1_n_n]

theorem ld_col {α : EltTy → Type} {e : EltTy} {n w : ℕ} (x : (⟨2, ![n, w]⟩ : Shape).Idx → α e) (k : Fin w)
    (inb : ∀ a : Fin 2, (![0, k.val] : Fin 2 → ℕ) a + (![n, 1] : Fin 2 → ℕ) a ≤ (![n, w] : Fin 2 → ℕ) a) (r : Fin n) :
    View.ld x (Rect.unit (s := ⟨2, ![n, w]⟩) ![0, k.val] ![n, 1] inb) (ix2 r 0) = x (ix2 r k) := by
  rw [View.ld_unit]
  show x _ = x _
  congr 1
  funext a
  apply Fin.ext
  match a with
  | ⟨0, _⟩ => show 0 + r.val = r.val; omega
  | ⟨1, _⟩ => show k.val + 0 = k.val; omega

theorem ld_line {α : EltTy → Type} {e : EltTy} {n w : ℕ} (x : (⟨2, ![n, w]⟩ : Shape).Idx → α e) (k : Fin n)
    (inb : ∀ a : Fin 2, (![k.val, 0] : Fin 2 → ℕ) a + (![1, w] : Fin 2 → ℕ) a ≤ (![n, w] : Fin 2 → ℕ) a) (r : Fin w) :
    View.ld x (Rect.unit (s := ⟨2, ![n, w]⟩) ![k.val, 0] ![1, w] inb) (ix2 0 r) = x (ix2 k r) := by
  rw [View.ld_unit]
  show x _ = x _
  congr 1
  funext a
  apply Fin.ext
  match a with
  | ⟨0, _⟩ => show k.val + 0 = k.val; omega
  | ⟨1, _⟩ => show 0 + r.val = r.val; omega

theorem out5_apply (x0 : Vec Ideal S2048x64 .f32) (x1 : Vec Ideal S2048x3 .f32) (x2 : Vec Ideal S64x64 .f32) (x3 : Vec Ideal S3x64 .f32) (x4 : Vec Ideal S1x64 .f32) (r : Fin 2048) (j : Fin 64) :
    out0_5 x0 x1 x2 x3 x4 (ix2 r j) = (∑ k : Fin 64, x0 (ix2 r k) * x2 (ix2 k j)) + x1 (ix2 r 0) * x3 (ix2 0 j)
      + x1 (ix2 r 1) * x3 (ix2 1 j) + x1 (ix2 r 2) * x3 (ix2 2 j) + x4 (ix2 0 j) := by
  unfold out0_5
  rw [View.canon_unit_zero (S := S2048x64) hz]
  refine (pay1_apply _ _ _ _ _ _ _ _ _ (ix2 r j)).trans ?_
  rw [View.ld_unit_zero (S := S2048x64) hz, View.ld_unit_zero (S := S64x64) hz, View.ld_unit_zero (S := S1x64) hz]
  exact congrArg₂ (· + ·) (congrArg₂ (· + ·) (congrArg₂ (· + ·) (congrArg₂ (· + ·) rfl
    (congrArg₂ (· * ·) (ld_col (α := Elt Ideal) (e := .f32) x1 0 inb_S2048x3_S2048x1_0_0 r) (ld_line (α := Elt Ideal) (e := .f32) x3 0 inb_S3x64_S1x64_0_0 j)))
    (congrArg₂ (· * ·) (ld_col (α := Elt Ideal) (e := .f32) x1 1 inb_S2048x3_S2048x1_0_1 r) (ld_line (α := Elt Ideal) (e := .f32) x3 1 inb_S3x64_S1x64_1_0 j)))
    (congrArg₂ (· * ·) (ld_col (α := Elt Ideal) (e := .f32) x1 2 inb_S2048x3_S2048x1_0_2 r) (ld_line (α := Elt Ideal) (e := .f32) x3 2 inb_S3x64_S1x64_2_0 j))) rfl

variable (m : (ℓ : Loc nD τ sig) → Buf (Elt Ideal) ℓ)

/-- The reference's result of the launch's own arguments. -/
def R (c : Dev nD) : Vec Ideal ⟨2, ![65536, 64]⟩ .f32 :=
  Cert.TableRefIdeal.Value.affine (m ((c : Thread nD τ).loc main_arg0)) (m ((c : Thread nD τ).loc main_arg1)) (m ((c : Thread nD τ).loc main_arg2)) (m ((c : Thread nD τ).loc main_arg3))

theorem blk0 (c : Dev nD) (t : Fin cfg0.N) (r : Fin 2048) (k : Fin 64) (n : Fin 65536) (hn : n.val = t.val * 2048 + r.val) :
    (iblk m c 0 t : Vec Ideal S2048x64 .f32) (ix2 r k) = m ((c : Thread nD τ).loc main_arg1) (ix3 ⟨n.val / 4096, by omega⟩ k ⟨n.val % 4096, by omega⟩) := by
  have hi : win0_0.index t 0 = t.val ∧ win0_0.index t 1 = 0 :=
    (by decide +kernel : ∀ t : Fin grid0.N, win0_0.index t 0 = t.val ∧ win0_0.index t 1 = 0) t
  have e : V m c main_v2 = shapeCast S65536x64 (transpose S16x4096x64 [0, 2, 1] (m ((c : Thread nD τ).loc main_arg1)) transposes_S16x64x4096_S16x4096x64_0_2_1) shapeCasts_S16x4096x64_S65536x64 := by entry_read; rfl
  have h : (iblk m c 0 t : Vec Ideal S2048x64 .f32) (ix2 r k) = V m c main_v2 (ix2 n k) := by
    unfold iblk
    generalize V m c = W
    blk_ext [hi.1, hi.2, hn]
  rw [h, e]
  pointwise

theorem blk1 (c : Dev nD) (t : Fin cfg0.N) (r : Fin 2048) (k : Fin 3) (n : Fin 65536) (hn : n.val = t.val * 2048 + r.val) :
    (iblk m c 1 t : Vec Ideal S2048x3 .f32) (ix2 r k) = m ((c : Thread nD τ).loc main_arg0) (ix3 ⟨n.val / 4096, by omega⟩ k ⟨n.val % 4096, by omega⟩) := by
  have hi : win0_1.index t 0 = t.val ∧ win0_1.index t 1 = 0 :=
    (by decide +kernel : ∀ t : Fin grid0.N, win0_1.index t 0 = t.val ∧ win0_1.index t 1 = 0) t
  have e : V m c main_v3 = shapeCast S65536x3 (transpose S16x4096x3 [0, 2, 1] (m ((c : Thread nD τ).loc main_arg0)) transposes_S16x3x4096_S16x4096x3_0_2_1) shapeCasts_S16x4096x3_S65536x3 := by entry_read; rfl
  have h : (iblk m c 1 t : Vec Ideal S2048x3 .f32) (ix2 r k) = V m c main_v3 (ix2 n k) := by
    unfold iblk
    generalize V m c = W
    blk_ext [hi.1, hi.2, hn]
  rw [h, e]
  pointwise

theorem blk2 (c : Dev nD) (t : Fin cfg0.N) (k : Fin 64) (j : Fin 64) :
    (iblk m c 2 t : Vec Ideal S64x64 .f32) (ix2 k j) = m ((c : Thread nD τ).loc main_arg2) (ix2 j ⟨3 + k.val, by omega⟩) := by
  have hi : win0_2.index t 0 = 0 ∧ win0_2.index t 1 = 0 :=
    (by decide +kernel : ∀ t : Fin grid0.N, win0_2.index t 0 = 0 ∧ win0_2.index t 1 = 0) t
  have e : V m c main_v5 = transpose S64x64 [1, 0] (extractStridedSlice S64x64 ![0, 3] (m ((c : Thread nD τ).loc main_arg2)) slices_S64x67_S64x64_0_3) transposes_S64x64_S64x64_1_0 := by entry_read; rfl
  have h : (iblk m c 2 t : Vec Ideal S64x64 .f32) (ix2 k j) = V m c main_v5 (ix2 k j) := by
    unfold iblk
    generalize V m c = W
    blk_ext [hi.1, hi.2]
  rw [h, e]
  pointwise

theorem blk3 (c : Dev nD) (t : Fin cfg0.N) (k : Fin 3) (j : Fin 64) :
    (iblk m c 3 t : Vec Ideal S3x64 .f32) (ix2 k j) = m ((c : Thread nD τ).loc main_arg2) (ix2 j ⟨k.val, by omega⟩) := by
  have hi : win0_3.index t 0 = 0 ∧ win0_3.index t 1 = 0 :=
    (by decide +kernel : ∀ t : Fin grid0.N, win0_3.index t 0 = 0 ∧ win0_3.index t 1 = 0) t
  have e : V m c main_v7 = transpose S3x64 [1, 0] (extractStridedSlice S64x3 ![0, 0] (m ((c : Thread nD τ).loc main_arg2)) slices_S64x67_S64x3_0_0) transposes_S64x3_S3x64_1_0 := by entry_read; rfl
  have h : (iblk m c 3 t : Vec Ideal S3x64 .f32) (ix2 k j) = V m c main_v7 (ix2 k j) := by
    unfold iblk
    generalize V m c = W
    blk_ext [hi.1, hi.2]
  rw [h, e]
  pointwise

theorem blk4 (c : Dev nD) (t : Fin cfg0.N) (k : Fin 64) :
    (iblk m c 4 t : Vec Ideal S1x64 .f32) (ix2 0 k) = m ((c : Thread nD τ).loc main_arg3) (ix1 k) := by
  have hi : win0_4.index t 0 = 0 ∧ win0_4.index t 1 = 0 :=
    (by decide +kernel : ∀ t : Fin grid0.N, win0_4.index t 0 = 0 ∧ win0_4.index t 1 = 0) t
  have e : V m c main_v8 = broadcastInDim S1x64 ![1] bcast_S64_S1x64_1 (m ((c : Thread nD τ).loc main_arg3)) := by entry_read; rfl
  have h : (iblk m c 4 t : Vec Ideal S1x64 .f32) (ix2 0 k) = V m c main_v8 (ix2 0 k) := by
    unfold iblk
    generalize V m c = W
    blk_ext [hi.1, hi.2]
  rw [h, e]
  pointwise

theorem sum67 (f : Fin 67 → EReal) :
    ∑ k : Fin 67, f k = (∑ k : Fin 64, f ⟨3 + k.val, by omega⟩) + f 0 + f 1 + f 2 := by
  have h : ∑ k : Fin 67, f k = ∑ k : Fin 3, f (Fin.castAdd 64 k) + ∑ k : Fin 64, f (Fin.natAdd 3 k) := Fin.sum_univ_add (a := 3) (b := 64) f
  rw [h, Fin.sum_univ_three, add_comm, ← add_assoc, ← add_assoc]
  rfl

/-- One entry of the table, from the blocks of its point. -/
theorem entry (c : Dev nD) (t : Fin cfg0.N) (r : Fin 2048) (j : Fin 64) (n : Fin 65536) (hn : n.val = t.val * 2048 + r.val) :
    out0_5 (iblk m c 0 t) (iblk m c 1 t) (iblk m c 2 t) (iblk m c 3 t) (iblk m c 4 t) (ix2 r j) = R m c (ix2 n j) := by
  rw [out5_apply]
  unfold R
  rw [Cert.TableRefIdeal.Value.affine_apply, sum67]
  have hx (k : Fin 3) := congrArg₂ (fun a b : EReal => a * b) ((blk1 m c t r k n hn).trans (Cert.TableRefIdeal.Value.both_xyz (m ((c : Thread nD τ).loc main_arg0)) (m ((c : Thread nD τ).loc main_arg1)) n k).symm) (blk3 m c t k j)
  refine congrArg₂ (· + ·) (congrArg₂ (· + ·) (congrArg₂ (· + ·) (congrArg₂ (· + ·) (Finset.sum_congr rfl fun k _ => ?_) (hx 0)) (hx 1)) (hx 2)) (blk4 m c t j)
  exact congrArg₂ (· * ·) ((blk0 m c t r k n hn).trans (Cert.TableRefIdeal.Value.both_pts (m ((c : Thread nD τ).loc main_arg0)) (m ((c : Thread nD τ).loc main_arg1)) n k).symm) (blk2 m c t k j)

theorem idx5 : ∀ t : Fin cfg0.N, win0_5.index t 0 = t.val ∧ win0_5.index t 1 = 0 :=
  (by decide +kernel : ∀ t : Fin grid0.N, win0_5.index t 0 = t.val ∧ win0_5.index t 1 = 0)

theorem flushes5 : ∀ t : Fin cfg0.N, (cfg0.win 5).flush t = true :=
  (by decide +kernel : ∀ t : Fin grid0.N, win0_5.flush t = true)

theorem written (c : Dev nD) (t : Fin cfg0.N) : (dats m 0 c).flushed 5 t = ((cfg0.win 5).blk t).view.read (Elt Ideal) (R m c) := by
  have hN : t.val < 32 := lt_of_lt_of_eq t.isLt N_0
  rw [flushed5]
  funext y
  have hy0 : (y 0).val < 2048 := (y 0).isLt
  have hy1 : (y 1).val < 64 := (y 1).isLt
  show out0_5 (iblk m c 0 t) (iblk m c 1 t) (iblk m c 2 t) (iblk m c 3 t) (iblk m c 4 t) ((cfg0.win 5).xinj (grid0.coords t) y) = R m c (((cfg0.win 5).blk t).view.emb y)
  have he : ((cfg0.win 5).blk t).view.emb y = (ix2 ⟨t.val * 2048 + (y 0).val, by omega⟩ ⟨(y 1).val, hy1⟩ : S65536x64.Idx) := by
    funext a; apply Fin.ext
    match a with
    | ⟨0, _⟩ => show win0_5.index t (0 : Fin 2) * 2048 + 1 * (y 0).val = t.val * 2048 + (y 0).val; rw [(idx5 t).1]; omega
    | ⟨1, _⟩ => show win0_5.index t (1 : Fin 2) * 64 + 1 * (y 1).val = (y 1).val; rw [(idx5 t).2]; omega
  have hx : (cfg0.win 5).xinj (grid0.coords t) y = (ix2 ⟨(y 0).val, hy0⟩ ⟨(y 1).val, hy1⟩ : S2048x64.Idx) := by
    funext a; apply Fin.ext
    match a with
    | ⟨0, _⟩ => rfl
    | ⟨1, _⟩ => rfl
  rw [he, hx]
  exact entry m c t _ _ _ rfl

theorem covered (i : S65536x64.Idx) : ∃ t : Fin cfg0.N, (cfg0.win 5).flush t = true ∧ i ∈ ((cfg0.win 5).blk t).view.set := by
  have hi0 : (i 0).val < 65536 := (i 0).isLt
  have hi1 : (i 1).val < 64 := (i 1).isLt
  refine ⟨⟨(i 0).val / 2048, lt_of_lt_of_eq (by omega) N_0.symm⟩, flushes5 _, ?_⟩
  generalize ht : (⟨(i 0).val / 2048, lt_of_lt_of_eq (by omega) N_0.symm⟩ : Fin cfg0.N) = t
  have htv : t.val = (i 0).val / 2048 := by rw [← ht]
  show i ∈ ((View.whole main_v9).slice (win0_5.rect t)).set
  rw [View.set_slice_whole, Rect.mem_set_unit]
  intro a
  match a with
  | ⟨0, _⟩ => show win0_5.index t (0 : Fin 2) * 2048 ≤ (i 0).val ∧ (i 0).val < win0_5.index t (0 : Fin 2) * 2048 + 2048; rw [(idx5 t).1]; omega
  | ⟨1, _⟩ => show win0_5.index t (1 : Fin 2) * 64 ≤ (i 1).val ∧ (i 1).val < win0_5.index t (1 : Fin 2) * 64 + 64; rw [(idx5 t).2]; omega

theorem result (c : Dev nD) : (dats m 0 c).arrAt 5 cfg0.N = R m c :=
  (dats m 0 c).arrAt_eq_of_cover 5 _ (fun t _ => written m c t) covered

end Cert.TableIdeal.Value

end
-- ==== Proof.ColumnSums.lean ====
/- The second call: the column sums of the first layer and of its squares, one block of rows at a time. -/
module

public import proofs.«01_k».proof.Proof.Gen.StatsIdeal.Value
public import proofs.«01_k».proof.Proof.Gen.StatsRefIdeal.Run
public import Idealize.ShloMosaic.Lib.Pointwise
public import Idealize.ShloMosaic.Lib.Pipeline.ValueKit.Point
public import proofs.«01_k».proof.Proof.Sums

@[expose] public section

set_option maxRecDepth 16384

noncomputable section

namespace Cert.StatsIdeal.Value

open Cert.StatsIdeal Cert.StatsIdeal.Gen Idealize.ShloMosaic Idealize.ShloMosaic.TcCoe Idealize.SL.Sem
open Cert.Rows

section
variable {F : FTy → Type} [FloatOps F]

/-- The accumulator after a point, from the accumulator before it. -/
def stepAcc (x0 : Vec F S1024x64 .f32) (acc : Vec F S8x64 .f32) : Vec F S8x64 .f32 :=
  put01 (d := 64) acc (k0_pay2 x0 (row (d := 64) acc 0)) (k0_pay3 x0 (row (d := 64) acc 1))

section
variable (c : Dev nD) (i : grid0.Coords) (arg1 : Memref sig .tc .vmem S1024x64 .f32) (harg1 : arg1.IsWhole) (arg2 : Memref sig .tc .vmem S8x64 .f32) (harg2 : arg2.IsWhole) (arg3 : Memref sig .tc .vmem S8x64 .f32) (harg3 : arg3.IsWhole)
    (x0 : Vec F S1024x64 .f32) (xs0 : Vec F S8x64 .f32)

theorem sout_A (hc0 : cond0_0 i) (hc1 : ¬cond0_1 i) :
    sout0_A_0 c i arg1 harg1 arg2 harg2 arg3 harg3 hc0 hc1 x0 = stepAcc x0 (k0_pay1 (F := F)) := by
  unfold sout0_A_0 kernelRun0_A
  dsimp only
  sl_unfold_words
  refine (read_two (d := 64) VS0_0 VS0_0.junk _ _ _ _ _).trans ?_
  unfold stepAcc
  rw [read_whole (d := 64), readCov0 (d := 64), readCov1 (d := 64)]
  simp only [View.readAt_eq_ld, harg1.read_unread, View.ld_unit_zero (S := S1024x64) hz]

theorem sout_B (hc0 : ¬cond0_0 i) (hc1 : ¬cond0_1 i) :
    sout0_B_0 c i arg1 harg1 arg2 harg2 arg3 harg3 hc0 hc1 x0 xs0 = stepAcc x0 xs0 := by
  unfold sout0_B_0 kernelRun0_B
  dsimp only
  sl_unfold_words
  refine (read_two (d := 64) arg3.view _ _ _ _ _ _).trans ?_
  unfold stepAcc
  simp only [View.readAt_eq_ld, harg1.read_unread, harg3.read_unread, View.ld_unit_zero (S := S1024x64) hz, View.writes_nil]
  rw [← ld_row (Val := Elt F) (e := .f32) (d := 64) xs0 0 inb_S8x64_S1x64_0_0, ← ld_row (Val := Elt F) (e := .f32) (d := 64) xs0 1 inb_S8x64_S1x64_1_0]
  rfl

theorem sout_C (hc0 : ¬cond0_0 i) (hc1 : cond0_1 i) :
    sout0_C_0 c i arg1 harg1 arg2 harg2 arg3 harg3 hc0 hc1 x0 xs0 = stepAcc x0 xs0 := by
  unfold sout0_C_0 kernelRun0_C
  dsimp only
  sl_unfold_words
  refine (read_two (d := 64) arg3.view _ _ _ _ _ _).trans ?_
  unfold stepAcc
  simp only [View.readAt_eq_ld, harg1.read_unread, harg3.read_unread, View.ld_unit_zero (S := S1024x64) hz, View.writes_nil]
  rw [← ld_row (Val := Elt F) (e := .f32) (d := 64) xs0 0 inb_S8x64_S1x64_0_0, ← ld_row (Val := Elt F) (e := .f32) (d := 64) xs0 1 inb_S8x64_S1x64_1_0]
  rfl

theorem out1_C (hc0 : ¬cond0_0 i) (hc1 : cond0_1 i) :
    out0_C_1 c i arg1 harg1 arg2 harg2 arg3 harg3 hc0 hc1 x0 xs0 = stepAcc x0 xs0 := by
  rw [← sout_C c i arg1 harg1 arg2 harg2 arg3 harg3 x0 xs0 hc0 hc1]
  unfold out0_C_1 sout0_C_0
  rw [View.read_writes_junk_eq_canon]
  unfold kernelRun0_C
  dsimp only
  sl_unfold_words
  rw [View.canon_unit_zero (S := S8x64) hz]
  simp only [View.readAt_eq_ld, View.ld_unit_zero (S := S8x64) hz]

end

variable (m : (ℓ : Loc nD τ sig) → Buf (Elt F) ℓ)

/-- The scratch after point `n`. -/
def accum (c : Dev nD) : ℕ → Vec F S8x64 .f32
  | 0 => if h : 0 < cfg0.N then stepAcc (iblk m c 0 ⟨0, h⟩) (k0_pay1 (F := F)) else k0_pay1 (F := F)
  | n + 1 => if h : n + 1 < cfg0.N then stepAcc (iblk m c 0 ⟨n + 1, h⟩) (accum c n) else accum c n

abbrev fold (c : Dev nD) (n : ℕ) (h : 0 + n < cfg0.N) := Pipeline.accAt (fun n h => stAt0 m c n h junk0) (stAt0 m c) 0 n h

theorem fold_scratch (c : Dev nD) : ∀ (n : ℕ) (h : 0 + n < cfg0.N), (fold m c n h).2 = accum m c n
  | 0, h => by
    show (stAt0 m c 0 h junk0).2 = _
    rw [stAt0_A m c ⟨0, h⟩ _ (by simp) (by simp)]
    dsimp only
    rw [sout_A, accum, dif_pos]
  | n + 1, h => by
    have hN : 0 + (n + 1) < 256 := lt_of_lt_of_eq h N_0
    have hn : n + 1 < cfg0.N := by omega
    have ih := fold_scratch c n (by omega)
    have e : fold m c (n + 1) h = stAt0 m c (n + 1) hn (fold m c n (by omega)) := by
      show stAt0 m c (0 + (n + 1)) h _ = _
      congr 1
      omega
    rw [e, accum, dif_pos hn, ← ih]
    by_cases h1 : (n + 1) % 256 = 255
    · rw [stAt0_C m c ⟨n + 1, hn⟩ _ (by dsimp only; omega) h1]
      dsimp only
      rw [sout_C]
    · rw [stAt0_B m c ⟨n + 1, hn⟩ _ (by dsimp only; omega) h1]
      dsimp only
      rw [sout_B]

theorem fold_last (c : Dev nD) : ∀ (n : ℕ) (h : 0 + n < cfg0.N) (_ : n % 256 = 255), (fold m c n h).1 = accum m c n
  | 0, _, h1 => absurd h1 (by decide)
  | n + 1, h, h1 => by
    have hn : n + 1 < cfg0.N := by omega
    have ih := fold_scratch m c n (by omega)
    have e : fold m c (n + 1) h = stAt0 m c (n + 1) hn (fold m c n (by omega)) := by
      show stAt0 m c (0 + (n + 1)) h _ = _
      congr 1
      omega
    rw [e, accum, dif_pos hn, ← ih, stAt0_C m c ⟨n + 1, hn⟩ _ (by dsimp only; omega) h1]
    dsimp only
    rw [out1_C]

end

theorem pay2_apply (x0 : Vec Ideal S1024x64 .f32) (a : Vec Ideal S1x64 .f32) (j : S1x64.Idx) :
    k0_pay2 x0 a j = a j + ∑ r : Fin 1024, x0 (ix2 r (j 1)) := by
  unfold k0_pay2
  pointwise

theorem pay3_apply (x0 : Vec Ideal S1024x64 .f32) (a : Vec Ideal S1x64 .f32) (j : S1x64.Idx) :
    k0_pay3 x0 a j = a j + ∑ r : Fin 1024, x0 (ix2 r (j 1)) * x0 (ix2 r (j 1)) := by
  unfold k0_pay3
  pointwise

theorem zero_eq : k0_pay1 (F := Ideal) = fun _ => (0 : EReal) := by
  funext y
  unfold k0_pay1
  pointwise

/-- A step over block `n`'s rows adds that block's share. -/
theorem step_of (x : Vec Ideal S1024x64 .f32) (X : Vec Ideal S262144x64 .f32) (n : ℕ) (hN : n < 256)
    (hx : ∀ (r : Fin 1024) (k : Fin 64), x (ix2 r k) = X (ix2 ⟨n * 1024 + r.val, by have := r.isLt; omega⟩ k)) (acc : Vec Ideal S8x64 .f32) :
    stepAcc x acc = addBlock (d := 64) X n acc := by
  funext y
  unfold stepAcc put01 addBlock
  refine if_congr Iff.rfl ?_ (if_congr Iff.rfl ?_ rfl)
  · refine (pay3_apply _ _ _).trans (congrArg₂ (· + ·) rfl ?_)
    unfold blockSum
    rw [dif_pos hN]
    exact Finset.sum_congr rfl fun r _ => congrArg₂ (· * ·) (hx r (y 1)) (hx r (y 1))
  · refine (pay2_apply _ _ _).trans (congrArg₂ (· + ·) rfl ?_)
    unfold blockSum
    rw [dif_pos hN]
    exact Finset.sum_congr rfl fun r _ => hx r (y 1)

variable (m : (ℓ : Loc nD τ sig) → Buf (Elt Ideal) ℓ)

theorem blk0 (c : Dev nD) (t : Fin cfg0.N) (r : Fin 1024) (k : Fin 64) :
    (iblk m c 0 t : Vec Ideal S1024x64 .f32) (ix2 r k) = m ((c : Thread nD τ).loc main_arg0) (ix2 ⟨t.val * 1024 + r.val, by have h : t.val < 256 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  blk_ext [iblk, V, hi.1, hi.2]

theorem step_eq (c : Dev nD) (n : ℕ) (h : n < cfg0.N) (acc : Vec Ideal S8x64 .f32) :
    stepAcc (iblk m c 0 ⟨n, h⟩) acc = addBlock (d := 64) (m ((c : Thread nD τ).loc main_arg0)) n acc :=
  step_of _ _ n (lt_of_lt_of_eq h N_0) (fun r k => blk0 m c ⟨n, h⟩ r k) acc

theorem result (c : Dev nD) : G1 m c = totals (d := 64) (m ((c : Thread nD τ).loc main_arg0)) := by
  rw [G1_last, fold_last m c 255 _ (by decide)]
  refine accum_totals (d := 64) _ (accum m c) cfg0.N N_0 ?_ fun n hn => ?_
  · rw [accum, dif_pos (lt_of_lt_of_eq (by decide) N_0.symm), step_eq, zero_eq]
  · rw [accum, dif_pos hn, step_eq]

end Cert.StatsIdeal.Value

namespace Cert.StatsRefIdeal.Value

open Cert.StatsRefIdeal Cert.StatsRefIdeal.Gen Idealize.ShloMosaic Idealize.ShloMosaic.TcCoe Idealize.SL.Sem
open Cert.Rows

theorem sum_apply (X : Vec Ideal S262144x64 .f32) (y : S1x64.Idx) :
    (broadcastInDim S1x64 ![1] bcast_S64_S1x64_1 (Host.reduceAdd X (constant (F := Ideal) S_ .f32 0x00000000#32) reducesTo_S262144x64_S64_d0 h_S_ : FVec Ideal S64 .f32)) y
      = ∑ r : Fin 262144, X (ix2 r (y 1)) := by
  pointwise

theorem zeros_apply (y : S6x64.Idx) : (broadcastInDim S6x64 ![] bcast_S_S6x64 (constant (F := Ideal) S_ .f32 0x00000000#32)) y = 0 := by
  pointwise

theorem cat_apply (a b : Vec Ideal S1x64 .f32) (z : Vec Ideal S6x64 .f32) (y : S8x64.Idx) :
    (concatenate S8x64 0 [⟨S1x64, a⟩, ⟨S1x64, b⟩, ⟨S6x64, z⟩] concatenates_S1x64_S1x64_S6x64_S8x64_d0) y
      = if (y 0).val = 1 then b (ix2 0 (y 1)) else if (y 0).val = 0 then a (ix2 0 (y 1)) else z (ix2 ⟨(y 0).val - 2, by have h : (y 0).val < 8 := (y 0).isLt; omega⟩ (y 1)) := by
  pointwise
  have h8 : (y 0).val < 8 := (y 0).isLt
  by_cases h1 : (y 0).val = 1
  · rw [dif_neg (by omega), dif_pos (by omega), if_pos h1]
    refine congrArg b (congrArg₂ ix2 (Fin.ext ?_) rfl)
    show (y 0).val - 1 = 0
    omega
  · rw [if_neg h1]
    by_cases h0 : (y 0).val = 0
    · rw [dif_pos (by omega), if_pos h0]
      exact congrArg a (congrArg₂ ix2 (Fin.ext h0) rfl)
    · rw [dif_neg (by omega), dif_neg (by omega), if_neg h0]
      refine congrArg z (congrArg₂ ix2 (Fin.ext ?_) rfl)
      show (y 0).val - 1 - 1 = (y 0).val - 2
      omega

/-- The reference's concatenation is the three kinds of rows. -/
theorem cat_totals (X : Vec Ideal S262144x64 .f32) :
    (concatenate S8x64 0 [⟨S1x64, (broadcastInDim S1x64 ![1] bcast_S64_S1x64_1 (Host.reduceAdd X (constant (F := Ideal) S_ .f32 0x00000000#32) reducesTo_S262144x64_S64_d0 h_S_ : FVec Ideal S64 .f32))⟩,
      ⟨S1x64, (broadcastInDim S1x64 ![1] bcast_S64_S1x64_1 (Host.reduceAdd (mulf (F := Ideal) (φ := .f32) X X) (constant (F := Ideal) S_ .f32 0x00000000#32) reducesTo_S262144x64_S64_d0 h_S_ : FVec Ideal S64 .f32))⟩,
      ⟨S6x64, (broadcastInDim S6x64 ![] bcast_S_S6x64 (constant (F := Ideal) S_ .f32 0x00000000#32))⟩] concatenates_S1x64_S1x64_S6x64_S8x64_d0) = totals (d := 64) X := by
  funext y
  refine (cat_apply _ _ _ y).trans ?_
  exact if_congr Iff.rfl (sum_apply (mulf (F := Ideal) (φ := .f32) X X) _) (if_congr Iff.rfl (sum_apply X _) (zeros_apply _))

end Cert.StatsRefIdeal.Value

end
-- ==== Proof.SecondStep.lean ====
/- What one grid point leaves: the block of products and the accumulator with its two rows added to. -/
module

public import proofs.«01_k».proof.Proof.Gen.SecondIdeal.Value
public import proofs.«01_k».proof.Proof.Rows

@[expose] public section

set_option maxRecDepth 16384

noncomputable section

namespace Cert.SecondIdeal.Value

open Cert.SecondIdeal Cert.SecondIdeal.Gen Idealize.ShloMosaic Idealize.ShloMosaic.TcCoe Idealize.SL.Sem
open Cert.Rows

variable {F : FTy → Type} [FloatOps F]

/-- The accumulator after a point, from the accumulator before it. -/
def stepAcc (x0 : Vec F S1024x64 .f32) (x1 : Vec F S1x64 .f32) (x2 : Vec F S1x64 .f32) (x3 : Vec F S64x64 .f32) (acc : Vec F S8x64 .f32) : Vec F S8x64 .f32 :=
  put01 (d := 64) acc (k0_pay4 x0 x1 x2 x3 (row (d := 64) acc 0)) (k0_pay1 (k0_pay5 x0 x1 x2 x3 (row (d := 64) acc 1)))

section
variable (c : Dev nD) (i : grid0.Coords) (arg1 : Memref sig .tc .vmem S1024x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1024x64 .f32) (harg5 : arg5.IsWhole) (arg6 : Memref sig .tc .vmem S8x64 .f32) (harg6 : arg6.IsWhole) (arg7 : Memref sig .tc .vmem S8x64 .f32) (harg7 : arg7.IsWhole)
    (x0 : Vec F S1024x64 .f32) (x1 : Vec F S1x64 .f32) (x2 : Vec F S1x64 .f32) (x3 : Vec F S64x64 .f32) (xs0 : Vec F S8x64 .f32)

theorem sout_A (hc0 : cond0_0 i) (hc1 : ¬cond0_1 i) :
    sout0_A_0 c i arg1 harg1 arg2 harg2 arg3 harg3 arg4 harg4 arg5 harg5 arg6 harg6 arg7 harg7 hc0 hc1 x0 x1 x2 x3 = stepAcc x0 x1 x2 x3 (k0_pay2 (F := F)) := by
  unfold sout0_A_0 kernelRun0_A
  dsimp only
  sl_unfold_words
  refine (read_two (d := 64) VS0_0 VS0_0.junk _ _ _ _ _).trans ?_
  unfold stepAcc
  rw [read_whole (d := 64), readCov0 (d := 64), readCov1 (d := 64)]
  simp only [View.readAt_eq_ld, harg1.read_unread, harg2.read_unread, harg3.read_unread, harg4.read_unread,
    View.ld_unit_zero (S := S1024x64) hz, View.ld_unit_zero (S := S1x64) hz, View.ld_unit_zero (S := S64x64) hz]

theorem sout_B (hc0 : ¬cond0_0 i) (hc1 : ¬cond0_1 i) :
    sout0_B_0 c i arg1 harg1 arg2 harg2 arg3 harg3 arg4 harg4 arg5 harg5 arg6 harg6 arg7 harg7 hc0 hc1 x0 x1 x2 x3 xs0 = stepAcc x0 x1 x2 x3 xs0 := by
  unfold sout0_B_0 kernelRun0_B
  dsimp only
  sl_unfold_words
  refine (read_two (d := 64) arg7.view _ _ _ _ _ _).trans ?_
  unfold stepAcc
  simp only [View.readAt_eq_ld, harg1.read_unread, harg2.read_unread, harg3.read_unread, harg4.read_unread, harg7.read_unread,
    View.ld_unit_zero (S := S1024x64) hz, View.ld_unit_zero (S := S1x64) hz, View.ld_unit_zero (S := S64x64) hz, View.writes_nil]
  rw [← ld_row (Val := Elt F) (e := .f32) (d := 64) xs0 0 inb_S8x64_S1x64_0_0, ← ld_row (Val := Elt F) (e := .f32) (d := 64) xs0 1 inb_S8x64_S1x64_1_0]
  rfl

theorem sout_C (hc0 : ¬cond0_0 i) (hc1 : cond0_1 i) :
    sout0_C_0 c i arg1 harg1 arg2 harg2 arg3 harg3 arg4 harg4 arg5 harg5 arg6 harg6 arg7 harg7 hc0 hc1 x0 x1 x2 x3 xs0 = stepAcc x0 x1 x2 x3 xs0 := by
  unfold sout0_C_0 kernelRun0_C
  dsimp only
  sl_unfold_words
  refine (read_two (d := 64) arg7.view _ _ _ _ _ _).trans ?_
  unfold stepAcc
  simp only [View.readAt_eq_ld, harg1.read_unread, harg2.read_unread, harg3.read_unread, harg4.read_unread, harg7.read_unread,
    View.ld_unit_zero (S := S1024x64) hz, View.ld_unit_zero (S := S1x64) hz, View.ld_unit_zero (S := S64x64) hz, View.writes_nil]
  rw [← ld_row (Val := Elt F) (e := .f32) (d := 64) xs0 0 inb_S8x64_S1x64_0_0, ← ld_row (Val := Elt F) (e := .f32) (d := 64) xs0 1 inb_S8x64_S1x64_1_0]
  rfl

theorem out4_A (hc0 : cond0_0 i) (hc1 : ¬cond0_1 i) :
    out0_A_4 c i arg1 harg1 arg2 harg2 arg3 harg3 arg4 harg4 arg5 harg5 arg6 harg6 arg7 harg7 hc0 hc1 x0 x1 x2 x3 = k0_pay3 x0 x1 x2 x3 := by
  unfold out0_A_4
  rw [View.read_writes_junk_eq_canon]
  unfold kernelRun0_A
  dsimp only
  sl_unfold_words
  rw [View.canon_unit_zero (S := S1024x64) hz]
  simp only [View.readAt_eq_ld, harg1.read_unread, harg2.read_unread, harg3.read_unread, harg4.read_unread,
    View.ld_unit_zero (S := S1024x64) hz, View.ld_unit_zero (S := S1x64) hz, View.ld_unit_zero (S := S64x64) hz]

theorem out4_B (hc0 : ¬cond0_0 i) (hc1 : ¬cond0_1 i) :
    out0_B_4 c i arg1 harg1 arg2 harg2 arg3 harg3 arg4 harg4 arg5 harg5 arg6 harg6 arg7 harg7 hc0 hc1 x0 x1 x2 x3 xs0 = k0_pay3 x0 x1 x2 x3 := by
  unfold out0_B_4
  rw [View.read_writes_junk_eq_canon]
  unfold kernelRun0_B
  dsimp only
  sl_unfold_words
  rw [View.canon_unit_zero (S := S1024x64) hz]
  simp only [View.readAt_eq_ld, harg1.read_unread, harg2.read_unread, harg3.read_unread, harg4.read_unread,
    View.ld_unit_zero (S := S1024x64) hz, View.ld_unit_zero (S := S1x64) hz, View.ld_unit_zero (S := S64x64) hz]

theorem out4_C (hc0 : ¬cond0_0 i) (hc1 : cond0_1 i) :
    out0_C_4 c i arg1 harg1 arg2 harg2 arg3 harg3 arg4 harg4 arg5 harg5 arg6 harg6 arg7 harg7 hc0 hc1 x0 x1 x2 x3 xs0 = k0_pay3 x0 x1 x2 x3 := by
  unfold out0_C_4
  rw [View.read_writes_junk_eq_canon]
  unfold kernelRun0_C
  dsimp only
  sl_unfold_words
  rw [View.canon_unit_zero (S := S1024x64) hz]
  simp only [View.readAt_eq_ld, harg1.read_unread, harg2.read_unread, harg3.read_unread, harg4.read_unread,
    View.ld_unit_zero (S := S1024x64) hz, View.ld_unit_zero (S := S1x64) hz, View.ld_unit_zero (S := S64x64) hz]

theorem out5_C (hc0 : ¬cond0_0 i) (hc1 : cond0_1 i) :
    out0_C_5 c i arg1 harg1 arg2 harg2 arg3 harg3 arg4 harg4 arg5 harg5 arg6 harg6 arg7 harg7 hc0 hc1 x0 x1 x2 x3 xs0 = stepAcc x0 x1 x2 x3 xs0 := by
  rw [← sout_C c i arg1 harg1 arg2 harg2 arg3 harg3 arg4 harg4 arg5 harg5 arg6 harg6 arg7 harg7 x0 x1 x2 x3 xs0 hc0 hc1]
  unfold out0_C_5 sout0_C_0
  rw [View.read_writes_junk_eq_canon]
  unfold kernelRun0_C
  dsimp only
  sl_unfold_words
  rw [View.canon_unit_zero (S := S8x64) hz]
  simp only [View.readAt_eq_ld, View.ld_unit_zero (S := S8x64) hz]

end

end Cert.SecondIdeal.Value

end
-- ==== Proof.SecondFold.lean ====
/- The scratch after each grid point, and what the two results take of it. -/
module

public import proofs.«01_k».proof.Proof.SecondStep

@[expose] public section

set_option maxRecDepth 16384

noncomputable section

namespace Cert.SecondIdeal.Value

open Cert.SecondIdeal Cert.SecondIdeal.Gen Idealize.ShloMosaic Idealize.ShloMosaic.TcCoe Idealize.SL.Sem
open Cert.Rows

variable {F : FTy → Type} [FloatOps F]

variable (m : (ℓ : Loc nD τ sig) → Buf (Elt F) ℓ)

/-- The scratch after point `n`, as the fold of the point's step. -/
def accum (c : Dev nD) : ℕ → Vec F S8x64 .f32
  | 0 => if h : 0 < cfg0.N then stepAcc (iblk m c 0 ⟨0, h⟩) (iblk m c 1 ⟨0, h⟩) (iblk m c 2 ⟨0, h⟩) (iblk m c 3 ⟨0, h⟩) (k0_pay2 (F := F)) else k0_pay2 (F := F)
  | n + 1 => if h : n + 1 < cfg0.N then stepAcc (iblk m c 0 ⟨n + 1, h⟩) (iblk m c 1 ⟨n + 1, h⟩) (iblk m c 2 ⟨n + 1, h⟩) (iblk m c 3 ⟨n + 1, h⟩) (accum c n) else accum c n

abbrev fold (c : Dev nD) (n : ℕ) (h : 0 + n < cfg0.N) := Pipeline.accAt (fun n h => stAt0 m c n h junk0) (stAt0 m c) 0 n h

theorem fold_scratch (c : Dev nD) : ∀ (n : ℕ) (h : 0 + n < cfg0.N), (fold m c n h).2.2 = accum m c n
  | 0, h => by
    show (stAt0 m c 0 h junk0).2.2 = _
    rw [stAt0_A m c ⟨0, h⟩ _ (by simp) (by simp)]
    dsimp only
    rw [sout_A, accum, dif_pos]
  | n + 1, h => by
    have hN : 0 + (n + 1) < 256 := lt_of_lt_of_eq h N_0
    have hn : n + 1 < cfg0.N := by omega
    have ih := fold_scratch c n (by omega)
    have e : fold m c (n + 1) h = stAt0 m c (n + 1) hn (fold m c n (by omega)) := by
      show stAt0 m c (0 + (n + 1)) h _ = _
      congr 1
      omega
    rw [e, accum, dif_pos hn, ← ih]
    by_cases h1 : (n + 1) % 256 = 255
    · rw [stAt0_C m c ⟨n + 1, hn⟩ _ (by dsimp only; omega) h1]
      dsimp only
      rw [sout_C]
    · rw [stAt0_B m c ⟨n + 1, hn⟩ _ (by dsimp only; omega) h1]
      dsimp only
      rw [sout_B]

theorem fold_prod (c : Dev nD) (n : ℕ) (h : 0 + n < cfg0.N) (hn : n < cfg0.N) :
    (fold m c n h).1 = k0_pay3 (iblk m c 0 ⟨n, hn⟩) (iblk m c 1 ⟨n, hn⟩) (iblk m c 2 ⟨n, hn⟩) (iblk m c 3 ⟨n, hn⟩) := by
  cases n with
  | zero =>
    show (stAt0 m c 0 h junk0).1 = _
    rw [stAt0_A m c ⟨0, h⟩ _ (by simp) (by simp)]
    dsimp only
    rw [out4_A]
  | succ n =>
    have hN : n + 1 < 256 := lt_of_lt_of_eq hn N_0
    have e : fold m c (n + 1) h = stAt0 m c (n + 1) hn (fold m c n (by omega)) := by
      show stAt0 m c (0 + (n + 1)) h _ = _
      congr 1
      omega
    rw [e]
    by_cases h1 : (n + 1) % 256 = 255
    · rw [stAt0_C m c ⟨n + 1, hn⟩ _ (by dsimp only; omega) h1]
      dsimp only
      rw [out4_C]
    · rw [stAt0_B m c ⟨n + 1, hn⟩ _ (by dsimp only; omega) h1]
      dsimp only
      rw [out4_B]

theorem fold_stats (c : Dev nD) (n : ℕ) (h : 0 + (n + 1) < cfg0.N) (h1 : (n + 1) % 256 = 255) : (fold m c (n + 1) h).2.1 = accum m c (n + 1) := by
  have hn : n + 1 < cfg0.N := by omega
  have ih := fold_scratch m c n (by omega)
  have e : fold m c (n + 1) h = stAt0 m c (n + 1) hn (fold m c n (by omega)) := by
    show stAt0 m c (0 + (n + 1)) h _ = _
    congr 1
    omega
  rw [e, accum, dif_pos hn, ← ih, stAt0_C m c ⟨n + 1, hn⟩ _ (by dsimp only; omega) h1]
  dsimp only
  rw [out5_C]

theorem fold_last (c : Dev nD) : ∀ (n : ℕ) (h : 0 + n < cfg0.N) (_ : n % 256 = 255), (fold m c n h).2.1 = accum m c n
  | 0, _, h1 => absurd h1 (by decide)
  | n + 1, h, h1 => fold_stats m c n h h1

end Cert.SecondIdeal.Value
end
-- ==== Proof.SecondAlgebra.lean ====
/- The arithmetic of the second layer over the extended reals: a block's product is the reference's rows of that
   block. -/
module

public import proofs.«01_k».proof.Proof.SecondStep
public import proofs.«01_k».proof.Proof.Gen.SecondRefIdeal.Run
public import Idealize.ShloMosaic.Lib.Pointwise
public import Idealize.ShloMosaic.Lib.Pipeline.ValueKit.Point

@[expose] public section

set_option maxRecDepth 16384

noncomputable section

namespace Cert.SecondRefIdeal.Value

open Cert.SecondRefIdeal Cert.SecondRefIdeal.Gen Idealize.ShloMosaic Idealize.ShloMosaic.TcCoe Idealize.SL.Sem

/-- The reference's product: the scaled, shifted and clipped rows times the transposed weights. -/
def prod (z : Vec Ideal S262144x64 .f32) (sc : Vec Ideal S64 .f32) (sh : Vec Ideal S64 .f32) (w : Vec Ideal S64x64 .f32) : Vec Ideal S262144x64 .f32 :=
  Host.dotGeneral (F := Ideal) (φ₁ := .f32) (φ₂ := .f32) dot_S262144x64_S64x64_S262144x64_1_0_0_1_n_n none
    (maximumf (addf (mulf z (broadcastInDim S262144x64 ![0, 1] bcast_S1x64_S262144x64_0_1 (broadcastInDim S1x64 ![1] bcast_S64_S1x64_1 sc)))
      (broadcastInDim S262144x64 ![0, 1] bcast_S1x64_S262144x64_0_1 (broadcastInDim S1x64 ![1] bcast_S64_S1x64_1 sh)))
      (broadcastInDim S262144x64 ![] bcast_S_S262144x64 (constant S_ .f32 0x00000000#32)))
    (transpose S64x64 [1, 0] w transposes_S64x64_S64x64_1_0)

theorem prod_apply (z : Vec Ideal S262144x64 .f32) (sc : Vec Ideal S64 .f32) (sh : Vec Ideal S64 .f32) (w : Vec Ideal S64x64 .f32) (j : S262144x64.Idx) :
    prod z sc sh w j = ∑ k : Fin 64, max (z (ix2 (j 0) k) * sc (ix1 k) + sh (ix1 k)) 0 * w (ix2 (j 1) k) := by
  unfold prod
  pointwise [dot_S262144x64_S64x64_S262144x64_1_0_0_1_n_n]

end Cert.SecondRefIdeal.Value

namespace Cert.SecondIdeal.Value

open Cert.SecondIdeal Cert.SecondIdeal.Gen Idealize.ShloMosaic Idealize.ShloMosaic.TcCoe Idealize.SL.Sem
open Cert.Rows

theorem pay3_apply (x0 : Vec Ideal S1024x64 .f32) (x1 : Vec Ideal S1x64 .f32) (x2 : Vec Ideal S1x64 .f32) (x3 : Vec Ideal S64x64 .f32) (j : S1024x64.Idx) :
    k0_pay3 x0 x1 x2 x3 j = ∑ k : Fin 64, max (x0 (ix2 (j 0) k) * x1 (ix2 0 k) + x2 (ix2 0 k)) 0 * x3 (ix2 k (j 1)) := by
  unfold_payloads
  pointwise [dot_S1024x64_S64x64_S1024x64_1_0_0_1_n_n]

theorem pay4_apply (x0 : Vec Ideal S1024x64 .f32) (x1 : Vec Ideal S1x64 .f32) (x2 : Vec Ideal S1x64 .f32) (x3 : Vec Ideal S64x64 .f32) (a : Vec Ideal S1x64 .f32) (j : S1x64.Idx) :
    k0_pay4 x0 x1 x2 x3 a j = a j + ∑ r : Fin 1024, k0_pay3 x0 x1 x2 x3 (ix2 r (j 1)) := by
  unfold k0_pay4
  pointwise

theorem pay5_apply (x0 : Vec Ideal S1024x64 .f32) (x1 : Vec Ideal S1x64 .f32) (x2 : Vec Ideal S1x64 .f32) (x3 : Vec Ideal S64x64 .f32) (a : Vec Ideal S1x64 .f32) (j : S1x64.Idx) :
    k0_pay1 (k0_pay5 x0 x1 x2 x3 a) j = a j + ∑ r : Fin 1024, k0_pay3 x0 x1 x2 x3 (ix2 r (j 1)) * k0_pay3 x0 x1 x2 x3 (ix2 r (j 1)) := by
  unfold k0_pay1 k0_pay5
  pointwise

variable (m : (ℓ : Loc nD τ sig) → Buf (Elt Ideal) ℓ)

/-- The reference's product of the launch's own arguments. -/
def P (c : Dev nD) : Vec Ideal ⟨2, ![262144, 64]⟩ .f32 :=
  Cert.SecondRefIdeal.Value.prod (m ((c : Thread nD τ).loc main_arg0)) (m ((c : Thread nD τ).loc main_arg1)) (m ((c : Thread nD τ).loc main_arg2)) (m ((c : Thread nD τ).loc main_arg3))

theorem blk0 (c : Dev nD) (t : Fin cfg0.N) (r : Fin 1024) (k : Fin 64) :
    (iblk m c 0 t : Vec Ideal S1024x64 .f32) (ix2 r k) = m ((c : Thread nD τ).loc main_arg0) (ix2 ⟨t.val * 1024 + r.val, by have h : t.val < 256 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  blk_ext [iblk, V, hi.1, hi.2]

theorem blk1 (c : Dev nD) (t : Fin cfg0.N) (k : Fin 64) :
    (iblk m c 1 t : Vec Ideal S1x64 .f32) (ix2 0 k) = m ((c : Thread nD τ).loc main_arg1) (ix1 k) := by
  have hi : win0_1.index t 0 = 0 ∧ win0_1.index t 1 = 0 :=
    (by decide +kernel : ∀ t : Fin grid0.N, win0_1.index t 0 = 0 ∧ win0_1.index t 1 = 0) t
  have e : V m c main_v0 = broadcastInDim S1x64 ![1] bcast_S64_S1x64_1 (m ((c : Thread nD τ).loc main_arg1)) := by entry_read; rfl
  have h : (iblk m c 1 t : Vec Ideal S1x64 .f32) (ix2 0 k) = V m c main_v0 (ix2 0 k) := by
    unfold iblk
    generalize V m c = W
    blk_ext [hi.1, hi.2]
  rw [h, e]
  pointwise

theorem blk2 (c : Dev nD) (t : Fin cfg0.N) (k : Fin 64) :
    (iblk m c 2 t : Vec Ideal S1x64 .f32) (ix2 0 k) = m ((c : Thread nD τ).loc main_arg2) (ix1 k) := by
  have hi : win0_2.index t 0 = 0 ∧ win0_2.index t 1 = 0 :=
    (by decide +kernel : ∀ t : Fin grid0.N, win0_2.index t 0 = 0 ∧ win0_2.index t 1 = 0) t
  have e : V m c main_v1 = broadcastInDim S1x64 ![1] bcast_S64_S1x64_1 (m ((c : Thread nD τ).loc main_arg2)) := by entry_read; rfl
  have h : (iblk m c 2 t : Vec Ideal S1x64 .f32) (ix2 0 k) = V m c main_v1 (ix2 0 k) := by
    unfold iblk
    generalize V m c = W
    blk_ext [hi.1, hi.2]
  rw [h, e]
  pointwise

theorem blk3 (c : Dev nD) (t : Fin cfg0.N) (k : Fin 64) (j : Fin 64) :
    (iblk m c 3 t : Vec Ideal S64x64 .f32) (ix2 k j) = m ((c : Thread nD τ).loc main_arg3) (ix2 j k) := by
  have hi : win0_3.index t 0 = 0 ∧ win0_3.index t 1 = 0 :=
    (by decide +kernel : ∀ t : Fin grid0.N, win0_3.index t 0 = 0 ∧ win0_3.index t 1 = 0) t
  have e : V m c main_v2 = transpose S64x64 [1, 0] (m ((c : Thread nD τ).loc main_arg3)) transposes_S64x64_S64x64_1_0 := by entry_read; rfl
  have h : (iblk m c 3 t : Vec Ideal S64x64 .f32) (ix2 k j) = V m c main_v2 (ix2 k j) := by
    unfold iblk
    generalize V m c = W
    blk_ext [hi.1, hi.2]
  rw [h, e]
  pointwise

theorem point (c : Dev nD) (t : Fin cfg0.N) (r : Fin 1024) (j : Fin 64) :
    k0_pay3 (iblk m c 0 t) (iblk m c 1 t) (iblk m c 2 t) (iblk m c 3 t) (ix2 r j)
      = P m c (ix2 ⟨t.val * 1024 + r.val, by have h : t.val < 256 := lt_of_lt_of_eq t.isLt N_0; have := r.isLt; omega⟩ j) := by
  rw [pay3_apply]
  unfold P
  rw [Cert.SecondRefIdeal.Value.prod_apply]
  refine Finset.sum_congr rfl fun k _ => ?_
  exact congrArg₂ (· * ·) (congrArg₂ max (congrArg₂ (· + ·) (congrArg₂ (· * ·) (blk0 m c t r k) (blk1 m c t k)) (blk2 m c t k)) rfl) (blk3 m c t k j)

end Cert.SecondIdeal.Value
end
-- ==== Proof.SecondTotal.lean ====
/- The two results of the second layer's launch, equal to the reference's: the products placed block by block, the
   column sums gathered over the whole grid. -/
module

public import proofs.«01_k».proof.Proof.SecondFold
public import proofs.«01_k».proof.Proof.SecondAlgebra
public import proofs.«01_k».proof.Proof.Sums

@[expose] public section

set_option maxRecDepth 16384

noncomputable section

namespace Cert.SecondIdeal.Value

open Cert.SecondIdeal Cert.SecondIdeal.Gen Idealize.ShloMosaic Idealize.ShloMosaic.TcCoe Idealize.SL.Sem
open Cert.Rows

variable (m : (ℓ : Loc nD τ sig) → Buf (Elt Ideal) ℓ)

theorem step_eq (c : Dev nD) (n : ℕ) (h : n < cfg0.N) (acc : Vec Ideal S8x64 .f32) :
    stepAcc (iblk m c 0 ⟨n, h⟩) (iblk m c 1 ⟨n, h⟩) (iblk m c 2 ⟨n, h⟩) (iblk m c 3 ⟨n, h⟩) acc = addBlock (d := 64) (P m c) n acc := by
  have hN : n < 256 := lt_of_lt_of_eq h N_0
  funext y
  unfold stepAcc put01 addBlock
  refine if_congr Iff.rfl ?_ (if_congr Iff.rfl ?_ rfl)
  · refine (pay5_apply _ _ _ _ _ _).trans (congrArg₂ (· + ·) rfl ?_)
    unfold blockSum
    rw [dif_pos hN]
    refine Finset.sum_congr rfl fun r _ => ?_
    exact congrArg₂ (· * ·) (point m c ⟨n, h⟩ r (y 1)) (point m c ⟨n, h⟩ r (y 1))
  · refine (pay4_apply _ _ _ _ _ _).trans (congrArg₂ (· + ·) rfl ?_)
    unfold blockSum
    rw [dif_pos hN]
    exact Finset.sum_congr rfl fun r _ => point m c ⟨n, h⟩ r (y 1)

theorem zero_eq : k0_pay2 (F := Ideal) = fun _ => (0 : EReal) := by
  funext y
  unfold k0_pay2
  pointwise

theorem stats (c : Dev nD) : G5 m c = totals (d := 64) (P m c) := by
  rw [G5_last, fold_last m c 255 _ (by decide)]
  refine accum_totals (d := 64) _ (accum m c) cfg0.N N_0 ?_ fun n hn => ?_
  · rw [accum, dif_pos (lt_of_lt_of_eq (by decide) N_0.symm), step_eq, zero_eq]
  · rw [accum, dif_pos hn, step_eq]

theorem pt_eq (y : S262144x64.Idx) : pt4Of y = (y 0).val / 1024 := by
  have h1 : (y 1).val < 64 := (y 1).isLt
  show 1 * ((y 0).val / 1024 - 0) + 1 * ((y 1).val / 64 - 0) = _
  omega

theorem product_at (c : Dev nD) (y : S262144x64.Idx) (hn : pt4Of y < cfg0.N) : G4 m c y
      = k0_pay3 (iblk m c 0 ⟨pt4Of y, hn⟩) (iblk m c 1 ⟨pt4Of y, hn⟩) (iblk m c 2 ⟨pt4Of y, hn⟩) (iblk m c 3 ⟨pt4Of y, hn⟩) (loc4Of y) := by
  unfold G4
  rw [dif_pos hn]
  exact congrFun (fold_prod m c (pt4Of y) (by omega) hn) (loc4Of y)

theorem loc_eq (y : S262144x64.Idx) : loc4Of y = ix2 ⟨(y 0).val % 1024, Nat.mod_lt _ (by norm_num)⟩ ⟨(y 1).val % 64, Nat.mod_lt _ (by norm_num)⟩ := by
  funext k
  match k with
  | ⟨0, _⟩ => rfl
  | ⟨1, _⟩ => rfl

theorem products (c : Dev nD) : G4 m c = P m c := by
  funext y
  have h0 : (y 0).val < 262144 := (y 0).isLt
  have h1 : (y 1).val < 64 := (y 1).isLt
  have hn : pt4Of y < cfg0.N := by rw [pt_eq]; exact lt_of_lt_of_eq (by omega) N_0.symm
  refine (product_at m c y hn).trans ?_
  rw [loc_eq]
  refine (point m c ⟨pt4Of y, hn⟩ _ _).trans ?_
  refine congrArg (P m c) (Eq.trans (congrArg₂ ix2 (Fin.ext ?_) (Fin.ext ?_)) (eq_ix2 y).symm)
  · show pt4Of y * 1024 + (y 0).val % 1024 = (y 0).val
    rw [pt_eq]
    omega
  · show (y 1).val % 64 = (y 1).val
    omega

end Cert.SecondIdeal.Value
end
-- ==== Proof.Final.lean ====
/- The last call: a maximum of the scaled and shifted group maxima with zero, block by block. -/
module

public import proofs.«01_k».proof.Proof.Gen.FinalIdeal.Value
public import proofs.«01_k».proof.Proof.Gen.FinalRefIdeal.Run
public import Idealize.ShloMosaic.Lib.Pointwise
public import Idealize.ShloMosaic.Lib.Pipeline.ValueKit.Point
public import proofs.«01_k».proof.Proof.Rows

@[expose] public section

set_option maxRecDepth 16384

noncomputable section

namespace Cert.FinalRefIdeal.Value

open Cert.FinalRefIdeal Cert.FinalRefIdeal.Gen Idealize.ShloMosaic Idealize.ShloMosaic.TcCoe Idealize.SL.Sem

/-- The reference's result. -/
def clip (z : Vec Ideal S8192x128 .f32) (sc : Vec Ideal S128 .f32) (sh : Vec Ideal S128 .f32) : Vec Ideal S8192x128 .f32 :=
  maximumf (F := Ideal) (φ := .f32) (addf (mulf z (broadcastInDim S8192x128 ![0, 1] bcast_S1x128_S8192x128_0_1 (broadcastInDim S1x128 ![1] bcast_S128_S1x128_1 sc)))
    (broadcastInDim S8192x128 ![0, 1] bcast_S1x128_S8192x128_0_1 (broadcastInDim S1x128 ![1] bcast_S128_S1x128_1 sh)))
    (broadcastInDim S8192x128 ![] bcast_S_S8192x128 (constant S_ .f32 0x00000000#32))

theorem clip_apply (z : Vec Ideal S8192x128 .f32) (sc : Vec Ideal S128 .f32) (sh : Vec Ideal S128 .f32) (j : S8192x128.Idx) :
    clip z sc sh j = max (z (ix2 (j 0) (j 1)) * sc (ix1 (j 1)) + sh (ix1 (j 1))) 0 := by
  unfold clip
  pointwise

end Cert.FinalRefIdeal.Value

namespace Cert.FinalIdeal.Value

open Cert.FinalIdeal Cert.FinalIdeal.Gen Idealize.ShloMosaic Idealize.ShloMosaic.TcCoe Idealize.SL.Sem
open Cert.Rows

theorem pay1_apply (x0 : Vec Ideal S1024x128 .f32) (x1 : Vec Ideal S1x128 .f32) (x2 : Vec Ideal S1x128 .f32) (j : S1024x128.Idx) :
    k0_pay1 x0 x1 x2 j = max (x0 (ix2 (j 0) (j 1)) * x1 (ix2 0 (j 1)) + x2 (ix2 0 (j 1))) 0 := by
  unfold_payloads
  pointwise

theorem out3_eq (x0 : Vec Ideal S1024x128 .f32) (x1 : Vec Ideal S1x128 .f32) (x2 : Vec Ideal S1x128 .f32) : out0_3 x0 x1 x2 = k0_pay1 x0 x1 x2 := by
  unfold out0_3
  rw [View.canon_unit_zero (S := S1024x128) hz, View.ld_unit_zero (S := S1024x128) hz, View.ld_unit_zero (S := S1x128) hz, View.ld_unit_zero (S := S1x128) hz]

variable (m : (ℓ : Loc nD τ sig) → Buf (Elt Ideal) ℓ)

/-- The reference's result of the launch's own arguments. -/
def R (c : Dev nD) : Vec Ideal ⟨2, ![8192, 128]⟩ .f32 :=
  Cert.FinalRefIdeal.Value.clip (m ((c : Thread nD τ).loc main_arg0)) (m ((c : Thread nD τ).loc main_arg1)) (m ((c : Thread nD τ).loc main_arg2))

theorem blk0 (c : Dev nD) (t : Fin cfg0.N) (r : Fin 1024) (k : Fin 128) :
    (iblk m c 0 t : Vec Ideal S1024x128 .f32) (ix2 r k) = m ((c : Thread nD τ).loc main_arg0) (ix2 ⟨t.val * 1024 + r.val, by have h : t.val < 8 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  blk_ext [iblk, V, hi.1, hi.2]

theorem blk1 (c : Dev nD) (t : Fin cfg0.N) (k : Fin 128) :
    (iblk m c 1 t : Vec Ideal S1x128 .f32) (ix2 0 k) = m ((c : Thread nD τ).loc main_arg1) (ix1 k) := by
  have hi : win0_1.index t 0 = 0 ∧ win0_1.index t 1 = 0 :=
    (by decide +kernel : ∀ t : Fin grid0.N, win0_1.index t 0 = 0 ∧ win0_1.index t 1 = 0) t
  have e : V m c main_v0 = broadcastInDim S1x128 ![1] bcast_S128_S1x128_1 (m ((c : Thread nD τ).loc main_arg1)) := by entry_read; rfl
  have h : (iblk m c 1 t : Vec Ideal S1x128 .f32) (ix2 0 k) = V m c main_v0 (ix2 0 k) := by
    unfold iblk
    generalize V m c = W
    blk_ext [hi.1, hi.2]
  rw [h, e]
  pointwise

theorem blk2 (c : Dev nD) (t : Fin cfg0.N) (k : Fin 128) :
    (iblk m c 2 t : Vec Ideal S1x128 .f32) (ix2 0 k) = m ((c : Thread nD τ).loc main_arg2) (ix1 k) := by
  have hi : win0_2.index t 0 = 0 ∧ win0_2.index t 1 = 0 :=
    (by decide +kernel : ∀ t : Fin grid0.N, win0_2.index t 0 = 0 ∧ win0_2.index t 1 = 0) t
  have e : V m c main_v1 = broadcastInDim S1x128 ![1] bcast_S128_S1x128_1 (m ((c : Thread nD τ).loc main_arg2)) := by entry_read; rfl
  have h : (iblk m c 2 t : Vec Ideal S1x128 .f32) (ix2 0 k) = V m c main_v1 (ix2 0 k) := by
    unfold iblk
    generalize V m c = W
    blk_ext [hi.1, hi.2]
  rw [h, e]
  pointwise

theorem idx3 : ∀ t : Fin cfg0.N, win0_3.index t 0 = t.val ∧ win0_3.index t 1 = 0 :=
  (by decide +kernel : ∀ t : Fin grid0.N, win0_3.index t 0 = t.val ∧ win0_3.index t 1 = 0)

theorem flushes3 : ∀ t : Fin cfg0.N, (cfg0.win 3).flush t = true :=
  (by decide +kernel : ∀ t : Fin grid0.N, win0_3.flush t = true)

theorem written (c : Dev nD) (t : Fin cfg0.N) : (dats m 0 c).flushed 3 t = ((cfg0.win 3).blk t).view.read (Elt Ideal) (R m c) := by
  have hN : t.val < 8 := lt_of_lt_of_eq t.isLt N_0
  rw [flushed3, out3_eq]
  funext y
  have hy0 : (y 0).val < 1024 := (y 0).isLt
  have hy1 : (y 1).val < 128 := (y 1).isLt
  show k0_pay1 (iblk m c 0 t) (iblk m c 1 t) (iblk m c 2 t) ((cfg0.win 3).xinj (grid0.coords t) y) = R m c (((cfg0.win 3).blk t).view.emb y)
  have he : ((cfg0.win 3).blk t).view.emb y = (ix2 ⟨t.val * 1024 + (y 0).val, by omega⟩ ⟨(y 1).val, hy1⟩ : S8192x128.Idx) := by
    funext a; apply Fin.ext
    match a with
    | ⟨0, _⟩ => show win0_3.index t (0 : Fin 2) * 1024 + 1 * (y 0).val = t.val * 1024 + (y 0).val; rw [(idx3 t).1]; omega
    | ⟨1, _⟩ => show win0_3.index t (1 : Fin 2) * 128 + 1 * (y 1).val = (y 1).val; rw [(idx3 t).2]; omega
  rw [he, pay1_apply]
  unfold R
  rw [Cert.FinalRefIdeal.Value.clip_apply]
  exact congrArg₂ max (congrArg₂ (· + ·) (congrArg₂ (· * ·) (blk0 m c t ⟨(y 0).val, hy0⟩ ⟨(y 1).val, hy1⟩) (blk1 m c t ⟨(y 1).val, hy1⟩)) (blk2 m c t ⟨(y 1).val, hy1⟩)) rfl

theorem covered (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  refine ⟨⟨(i 0).val / 1024, lt_of_lt_of_eq (by omega) N_0.symm⟩, flushes3 _, ?_⟩
  generalize ht : (⟨(i 0).val / 1024, lt_of_lt_of_eq (by omega) N_0.symm⟩ : Fin cfg0.N) = t
  have htv : t.val = (i 0).val / 1024 := by rw [← ht]
  show i ∈ ((View.whole main_v2).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [(idx3 t).1]; omega
  | ⟨1, _⟩ => show win0_3.index t (1 : Fin 2) * 128 ≤ (i 1).val ∧ (i 1).val < win0_3.index t (1 : Fin 2) * 128 + 128; rw [(idx3 t).2]; omega

theorem result (c : Dev nD) : (dats m 0 c).arrAt 3 cfg0.N = R m c :=
  (dats m 0 c).arrAt_eq_of_cover 3 _ (fun t _ => written m c t) covered

end Cert.FinalIdeal.Value

end
-- ==== Proof.CentresRun.lean ====
/- The first step's program: its operations, stretch by stretch. -/
module

public import proofs.«01_k».proof.Proof.Gen.CentresIdeal
public import Idealize.ShloMosaic.Lib.StableHlo.Run
public import Idealize.ShloMosaic.Lib.StableHlo.RunLoop
public import Idealize.ShloMosaic.Lib.Scf.ExitTest
public import Idealize.ShloMosaic.Lib.Scf.Counter

@[expose] public section

set_option maxRecDepth 16384

noncomputable section

namespace Cert.CentresIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.CentresIdeal Cert.CentresIdeal.Gen

variable {F : FTy → Type} [FloatOps F]

/-- The condition's two operations. -/
abbrev condOps : List (HloOp τ sig (Elt F)) :=
  [ nullary main_while0c_c_6 (constantI S_ 32 512#32),
    binary main_v4_1 main_while0c_c_6 main_while0c_v9 (cmpi .slt : (⟨S_, .i32⟩ : BufTy).Contents (Elt F) → (⟨S_, .i32⟩ : BufTy).Contents (Elt F) → (⟨S_, .i1⟩ : BufTy).Contents (Elt F))]

theorem condOps_sub : (condOps : List (HloOp τ sig (Elt F))).Forall fun op => op.bufs ⊆ tcRefs τ sig :=
  ⟨nullary_bufs_sub .., binary_bufs_sub ..⟩

/-- The body up to the new distances. -/
abbrev bodyOps0 : List (HloOp τ sig (Elt F)) :=
  [ nullary main_while0b_v9 (iotaInDim S16 32 0),
    nullary main_while0b_c_6 (constantI S_ 32 0#32),
    unary main_while0b_c_6 main_while0b_v10 (broadcastInDim S16 ![] bcast_S_S16 : (⟨S_, .i32⟩ : BufTy).Contents (Elt F) → (⟨S16, .i32⟩ : BufTy).Contents (Elt F)),
    binary main_while0b_v9 main_while0b_v10 main_while0b_v11 (cmpi .slt : (⟨S16, .i32⟩ : BufTy).Contents (Elt F) → (⟨S16, .i32⟩ : BufTy).Contents (Elt F) → (⟨S16, .i1⟩ : BufTy).Contents (Elt F)),
    nullary main_while0b_c_7 (constantI S_ 32 16#32),
    unary main_while0b_c_7 main_while0b_v12 (broadcastInDim S16 ![] bcast_S_S16 : (⟨S_, .i32⟩ : BufTy).Contents (Elt F) → (⟨S16, .i32⟩ : BufTy).Contents (Elt F)),
    binary main_while0b_v9 main_while0b_v12 main_while0b_v13 (addi : (⟨S16, .i32⟩ : BufTy).Contents (Elt F) → (⟨S16, .i32⟩ : BufTy).Contents (Elt F) → (⟨S16, .i32⟩ : BufTy).Contents (Elt F)),
    ternary main_while0b_v11 main_while0b_v13 main_while0b_v9 main_while0b_v14 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    nullary main_while0b_c_8 (constantI S_ 32 0#32),
    unary main_while0b_c_8 main_while0b_v15 (broadcastInDim S16 ![] bcast_S_S16 : (⟨S_, .i32⟩ : BufTy).Contents (Elt F) → (⟨S16, .i32⟩ : BufTy).Contents (Elt F)),
    binary main_v4_3 main_while0b_v15 main_while0b_v16 (cmpi .slt : (⟨S16, .i32⟩ : BufTy).Contents (Elt F) → (⟨S16, .i32⟩ : BufTy).Contents (Elt F) → (⟨S16, .i1⟩ : BufTy).Contents (Elt F)),
    nullary main_while0b_c_9 (constantI S_ 32 4096#32),
    unary main_while0b_c_9 main_while0b_v17 (broadcastInDim S16 ![] bcast_S_S16 : (⟨S_, .i32⟩ : BufTy).Contents (Elt F) → (⟨S16, .i32⟩ : BufTy).Contents (Elt F)),
    binary main_v4_3 main_while0b_v17 main_while0b_v18 (addi : (⟨S16, .i32⟩ : BufTy).Contents (Elt F) → (⟨S16, .i32⟩ : BufTy).Contents (Elt F) → (⟨S16, .i32⟩ : BufTy).Contents (Elt F)),
    ternary main_while0b_v16 main_while0b_v18 main_v4_3 main_while0b_v19 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_while0b_v14 main_while0b_v20 (broadcastInDim S16x1 ![0] bcast_S16_S16x1_0 : (⟨S16, .i32⟩ : BufTy).Contents (Elt F) → (⟨S16x1, .i32⟩ : BufTy).Contents (Elt F)),
    unary main_while0b_v19 main_while0b_v21 (broadcastInDim S16x1 ![0] bcast_S16_S16x1_0 : (⟨S16, .i32⟩ : BufTy).Contents (Elt F) → (⟨S16x1, .i32⟩ : BufTy).Contents (Elt F)),
    binary main_while0b_v20 main_while0b_v21 main_while0b_v22 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    binary main_v4_0 main_while0b_v22 main_while0b_v23 ((fun x i => Host.gather gather_S16x4096x3_S16x2_S16x3_1_01_n_n_01_1_113 x i) : (⟨S16x4096x3, .f32⟩ : BufTy).Contents (Elt F) → (⟨S16x2, .i32⟩ : BufTy).Contents (Elt F) → (⟨S16x3, .f32⟩ : BufTy).Contents (Elt F)),
    unary main_while0b_v23 main_while0b_v24 (broadcastInDim S16x1x3 ![0, 2] bcast_S16x3_S16x1x3_0_2 : (⟨S16x3, .f32⟩ : BufTy).Contents (Elt F) → (⟨S16x1x3, .f32⟩ : BufTy).Contents (Elt F)),
    unary main_while0b_v24 main_while0b_v25 (broadcastInDim S16x4096x3 ![0, 1, 2] bcast_S16x1x3_S16x4096x3_0_1_2 : (⟨S16x1x3, .f32⟩ : BufTy).Contents (Elt F) → (⟨S16x4096x3, .f32⟩ : BufTy).Contents (Elt F)),
    binary main_v4_0 main_while0b_v25 main_while0b_v26 (subf : (⟨S16x4096x3, .f32⟩ : BufTy).Contents (Elt F) → (⟨S16x4096x3, .f32⟩ : BufTy).Contents (Elt F) → (⟨S16x4096x3, .f32⟩ : BufTy).Contents (Elt F)),
    binary main_while0b_v26 main_while0b_v26 main_while0b_v27 (mulf : (⟨S16x4096x3, .f32⟩ : BufTy).Contents (Elt F) → (⟨S16x4096x3, .f32⟩ : BufTy).Contents (Elt F) → (⟨S16x4096x3, .f32⟩ : BufTy).Contents (Elt F)),
    nullary main_while0b_cst_10 (constant S_ .f32 0x00000000#32),
    binary main_while0b_v27 main_while0b_cst_10 main_while0b_v28 ((fun x v => Host.reduceAdd x v reducesTo_S16x4096x3_S16x4096_d2 h_S_) : (⟨S16x4096x3, .f32⟩ : BufTy).Contents (Elt F) → (⟨S_, .f32⟩ : BufTy).Contents (Elt F) → (⟨S16x4096, .f32⟩ : BufTy).Contents (Elt F)),
    binary main_v4_2 main_while0b_v28 main_while0b_v29 (minimumf : (⟨S16x4096, .f32⟩ : BufTy).Contents (Elt F) → (⟨S16x4096, .f32⟩ : BufTy).Contents (Elt F) → (⟨S16x4096, .f32⟩ : BufTy).Contents (Elt F))]

theorem bodyOps0_sub : (bodyOps0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub ..⟩

/-- The body's choice of the next centre. -/
abbrev bodyOps1 : List (HloOp τ sig (Elt F)) :=
  [ nullary main_while0b_call0_v0 (iotaInDim S16x4096 32 1),
    nullary main_while0b_call0_cst (constant S_ .f32 0xFF800000#32),
    nullary main_while0b_call0_c (constantI S_ 32 0#32),
    quaternary main_while0b_v29 main_while0b_call0_v0 main_while0b_call0_cst main_while0b_call0_c main_while0b_call0_v1_0 ((fun x y u v j => (Host.argReduce reducer_argmax_f32_i32 x y u v reducesTo_S16x4096_S16_d1 h_S_ j).1) : (⟨S16x4096, .f32⟩ : BufTy).Contents (Elt F) → (⟨S16x4096, .i32⟩ : BufTy).Contents (Elt F) → (⟨S_, .f32⟩ : BufTy).Contents (Elt F) → (⟨S_, .i32⟩ : BufTy).Contents (Elt F) → (⟨S16, .f32⟩ : BufTy).Contents (Elt F)),
    quaternary main_while0b_v29 main_while0b_call0_v0 main_while0b_call0_cst main_while0b_call0_c main_while0b_v30 ((fun x y u v j => (Host.argReduce reducer_argmax_f32_i32 x y u v reducesTo_S16x4096_S16_d1 h_S_ j).2) : (⟨S16x4096, .f32⟩ : BufTy).Contents (Elt F) → (⟨S16x4096, .i32⟩ : BufTy).Contents (Elt F) → (⟨S_, .f32⟩ : BufTy).Contents (Elt F) → (⟨S_, .i32⟩ : BufTy).Contents (Elt F) → (⟨S16, .i32⟩ : BufTy).Contents (Elt F))]

theorem bodyOps1_sub : (bodyOps1 : List (HloOp τ sig (Elt F))).Forall fun op => op.bufs ⊆ tcRefs τ sig :=
  ⟨nullary_bufs_sub .., nullary_bufs_sub .., nullary_bufs_sub .., quaternary_bufs_sub .., quaternary_bufs_sub ..⟩

/-- The body's writing of the centre's row. -/
abbrev bodyOps2 : List (HloOp τ sig (Elt F)) :=
  [ unary main_v4_3 main_while0b_call1_v0 ((broadcastInDim S1x16 ![1] bcast_S16_S1x16_1) : (⟨S16, .i32⟩ : BufTy).Contents (Elt F) → (⟨S1x16, .i32⟩ : BufTy).Contents (Elt F)),
    nullary main_while0b_call1_c (constantI S_ 32 0#32),
    TRef.binaryIndexed (.of main_v4_4 : TRef sig ⟨S512x16, .i32⟩) (.of main_while0b_call1_v0 : TRef sig ⟨S1x16, .i32⟩) ![(.of main_v4_1 : TRef sig ⟨S_, .i32⟩), (.of main_while0b_call1_c : TRef sig ⟨S_, .i32⟩)] (.of main_while0b_v31 : TRef sig ⟨S512x16, .i32⟩) (fun x u i => Host.dynamicUpdateSlice x u (fun k => (i k (Shape.Idx.first h_S_)).toInt) updateFits_S512x16_S1x16)]

theorem bodyOps2_sub : (bodyOps2 : List (HloOp τ sig (Elt F))).Forall fun op => op.bufs ⊆ tcRefs τ sig :=
  ⟨unary_bufs_sub .., nullary_bufs_sub .., binaryIndexed_bufs_sub ..⟩

/-- The body's counting, and the copies into the carried buffers. -/
abbrev bodyOps3 : List (HloOp τ sig (Elt F)) :=
  [ nullary main_while0b_c_11 (constantI S_ 32 1#32),
    binary main_v4_1 main_while0b_c_11 main_while0b_v32 (addi : (⟨S_, .i32⟩ : BufTy).Contents (Elt F) → (⟨S_, .i32⟩ : BufTy).Contents (Elt F) → (⟨S_, .i32⟩ : BufTy).Contents (Elt F)),
    unary main_while0b_v32 main_v4_1 id,
    unary main_while0b_v29 main_v4_2 id,
    unary main_while0b_v30 main_v4_3 id,
    unary main_while0b_v31 main_v4_4 id]

theorem bodyOps3_sub : (bodyOps3 : List (HloOp τ sig (Elt F))).Forall fun op => op.bufs ⊆ tcRefs τ sig :=
  ⟨nullary_bufs_sub .., binary_bufs_sub .., unary_bufs_sub .., unary_bufs_sub .., unary_bufs_sub .., unary_bufs_sub ..⟩

/-- The operations before the loop. -/
abbrev preOps : List (HloOp τ sig (Elt F)) :=
  [ unary main_arg0 main_v0 ((transpose S16x4096x3 [0, 2, 1] · transposes_S16x3x4096_S16x4096x3_0_2_1) : (⟨S16x3x4096, .f32⟩ : BufTy).Contents (Elt F) → (⟨S16x4096x3, .f32⟩ : BufTy).Contents (Elt F)),
    nullary main_cst (constant S_ .f32 0x501502F9#32),
    unary main_cst main_v1 (broadcastInDim S16x4096 ![] bcast_S_S16x4096 : (⟨S_, .f32⟩ : BufTy).Contents (Elt F) → (⟨S16x4096, .f32⟩ : BufTy).Contents (Elt F)),
    nullary main_c (constantI S_ 32 0#32),
    unary main_c main_v2 (broadcastInDim S16 ![] bcast_S_S16 : (⟨S_, .i32⟩ : BufTy).Contents (Elt F) → (⟨S16, .i32⟩ : BufTy).Contents (Elt F)),
    nullary main_c_0 (constantI S_ 32 0#32),
    unary main_c_0 main_v3 (broadcastInDim S512x16 ![] bcast_S_S512x16 : (⟨S_, .i32⟩ : BufTy).Contents (Elt F) → (⟨S512x16, .i32⟩ : BufTy).Contents (Elt F)),
    nullary main_c_1 (constantI S_ 32 0#32),
    unary main_v0 main_v4_0 id,
    unary main_c_1 main_v4_1 id,
    unary main_v1 main_v4_2 id,
    unary main_v2 main_v4_3 id,
    unary main_v3 main_v4_4 id]

theorem preOps_sub : (preOps : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

/-- The operations after the loop, part 0. -/
abbrev postOps0 : List (HloOp τ sig (Elt F)) :=
  [ unary main_v4_4 main_v5 ((transpose S16x512 [1, 0] · transposes_S512x16_S16x512_1_0) : (⟨S512x16, .i32⟩ : BufTy).Contents (Elt F) → (⟨S16x512, .i32⟩ : BufTy).Contents (Elt F)),
    unary main_v5 main_v6 (broadcastInDim S16x512x1 ![0, 1] bcast_S16x512_S16x512x1_0_1 : (⟨S16x512, .i32⟩ : BufTy).Contents (Elt F) → (⟨S16x512x1, .i32⟩ : BufTy).Contents (Elt F))]

theorem postOps0_sub : (postOps0 : List (HloOp τ sig (Elt F))).Forall fun op => op.bufs ⊆ tcRefs τ sig :=
  ⟨unary_bufs_sub .., unary_bufs_sub ..⟩

/-- The operations after the loop, part 1. -/
abbrev postOps1 : List (HloOp τ sig (Elt F)) :=
  [ nullary main_call2_c (constantI S_ 32 0#32),
    unary main_call2_c main_call2_v0 ((broadcastInDim S16x512x1 ![] bcast_S_S16x512x1) : (⟨S_, .i32⟩ : BufTy).Contents (Elt F) → (⟨S16x512x1, .i32⟩ : BufTy).Contents (Elt F)),
    binary main_v6 main_call2_v0 main_call2_v1 ((cmpi .slt) : (⟨S16x512x1, .i32⟩ : BufTy).Contents (Elt F) → (⟨S16x512x1, .i32⟩ : BufTy).Contents (Elt F) → (⟨S16x512x1, .i1⟩ : BufTy).Contents (Elt F)),
    nullary main_call2_c_0 (constantI S_ 32 4096#32),
    unary main_call2_c_0 main_call2_v2 ((broadcastInDim S16x512x1 ![] bcast_S_S16x512x1) : (⟨S_, .i32⟩ : BufTy).Contents (Elt F) → (⟨S16x512x1, .i32⟩ : BufTy).Contents (Elt F)),
    binary main_v6 main_call2_v2 main_call2_v3 (addi : (⟨S16x512x1, .i32⟩ : BufTy).Contents (Elt F) → (⟨S16x512x1, .i32⟩ : BufTy).Contents (Elt F) → (⟨S16x512x1, .i32⟩ : BufTy).Contents (Elt F)),
    ternary main_call2_v1 main_call2_v3 main_v6 main_call2_v4 (select : (⟨S16x512x1, .i1⟩ : BufTy).Contents (Elt F) → (⟨S16x512x1, .i32⟩ : BufTy).Contents (Elt F) → (⟨S16x512x1, .i32⟩ : BufTy).Contents (Elt F) → (⟨S16x512x1, .i32⟩ : BufTy).Contents (Elt F)),
    nullary main_call2_c_1 (constantI S1 32 4095#32),
    nullary main_call2_c_2 (constantI S_ 32 0#32),
    unary main_call2_c_2 main_call2_v5 ((broadcastInDim S16x512x1 ![] bcast_S_S16x512x1) : (⟨S_, .i32⟩ : BufTy).Contents (Elt F) → (⟨S16x512x1, .i32⟩ : BufTy).Contents (Elt F)),
    binary main_call2_v4 main_call2_v5 main_call2_v6 ((cmpi .sge) : (⟨S16x512x1, .i32⟩ : BufTy).Contents (Elt F) → (⟨S16x512x1, .i32⟩ : BufTy).Contents (Elt F) → (⟨S16x512x1, .i1⟩ : BufTy).Contents (Elt F)),
    unary main_call2_c_1 main_call2_v7 ((broadcastInDim S1x1x1 ![2] bcast_S1_S1x1x1_2) : (⟨S1, .i32⟩ : BufTy).Contents (Elt F) → (⟨S1x1x1, .i32⟩ : BufTy).Contents (Elt F)),
    unary main_call2_v7 main_call2_v8 ((broadcastInDim S16x512x1 ![0, 1, 2] bcast_S1x1x1_S16x512x1_0_1_2) : (⟨S1x1x1, .i32⟩ : BufTy).Contents (Elt F) → (⟨S16x512x1, .i32⟩ : BufTy).Contents (Elt F)),
    binary main_call2_v4 main_call2_v8 main_call2_v9 ((cmpi .sle) : (⟨S16x512x1, .i32⟩ : BufTy).Contents (Elt F) → (⟨S16x512x1, .i32⟩ : BufTy).Contents (Elt F) → (⟨S16x512x1, .i1⟩ : BufTy).Contents (Elt F)),
    binary main_call2_v6 main_call2_v9 main_call2_v10 (andi : (⟨S16x512x1, .i1⟩ : BufTy).Contents (Elt F) → (⟨S16x512x1, .i1⟩ : BufTy).Contents (Elt F) → (⟨S16x512x1, .i1⟩ : BufTy).Contents (Elt F)),
    nullary main_call2_c_3 (constantI S_ 1 1#1),
    binary main_call2_v10 main_call2_c_3 main_call2_v11 ((fun x v => Host.reduce IntOp.andi x v reducesTo_S16x512x1_S16x512_d2 h_S_) : (⟨S16x512x1, .i1⟩ : BufTy).Contents (Elt F) → (⟨S_, .i1⟩ : BufTy).Contents (Elt F) → (⟨S16x512, .i1⟩ : BufTy).Contents (Elt F)),
    binary main_v0 main_call2_v4 main_call2_v12 ((fun x i => Host.gather gather_S16x4096x3_S16x512x1_S16x512x3_2_1_0_0_1_2_113 x i) : (⟨S16x4096x3, .f32⟩ : BufTy).Contents (Elt F) → (⟨S16x512x1, .i32⟩ : BufTy).Contents (Elt F) → (⟨S16x512x3, .f32⟩ : BufTy).Contents (Elt F)),
    unary main_call2_v11 main_call2_v13 ((broadcastInDim S16x512x3 ![0, 1] bcast_S16x512_S16x512x3_0_1) : (⟨S16x512, .i1⟩ : BufTy).Contents (Elt F) → (⟨S16x512x3, .i1⟩ : BufTy).Contents (Elt F)),
    nullary main_call2_cst (constant S_ .f32 0x7FC00000#32),
    unary main_call2_cst main_call2_v14 ((broadcastInDim S16x512x3 ![] bcast_S_S16x512x3) : (⟨S_, .f32⟩ : BufTy).Contents (Elt F) → (⟨S16x512x3, .f32⟩ : BufTy).Contents (Elt F)),
    ternary main_call2_v13 main_call2_v12 main_call2_v14 main_v7 (select : (⟨S16x512x3, .i1⟩ : BufTy).Contents (Elt F) → (⟨S16x512x3, .f32⟩ : BufTy).Contents (Elt F) → (⟨S16x512x3, .f32⟩ : BufTy).Contents (Elt F) → (⟨S16x512x3, .f32⟩ : BufTy).Contents (Elt F))]

theorem postOps1_sub : (postOps1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations after the loop, part 2. -/
abbrev postOps2 : List (HloOp τ sig (Elt F)) :=
  [ unary main_v7 main_v8 ((transpose S16x3x512 [0, 2, 1] · transposes_S16x512x3_S16x3x512_0_2_1) : (⟨S16x512x3, .f32⟩ : BufTy).Contents (Elt F) → (⟨S16x3x512, .f32⟩ : BufTy).Contents (Elt F))]

theorem postOps2_sub : (postOps2 : List (HloOp τ sig (Elt F))).Forall fun op => op.bufs ⊆ tcRefs τ sig :=
  unary_bufs_sub ..

/-- The body's stretches. -/
abbrev bodyI : List (List (HloOp τ sig (Elt F))) := [bodyOps0, bodyOps1, bodyOps2, bodyOps3]
/-- The stretch before the loop. -/
abbrev preI : List (List (HloOp τ sig (Elt F))) := [preOps]
/-- The stretches after the loop. -/
abbrev postI : List (List (HloOp τ sig (Elt F))) := [postOps0, postOps1, postOps2]

theorem preI_plain : Plain (preI (F := F)) := .cons preOps_sub <| .nil
theorem bodyI_plain : Plain (bodyI (F := F)) := .cons bodyOps0_sub <| .cons bodyOps1_sub <| .cons bodyOps2_sub <| .cons bodyOps3_sub <| .nil
theorem postI_plain : Plain (postI (F := F)) := .cons postOps0_sub <| .cons postOps1_sub <| .cons postOps2_sub <| .nil

theorem body_eq : main_while0_body (F := F) = Pipeline.chain ((bodyI (F := F)).map fun ops => (seq ops : Prog _ PUnit)) := by
  simp only [List.map_cons, List.map_nil]
  rewrite [chain_seq_cons, chain_seq_cons, chain_seq_cons, chain_seq_cons]
  chain_rfl

theorem main_eq (c : Dev nD) : main (F := F) c = Pipeline.chain (((preI (F := F)).map fun ops => (seq ops : Prog _ PUnit)) ++ HostLoop.enter 0 :: (postI (F := F)).map fun ops => (seq ops : Prog _ PUnit)) := by
  simp only [List.map_cons, List.map_nil, List.cons_append, List.nil_append]
  rewrite [chain_seq_cons, Pipeline.chain_cons, chain_seq_cons, chain_seq_cons, chain_seq_cons]
  chain_rfl

/-! ## One choice of a centre -/

/-- A batch's points, one row of three coordinates each. -/
def rows (x : (⟨S16x3x4096, .f32⟩ : BufTy).Contents (Elt F)) : (⟨S16x4096x3, .f32⟩ : BufTy).Contents (Elt F) :=
  transpose S16x4096x3 [0, 2, 1] x transposes_S16x3x4096_S16x4096x3_0_2_1

/-- The distances before the first choice. -/
def far0 : (⟨S16x4096, .f32⟩ : BufTy).Contents (Elt F) := broadcastInDim S16x4096 ![] bcast_S_S16x4096 (constant S_ .f32 0x501502F9#32)

/-- The pairs of a batch's number and the point chosen in it, either counted from the end where negative. -/
def pairs (p : (⟨S16, .i32⟩ : BufTy).Contents (Elt F)) : (⟨S16x2, .i32⟩ : BufTy).Contents (Elt F) :=
  concatenate S16x2 1
    [⟨S16x1, broadcastInDim S16x1 ![0] bcast_S16_S16x1_0
        (select (cmpi .slt (iotaInDim S16 32 0) (broadcastInDim S16 ![] bcast_S_S16 (constantI S_ 32 0#32)))
          (addi (iotaInDim S16 32 0) (broadcastInDim S16 ![] bcast_S_S16 (constantI S_ 32 16#32))) (iotaInDim S16 32 0))⟩,
     ⟨S16x1, broadcastInDim S16x1 ![0] bcast_S16_S16x1_0
        (select (cmpi .slt p (broadcastInDim S16 ![] bcast_S_S16 (constantI S_ 32 0#32)))
          (addi p (broadcastInDim S16 ![] bcast_S_S16 (constantI S_ 32 4096#32))) p)⟩] concatenates_S16x1_S16x1_S16x2_d1

/-- Every point's difference from its batch's chosen point. -/
def apart (x : (⟨S16x4096x3, .f32⟩ : BufTy).Contents (Elt F)) (p : (⟨S16, .i32⟩ : BufTy).Contents (Elt F)) : (⟨S16x4096x3, .f32⟩ : BufTy).Contents (Elt F) :=
  subf x (broadcastInDim S16x4096x3 ![0, 1, 2] bcast_S16x1x3_S16x4096x3_0_1_2
    (broadcastInDim S16x1x3 ![0, 2] bcast_S16x3_S16x1x3_0_2 (Host.gather gather_S16x4096x3_S16x2_S16x3_1_01_n_n_01_1_113 x (pairs (F := F) p))))

/-- The distances to the nearest centre, with one more centre. -/
def dists (x : (⟨S16x4096x3, .f32⟩ : BufTy).Contents (Elt F)) (d : (⟨S16x4096, .f32⟩ : BufTy).Contents (Elt F)) (p : (⟨S16, .i32⟩ : BufTy).Contents (Elt F)) :
    (⟨S16x4096, .f32⟩ : BufTy).Contents (Elt F) :=
  minimumf d (Host.reduceAdd (mulf (apart x p) (apart x p)) (constant S_ .f32 0x00000000#32) reducesTo_S16x4096x3_S16x4096_d2 h_S_)

/-- The point farthest from the centres. -/
def next (d : (⟨S16x4096, .f32⟩ : BufTy).Contents (Elt F)) : (⟨S16, .i32⟩ : BufTy).Contents (Elt F) := fun j =>
  (Host.argReduce reducer_argmax_f32_i32 d (iotaInDim S16x4096 32 1) (constant S_ .f32 0xFF800000#32) (constantI S_ 32 0#32) reducesTo_S16x4096_S16_d1 h_S_ j).2

/-- The chosen points with row `i` written. -/
def update (s : (⟨S512x16, .i32⟩ : BufTy).Contents (Elt F)) (p : (⟨S16, .i32⟩ : BufTy).Contents (Elt F)) (i : (⟨S_, .i32⟩ : BufTy).Contents (Elt F)) :
    (⟨S512x16, .i32⟩ : BufTy).Contents (Elt F) :=
  Host.dynamicUpdateSlice s (broadcastInDim S1x16 ![1] bcast_S16_S1x16_1 p)
    (fun k => ((![i, constantI S_ 32 0#32] : Fin 2 → (⟨S_, .i32⟩ : BufTy).Contents (Elt F)) k (Shape.Idx.first h_S_) : BitVec 32).toInt) updateFits_S512x16_S1x16

/-- The distances, the next centre and the chosen points after `k` choices. -/
def state (x : (⟨S16x4096x3, .f32⟩ : BufTy).Contents (Elt F)) :
    ℕ → (⟨S16x4096, .f32⟩ : BufTy).Contents (Elt F) × (⟨S16, .i32⟩ : BufTy).Contents (Elt F) × (⟨S512x16, .i32⟩ : BufTy).Contents (Elt F)
  | 0 => (far0, fun _ => (0#32 : BitVec 32), fun _ => (0#32 : BitVec 32))
  | k + 1 => (dists x (state x k).1 (state x k).2.1, next (dists x (state x k).1 (state x k).2.1),
      update (F := F) (state x k).2.2 (state x k).2.1 (fun _ => Scf.iv 0#32 1#32 k))

theorem state_succ (x : (⟨S16x4096x3, .f32⟩ : BufTy).Contents (Elt F)) (k : ℕ) :
    state x (k + 1) = (dists x (state x k).1 (state x k).2.1, next (dists x (state x k).1 (state x k).2.1),
      update (F := F) (state x k).2.2 (state x k).2.1 (fun _ => Scf.iv 0#32 1#32 k)) := rfl

/-! ## What each stretch leaves -/

section Stretches
variable (X : Valuation τ sig (Elt F))

theorem condOps_keep :
    after condOps X (Proc.devRef .tc main_v4_0) = X (Proc.devRef .tc main_v4_0) ∧ after condOps X (Proc.devRef .tc main_v4_1) = X (Proc.devRef .tc main_v4_1)
    ∧ after condOps X (Proc.devRef .tc main_v4_2) = X (Proc.devRef .tc main_v4_2) ∧ after condOps X (Proc.devRef .tc main_v4_3) = X (Proc.devRef .tc main_v4_3)
    ∧ after condOps X (Proc.devRef .tc main_v4_4) = X (Proc.devRef .tc main_v4_4) ∧ after condOps X (Proc.devRef .tc main_v0) = X (Proc.devRef .tc main_v0)
    ∧ after condOps X (Proc.devRef .tc main_arg0) = X (Proc.devRef .tc main_arg0) := by
  refine ⟨?_, ?_, ?_, ?_, ?_, ?_, ?_⟩ <;> after_results

theorem bodyOps0_new : after bodyOps0 X (Proc.devRef .tc main_while0b_v29) = dists (X (Proc.devRef .tc main_v4_0)) (X (Proc.devRef .tc main_v4_2)) (X (Proc.devRef .tc main_v4_3)) := by
  after_results
  rfl

theorem bodyOps0_keep :
    after bodyOps0 X (Proc.devRef .tc main_v4_0) = X (Proc.devRef .tc main_v4_0) ∧ after bodyOps0 X (Proc.devRef .tc main_v4_1) = X (Proc.devRef .tc main_v4_1)
    ∧ after bodyOps0 X (Proc.devRef .tc main_v4_3) = X (Proc.devRef .tc main_v4_3)
    ∧ after bodyOps0 X (Proc.devRef .tc main_v4_4) = X (Proc.devRef .tc main_v4_4) ∧ after bodyOps0 X (Proc.devRef .tc main_v0) = X (Proc.devRef .tc main_v0)
    ∧ after bodyOps0 X (Proc.devRef .tc main_arg0) = X (Proc.devRef .tc main_arg0) := by
  refine ⟨?_, ?_, ?_, ?_, ?_, ?_⟩ <;> after_results

theorem bodyOps1_new : after bodyOps1 X (Proc.devRef .tc main_while0b_v30) = next (X (Proc.devRef .tc main_while0b_v29)) := by
  after_results
  rfl

theorem bodyOps1_keep :
    after bodyOps1 X (Proc.devRef .tc main_v4_0) = X (Proc.devRef .tc main_v4_0) ∧ after bodyOps1 X (Proc.devRef .tc main_v4_1) = X (Proc.devRef .tc main_v4_1)
    ∧ after bodyOps1 X (Proc.devRef .tc main_while0b_v29) = X (Proc.devRef .tc main_while0b_v29) ∧ after bodyOps1 X (Proc.devRef .tc main_v4_3) = X (Proc.devRef .tc main_v4_3)
    ∧ after bodyOps1 X (Proc.devRef .tc main_v4_4) = X (Proc.devRef .tc main_v4_4) ∧ after bodyOps1 X (Proc.devRef .tc main_v0) = X (Proc.devRef .tc main_v0)
    ∧ after bodyOps1 X (Proc.devRef .tc main_arg0) = X (Proc.devRef .tc main_arg0) := by
  refine ⟨?_, ?_, ?_, ?_, ?_, ?_, ?_⟩ <;> after_results

theorem bodyOps2_new : after bodyOps2 X (Proc.devRef .tc main_while0b_v31) = update (F := F) (X (Proc.devRef .tc main_v4_4)) (X (Proc.devRef .tc main_v4_3)) (X (Proc.devRef .tc main_v4_1)) := by
  after_results
  refine congrArg (fun g => Host.dynamicUpdateSlice (X (Proc.devRef .tc main_v4_4) : (⟨S512x16, .i32⟩ : BufTy).Contents (Elt F)) (broadcastInDim S1x16 ![1] bcast_S16_S1x16_1 (X (Proc.devRef .tc main_v4_3) : (⟨S16, .i32⟩ : BufTy).Contents (Elt F))) g updateFits_S512x16_S1x16) ?_
  funext k
  fin_cases k
  all_goals
    after_results
    rfl

theorem bodyOps2_keep :
    after bodyOps2 X (Proc.devRef .tc main_v4_0) = X (Proc.devRef .tc main_v4_0) ∧ after bodyOps2 X (Proc.devRef .tc main_v4_1) = X (Proc.devRef .tc main_v4_1)
    ∧ after bodyOps2 X (Proc.devRef .tc main_while0b_v29) = X (Proc.devRef .tc main_while0b_v29) ∧ after bodyOps2 X (Proc.devRef .tc main_while0b_v30) = X (Proc.devRef .tc main_while0b_v30)
    ∧ after bodyOps2 X (Proc.devRef .tc main_v0) = X (Proc.devRef .tc main_v0)
    ∧ after bodyOps2 X (Proc.devRef .tc main_arg0) = X (Proc.devRef .tc main_arg0) := by
  refine ⟨?_, ?_, ?_, ?_, ?_, ?_⟩ <;> after_results

theorem bodyOps3_new :
    after bodyOps3 X (Proc.devRef .tc main_v4_0) = X (Proc.devRef .tc main_v4_0)
    ∧ after bodyOps3 X (Proc.devRef .tc main_v4_1) = addi (X (Proc.devRef .tc main_v4_1)) (constantI S_ 32 1#32)
    ∧ after bodyOps3 X (Proc.devRef .tc main_v4_2) = X (Proc.devRef .tc main_while0b_v29) ∧ after bodyOps3 X (Proc.devRef .tc main_v4_3) = X (Proc.devRef .tc main_while0b_v30)
    ∧ after bodyOps3 X (Proc.devRef .tc main_v4_4) = X (Proc.devRef .tc main_while0b_v31) ∧ after bodyOps3 X (Proc.devRef .tc main_v0) = X (Proc.devRef .tc main_v0)
    ∧ after bodyOps3 X (Proc.devRef .tc main_arg0) = X (Proc.devRef .tc main_arg0) := by
  refine ⟨?_, ?_, ?_, ?_, ?_, ?_, ?_⟩ <;> after_results <;> rfl

theorem preOps_new :
    after preOps X (Proc.devRef .tc main_v4_0) = rows (X (Proc.devRef .tc main_arg0)) ∧ after preOps X (Proc.devRef .tc main_v4_1) = (fun _ => (0#32 : BitVec 32))
    ∧ after preOps X (Proc.devRef .tc main_v4_2) = far0 (F := F) ∧ after preOps X (Proc.devRef .tc main_v4_3) = (fun _ => (0#32 : BitVec 32))
    ∧ after preOps X (Proc.devRef .tc main_v4_4) = (fun _ => (0#32 : BitVec 32)) ∧ after preOps X (Proc.devRef .tc main_v0) = rows (X (Proc.devRef .tc main_arg0))
    ∧ after preOps X (Proc.devRef .tc main_arg0) = X (Proc.devRef .tc main_arg0) := by
  refine ⟨?_, ?_, ?_, ?_, ?_, ?_, ?_⟩ <;> after_results <;> rfl

end Stretches

/-! ## The loop -/

section Loop
variable (m : (ℓ : Loc nD τ sig) → Buf (Elt F) ℓ)

/-- The buffers before the `k`-th run of the condition. -/
abbrev trip (k : ℕ) (c : Dev nD) : Valuation τ sig (Elt F) := atTrip condOps bodyI (entryContents preI m) k c

/-- The cloud a device was launched with. -/
abbrev cloud (c : Dev nD) : (⟨S16x3x4096, .f32⟩ : BufTy).Contents (Elt F) := m ((c : Thread nD τ).loc main_arg0)

/-- The carried buffers before the `k`-th run of the condition: the points, the counter, and the state after `k` choices. -/
theorem trip_at (c : Dev nD) : ∀ k,
    trip m k c (Proc.devRef .tc main_v4_0) = rows (cloud m c) ∧ trip m k c (Proc.devRef .tc main_v4_1) = (fun _ => Scf.iv 0#32 1#32 k)
    ∧ trip m k c (Proc.devRef .tc main_v4_2) = (state (rows (cloud m c)) k).1 ∧ trip m k c (Proc.devRef .tc main_v4_3) = (state (rows (cloud m c)) k).2.1
    ∧ trip m k c (Proc.devRef .tc main_v4_4) = (state (rows (cloud m c)) k).2.2 ∧ trip m k c (Proc.devRef .tc main_v0) = rows (cloud m c)
    ∧ trip m k c (Proc.devRef .tc main_arg0) = cloud m c
  | 0 => by
    obtain ⟨p0, p1, p2, p3, p4, p5, p6⟩ := preOps_new (launchContents m c)
    refine ⟨p0, ?_, p2, p3, p4, p5, p6⟩
    rw [Scf.iv_zero]
    exact p1
  | k + 1 => by
    obtain ⟨t0, t1, t2, t3, t4, t5, t6⟩ := trip_at c k
    rw [show trip m (k + 1) c = after bodyOps3 (after bodyOps2 (after bodyOps1 (after bodyOps0 (after condOps (trip m k c))))) from rfl]
    obtain ⟨c0, c1, c2, c3, c4, c5, c6⟩ := condOps_keep (trip m k c)
    generalize after condOps (trip m k c) = X at *
    obtain ⟨x0, x1, x3, x4, x5, x6⟩ := bodyOps0_keep X
    have xn := bodyOps0_new X
    generalize after bodyOps0 X = Y at *
    obtain ⟨y0, y1, y2, y3, y4, y5, y6⟩ := bodyOps1_keep Y
    have yn := bodyOps1_new Y
    generalize after bodyOps1 Y = Z at *
    obtain ⟨z0, z1, z2, z3, z5, z6⟩ := bodyOps2_keep Z
    have zn := bodyOps2_new Z
    generalize after bodyOps2 Z = W at *
    obtain ⟨w0, w1, w2, w3, w4, w5, w6⟩ := bodyOps3_new W
    have hd : Y (Proc.devRef .tc main_while0b_v29) = (state (rows (cloud m c)) (k + 1)).1 := by
      rw [xn, c0, c2, c3, t0, t2, t3, state_succ]
    refine ⟨?_, ?_, ?_, ?_, ?_, ?_, ?_⟩
    · rw [w0, z0, y0, x0, c0, t0]
    · rw [w1, z1, y1, x1, c1, t1, Scf.iv_succ]; rfl
    · rw [w2, z2, y2, hd]
    · rw [w3, z3, yn, hd, state_succ]
    · rw [w4, zn, y4, y3, y1, x4, x3, x1, c4, c3, c1, t4, t3, t1, state_succ]; rfl
    · rw [w5, z5, y5, x5, c5, t5]
    · rw [w6, z6, y6, x6, c6, t6]

-- The rule is stated for any thread, so its unification at the TensorCore thread unfolds plain definitions in the types.
set_option backward.isDefEq.respectTransparency.types false in
/-- The condition holds exactly while fewer than 512 centres are chosen. -/
theorem cond_spec : CondSpec (pcfgs (F := F)) defs₀ loops (main_while0_cond (F := F)) condOps bodyI (entryContents preI m) 512 := by
  intro k hk c bd
  obtain ⟨-, hctr, -⟩ := trip_at m c k
  unfold main_while0_cond
  simp only [bind_pure]
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v4_1 HostLoop.idx0)
        (HloOp.result _ (trip m k c) main_while0c_c_6 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- A run of the whole program leaves every buffer as the stretches and the 512 trips do. -/
theorem run_contents (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = finalContents condOps preI bodyI postI 512 m c (Proc.devRef .tc b)) :=
  run_loop pcfgs defs₀ loops main 0 main_while0_cond main_while0_body rfl preI bodyI postI condOps preI_plain bodyI_plain postI_plain
    main_eq body_eq 512 m ρ (cond_spec m)

end Loop

/-! ## After the loop -/

/-- The chosen points, batch by batch, counted from the end where negative. -/
def chosen (s : (⟨S512x16, .i32⟩ : BufTy).Contents (Elt F)) : (⟨S16x512x1, .i32⟩ : BufTy).Contents (Elt F) :=
  broadcastInDim S16x512x1 ![0, 1] bcast_S16x512_S16x512x1_0_1 (transpose S16x512 [1, 0] s transposes_S512x16_S16x512_1_0)

/-- The same, with those counted from the end counted from the start. -/
def wrapped (q : (⟨S16x512x1, .i32⟩ : BufTy).Contents (Elt F)) : (⟨S16x512x1, .i32⟩ : BufTy).Contents (Elt F) :=
  select (cmpi .slt q (broadcastInDim S16x512x1 ![] bcast_S_S16x512x1 (constantI S_ 32 0#32)))
    (addi q (broadcastInDim S16x512x1 ![] bcast_S_S16x512x1 (constantI S_ 32 4096#32))) q

/-- Whether a chosen point is one of the batch's. -/
def within (q : (⟨S16x512x1, .i32⟩ : BufTy).Contents (Elt F)) : (⟨S16x512, .i1⟩ : BufTy).Contents (Elt F) :=
  Host.reduce IntOp.andi
    (andi (cmpi .sge q (broadcastInDim S16x512x1 ![] bcast_S_S16x512x1 (constantI S_ 32 0#32)))
      (cmpi .sle q (broadcastInDim S16x512x1 ![0, 1, 2] bcast_S1x1x1_S16x512x1_0_1_2 (broadcastInDim S1x1x1 ![2] bcast_S1_S1x1x1_2 (constantI S1 32 4095#32)))))
    (constantI S_ 1 1#1) reducesTo_S16x512x1_S16x512_d2 h_S_

/-- The chosen points' coordinates, or the filling value where a choice is no point. -/
def taken (x : (⟨S16x4096x3, .f32⟩ : BufTy).Contents (Elt F)) (q : (⟨S16x512x1, .i32⟩ : BufTy).Contents (Elt F)) : (⟨S16x512x3, .f32⟩ : BufTy).Contents (Elt F) :=
  select (broadcastInDim S16x512x3 ![0, 1] bcast_S16x512_S16x512x3_0_1 (within (F := F) q))
    (Host.gather gather_S16x4096x3_S16x512x1_S16x512x3_2_1_0_0_1_2_113 x q)
    (broadcastInDim S16x512x3 ![] bcast_S_S16x512x3 (constant S_ .f32 0x7FC00000#32))

/-- The program's result from the points and the choices. -/
def centres (x : (⟨S16x4096x3, .f32⟩ : BufTy).Contents (Elt F)) (s : (⟨S512x16, .i32⟩ : BufTy).Contents (Elt F)) : (⟨S16x3x512, .f32⟩ : BufTy).Contents (Elt F) :=
  transpose S16x3x512 [0, 2, 1] (taken x (wrapped (F := F) (chosen (F := F) s))) transposes_S16x512x3_S16x3x512_0_2_1

section Post
variable (X : Valuation τ sig (Elt F))

theorem postOps0_new :
    after postOps0 X (Proc.devRef .tc main_v6) = chosen (F := F) (X (Proc.devRef .tc main_v4_4)) ∧ after postOps0 X (Proc.devRef .tc main_v0) = X (Proc.devRef .tc main_v0)
    ∧ after postOps0 X (Proc.devRef .tc main_arg0) = X (Proc.devRef .tc main_arg0) := by
  refine ⟨?_, ?_, ?_⟩ <;> after_results <;> rfl

theorem postOps1_new :
    after postOps1 X (Proc.devRef .tc main_v7) = taken (X (Proc.devRef .tc main_v0)) (wrapped (F := F) (X (Proc.devRef .tc main_v6)))
    ∧ after postOps1 X (Proc.devRef .tc main_arg0) = X (Proc.devRef .tc main_arg0) := by
  refine ⟨?_, ?_⟩ <;> after_results <;> rfl

theorem postOps2_new :
    after postOps2 X (Proc.devRef .tc main_v8) = transpose S16x3x512 [0, 2, 1] (X (Proc.devRef .tc main_v7)) transposes_S16x512x3_S16x3x512_0_2_1
    ∧ after postOps2 X (Proc.devRef .tc main_arg0) = X (Proc.devRef .tc main_arg0) := by
  refine ⟨?_, ?_⟩ <;> after_results <;> rfl

end Post

/-- A run ends with the chosen points' coordinates in the result buffer and the cloud as it was. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v8) = centres (rows (cloud m c)) (state (rows (cloud m c)) 512).2.2
      ∧ r.2.mem ((c : Thread nD τ).loc main_arg0) = m ((c : Thread nD τ).loc main_arg0) := by
  refine (θ_run _ _ _).mono (fun r h c => ?_) (run_contents m ρ)
  rw [h c main_v8 rfl, h c main_arg0 rfl]
  rw [show finalContents condOps preI bodyI postI 512 m c = after postOps2 (after postOps1 (after postOps0 (after condOps (trip m 512 c)))) from rfl]
  obtain ⟨-, -, -, -, t4, t5, t6⟩ := trip_at m c 512
  obtain ⟨-, -, -, -, c4, c5, c6⟩ := condOps_keep (trip m 512 c)
  generalize after condOps (trip m 512 c) = X at *
  obtain ⟨x6, x0, xa⟩ := postOps0_new X
  generalize after postOps0 X = Y at *
  obtain ⟨y7, ya⟩ := postOps1_new Y
  generalize after postOps1 Y = Z at *
  obtain ⟨z8, za⟩ := postOps2_new Z
  refine ⟨?_, ?_⟩
  · rw [z8, y7, x6, x0, c4, c5, t4, t5]; rfl
  · rw [za, ya, xa, c6, t6]

end Cert.CentresIdeal.Value

end
-- ==== Proof.CentresRefRun.lean ====
/- The first step's reference: its operations, stretch by stretch. -/
module

public import proofs.«01_k».proof.Proof.Gen.CentresRefIdeal
public import proofs.«01_k».proof.Proof.CentresRun
public import Idealize.ShloMosaic.Lib.StableHlo.Run
public import Idealize.ShloMosaic.Lib.StableHlo.RunLoop
public import Idealize.ShloMosaic.Lib.Scf.ExitTest
public import Idealize.ShloMosaic.Lib.Scf.Counter

@[expose] public section

set_option maxRecDepth 16384

noncomputable section

namespace Cert.CentresRefIdeal.Value

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.CentresRefIdeal Cert.CentresRefIdeal.Gen

variable {F : FTy → Type} [FloatOps F]

/-- The condition's two operations. -/
abbrev condOps : List (HloOp τ sig (Elt F)) :=
  [ nullary main_while0c_c_10 (constantI S_ 32 512#32),
    binary main_v4_1 main_while0c_c_10 main_while0c_v24 (cmpi .slt : (⟨S_, .i32⟩ : BufTy).Contents (Elt F) → (⟨S_, .i32⟩ : BufTy).Contents (Elt F) → (⟨S_, .i1⟩ : BufTy).Contents (Elt F))]

theorem condOps_sub : (condOps : List (HloOp τ sig (Elt F))).Forall fun op => op.bufs ⊆ tcRefs τ sig :=
  ⟨nullary_bufs_sub .., binary_bufs_sub ..⟩

/-- The body up to the new distances. -/
abbrev bodyOps0 : List (HloOp τ sig (Elt F)) :=
  [ nullary main_while0b_v24 (iotaInDim S16 32 0),
    nullary main_while0b_c_10 (constantI S_ 32 0#32),
    unary main_while0b_c_10 main_while0b_v25 (broadcastInDim S16 ![] bcast_S_S16 : (⟨S_, .i32⟩ : BufTy).Contents (Elt F) → (⟨S16, .i32⟩ : BufTy).Contents (Elt F)),
    binary main_while0b_v24 main_while0b_v25 main_while0b_v26 (cmpi .slt : (⟨S16, .i32⟩ : BufTy).Contents (Elt F) → (⟨S16, .i32⟩ : BufTy).Contents (Elt F) → (⟨S16, .i1⟩ : BufTy).Contents (Elt F)),
    nullary main_while0b_c_11 (constantI S_ 32 16#32),
    unary main_while0b_c_11 main_while0b_v27 (broadcastInDim S16 ![] bcast_S_S16 : (⟨S_, .i32⟩ : BufTy).Contents (Elt F) → (⟨S16, .i32⟩ : BufTy).Contents (Elt F)),
    binary main_while0b_v24 main_while0b_v27 main_while0b_v28 (addi : (⟨S16, .i32⟩ : BufTy).Contents (Elt F) → (⟨S16, .i32⟩ : BufTy).Contents (Elt F) → (⟨S16, .i32⟩ : BufTy).Contents (Elt F)),
    ternary main_while0b_v26 main_while0b_v28 main_while0b_v24 main_while0b_v29 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    nullary main_while0b_c_12 (constantI S_ 32 0#32),
    unary main_while0b_c_12 main_while0b_v30 (broadcastInDim S16 ![] bcast_S_S16 : (⟨S_, .i32⟩ : BufTy).Contents (Elt F) → (⟨S16, .i32⟩ : BufTy).Contents (Elt F)),
    binary main_v4_3 main_while0b_v30 main_while0b_v31 (cmpi .slt : (⟨S16, .i32⟩ : BufTy).Contents (Elt F) → (⟨S16, .i32⟩ : BufTy).Contents (Elt F) → (⟨S16, .i1⟩ : BufTy).Contents (Elt F)),
    nullary main_while0b_c_13 (constantI S_ 32 4096#32),
    unary main_while0b_c_13 main_while0b_v32 (broadcastInDim S16 ![] bcast_S_S16 : (⟨S_, .i32⟩ : BufTy).Contents (Elt F) → (⟨S16, .i32⟩ : BufTy).Contents (Elt F)),
    binary main_v4_3 main_while0b_v32 main_while0b_v33 (addi : (⟨S16, .i32⟩ : BufTy).Contents (Elt F) → (⟨S16, .i32⟩ : BufTy).Contents (Elt F) → (⟨S16, .i32⟩ : BufTy).Contents (Elt F)),
    ternary main_while0b_v31 main_while0b_v33 main_v4_3 main_while0b_v34 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_while0b_v29 main_while0b_v35 (broadcastInDim S16x1 ![0] bcast_S16_S16x1_0 : (⟨S16, .i32⟩ : BufTy).Contents (Elt F) → (⟨S16x1, .i32⟩ : BufTy).Contents (Elt F)),
    unary main_while0b_v34 main_while0b_v36 (broadcastInDim S16x1 ![0] bcast_S16_S16x1_0 : (⟨S16, .i32⟩ : BufTy).Contents (Elt F) → (⟨S16x1, .i32⟩ : BufTy).Contents (Elt F)),
    binary main_while0b_v35 main_while0b_v36 main_while0b_v37 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    binary main_v4_0 main_while0b_v37 main_while0b_v38 ((fun x i => Host.gather gather_S16x4096x3_S16x2_S16x3_1_01_n_n_01_1_113 x i) : (⟨S16x4096x3, .f32⟩ : BufTy).Contents (Elt F) → (⟨S16x2, .i32⟩ : BufTy).Contents (Elt F) → (⟨S16x3, .f32⟩ : BufTy).Contents (Elt F)),
    unary main_while0b_v38 main_while0b_v39 (broadcastInDim S16x1x3 ![0, 2] bcast_S16x3_S16x1x3_0_2 : (⟨S16x3, .f32⟩ : BufTy).Contents (Elt F) → (⟨S16x1x3, .f32⟩ : BufTy).Contents (Elt F)),
    unary main_while0b_v39 main_while0b_v40 (broadcastInDim S16x4096x3 ![0, 1, 2] bcast_S16x1x3_S16x4096x3_0_1_2 : (⟨S16x1x3, .f32⟩ : BufTy).Contents (Elt F) → (⟨S16x4096x3, .f32⟩ : BufTy).Contents (Elt F)),
    binary main_v4_0 main_while0b_v40 main_while0b_v41 (subf : (⟨S16x4096x3, .f32⟩ : BufTy).Contents (Elt F) → (⟨S16x4096x3, .f32⟩ : BufTy).Contents (Elt F) → (⟨S16x4096x3, .f32⟩ : BufTy).Contents (Elt F)),
    binary main_while0b_v41 main_while0b_v41 main_while0b_v42 (mulf : (⟨S16x4096x3, .f32⟩ : BufTy).Contents (Elt F) → (⟨S16x4096x3, .f32⟩ : BufTy).Contents (Elt F) → (⟨S16x4096x3, .f32⟩ : BufTy).Contents (Elt F)),
    nullary main_while0b_cst_14 (constant S_ .f32 0x00000000#32),
    binary main_while0b_v42 main_while0b_cst_14 main_while0b_v43 ((fun x v => Host.reduceAdd x v reducesTo_S16x4096x3_S16x4096_d2 h_S_) : (⟨S16x4096x3, .f32⟩ : BufTy).Contents (Elt F) → (⟨S_, .f32⟩ : BufTy).Contents (Elt F) → (⟨S16x4096, .f32⟩ : BufTy).Contents (Elt F)),
    binary main_v4_2 main_while0b_v43 main_while0b_v44 (minimumf : (⟨S16x4096, .f32⟩ : BufTy).Contents (Elt F) → (⟨S16x4096, .f32⟩ : BufTy).Contents (Elt F) → (⟨S16x4096, .f32⟩ : BufTy).Contents (Elt F))]

theorem bodyOps0_sub : (bodyOps0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub ..⟩

/-- The body's choice of the next centre. -/
abbrev bodyOps1 : List (HloOp τ sig (Elt F)) :=
  [ nullary main_while0b_call0_v0 (iotaInDim S16x4096 32 1),
    nullary main_while0b_call0_cst (constant S_ .f32 0xFF800000#32),
    nullary main_while0b_call0_c (constantI S_ 32 0#32),
    quaternary main_while0b_v44 main_while0b_call0_v0 main_while0b_call0_cst main_while0b_call0_c main_while0b_call0_v1_0 ((fun x y u v j => (Host.argReduce reducer_argmax_f32_i32 x y u v reducesTo_S16x4096_S16_d1 h_S_ j).1) : (⟨S16x4096, .f32⟩ : BufTy).Contents (Elt F) → (⟨S16x4096, .i32⟩ : BufTy).Contents (Elt F) → (⟨S_, .f32⟩ : BufTy).Contents (Elt F) → (⟨S_, .i32⟩ : BufTy).Contents (Elt F) → (⟨S16, .f32⟩ : BufTy).Contents (Elt F)),
    quaternary main_while0b_v44 main_while0b_call0_v0 main_while0b_call0_cst main_while0b_call0_c main_while0b_v45 ((fun x y u v j => (Host.argReduce reducer_argmax_f32_i32 x y u v reducesTo_S16x4096_S16_d1 h_S_ j).2) : (⟨S16x4096, .f32⟩ : BufTy).Contents (Elt F) → (⟨S16x4096, .i32⟩ : BufTy).Contents (Elt F) → (⟨S_, .f32⟩ : BufTy).Contents (Elt F) → (⟨S_, .i32⟩ : BufTy).Contents (Elt F) → (⟨S16, .i32⟩ : BufTy).Contents (Elt F))]

theorem bodyOps1_sub : (bodyOps1 : List (HloOp τ sig (Elt F))).Forall fun op => op.bufs ⊆ tcRefs τ sig :=
  ⟨nullary_bufs_sub .., nullary_bufs_sub .., nullary_bufs_sub .., quaternary_bufs_sub .., quaternary_bufs_sub ..⟩

/-- The body's writing of the centre's row. -/
abbrev bodyOps2 : List (HloOp τ sig (Elt F)) :=
  [ unary main_v4_3 main_while0b_call1_v0 ((broadcastInDim S1x16 ![1] bcast_S16_S1x16_1) : (⟨S16, .i32⟩ : BufTy).Contents (Elt F) → (⟨S1x16, .i32⟩ : BufTy).Contents (Elt F)),
    nullary main_while0b_call1_c (constantI S_ 32 0#32),
    TRef.binaryIndexed (.of main_v4_4 : TRef sig ⟨S512x16, .i32⟩) (.of main_while0b_call1_v0 : TRef sig ⟨S1x16, .i32⟩) ![(.of main_v4_1 : TRef sig ⟨S_, .i32⟩), (.of main_while0b_call1_c : TRef sig ⟨S_, .i32⟩)] (.of main_while0b_v46 : TRef sig ⟨S512x16, .i32⟩) (fun x u i => Host.dynamicUpdateSlice x u (fun k => (i k (Shape.Idx.first h_S_)).toInt) updateFits_S512x16_S1x16)]

theorem bodyOps2_sub : (bodyOps2 : List (HloOp τ sig (Elt F))).Forall fun op => op.bufs ⊆ tcRefs τ sig :=
  ⟨unary_bufs_sub .., nullary_bufs_sub .., binaryIndexed_bufs_sub ..⟩

/-- The body's counting, and the copies into the carried buffers. -/
abbrev bodyOps3 : List (HloOp τ sig (Elt F)) :=
  [ nullary main_while0b_c_15 (constantI S_ 32 1#32),
    binary main_v4_1 main_while0b_c_15 main_while0b_v47 (addi : (⟨S_, .i32⟩ : BufTy).Contents (Elt F) → (⟨S_, .i32⟩ : BufTy).Contents (Elt F) → (⟨S_, .i32⟩ : BufTy).Contents (Elt F)),
    unary main_while0b_v47 main_v4_1 id,
    unary main_while0b_v44 main_v4_2 id,
    unary main_while0b_v45 main_v4_3 id,
    unary main_while0b_v46 main_v4_4 id]

theorem bodyOps3_sub : (bodyOps3 : List (HloOp τ sig (Elt F))).Forall fun op => op.bufs ⊆ tcRefs τ sig :=
  ⟨nullary_bufs_sub .., binary_bufs_sub .., unary_bufs_sub .., unary_bufs_sub .., unary_bufs_sub .., unary_bufs_sub ..⟩

/-- The operations before the loop. -/
abbrev preOps : List (HloOp τ sig (Elt F)) :=
  [ unary main_arg0 main_v0 ((transpose S16x4096x3 [0, 2, 1] · transposes_S16x3x4096_S16x4096x3_0_2_1) : (⟨S16x3x4096, .f32⟩ : BufTy).Contents (Elt F) → (⟨S16x4096x3, .f32⟩ : BufTy).Contents (Elt F)),
    nullary main_cst (constant S_ .f32 0x501502F9#32),
    unary main_cst main_v1 (broadcastInDim S16x4096 ![] bcast_S_S16x4096 : (⟨S_, .f32⟩ : BufTy).Contents (Elt F) → (⟨S16x4096, .f32⟩ : BufTy).Contents (Elt F)),
    nullary main_c (constantI S_ 32 0#32),
    unary main_c main_v2 (broadcastInDim S16 ![] bcast_S_S16 : (⟨S_, .i32⟩ : BufTy).Contents (Elt F) → (⟨S16, .i32⟩ : BufTy).Contents (Elt F)),
    nullary main_c_0 (constantI S_ 32 0#32),
    unary main_c_0 main_v3 (broadcastInDim S512x16 ![] bcast_S_S512x16 : (⟨S_, .i32⟩ : BufTy).Contents (Elt F) → (⟨S512x16, .i32⟩ : BufTy).Contents (Elt F)),
    nullary main_c_1 (constantI S_ 32 0#32),
    unary main_v0 main_v4_0 id,
    unary main_c_1 main_v4_1 id,
    unary main_v1 main_v4_2 id,
    unary main_v2 main_v4_3 id,
    unary main_v3 main_v4_4 id]

theorem preOps_sub : (preOps : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

/-- The operations after the loop, part 0. -/
abbrev postOps0 : List (HloOp τ sig (Elt F)) :=
  [ unary main_v4_4 main_v5 ((transpose S16x512 [1, 0] · transposes_S512x16_S16x512_1_0) : (⟨S512x16, .i32⟩ : BufTy).Contents (Elt F) → (⟨S16x512, .i32⟩ : BufTy).Contents (Elt F)),
    nullary main_v6 (iotaInDim S16 32 0),
    unary main_v6 main_v7 (broadcastInDim S16x1 ![0] bcast_S16_S16x1_0 : (⟨S16, .i32⟩ : BufTy).Contents (Elt F) → (⟨S16x1, .i32⟩ : BufTy).Contents (Elt F)),
    nullary main_c_2 (constantI S_ 32 0#32),
    unary main_c_2 main_v8 (broadcastInDim S16x1 ![] bcast_S_S16x1 : (⟨S_, .i32⟩ : BufTy).Contents (Elt F) → (⟨S16x1, .i32⟩ : BufTy).Contents (Elt F)),
    binary main_v7 main_v8 main_v9 (cmpi .slt : (⟨S16x1, .i32⟩ : BufTy).Contents (Elt F) → (⟨S16x1, .i32⟩ : BufTy).Contents (Elt F) → (⟨S16x1, .i1⟩ : BufTy).Contents (Elt F)),
    nullary main_c_3 (constantI S_ 32 16#32),
    unary main_c_3 main_v10 (broadcastInDim S16x1 ![] bcast_S_S16x1 : (⟨S_, .i32⟩ : BufTy).Contents (Elt F) → (⟨S16x1, .i32⟩ : BufTy).Contents (Elt F)),
    binary main_v7 main_v10 main_v11 (addi : (⟨S16x1, .i32⟩ : BufTy).Contents (Elt F) → (⟨S16x1, .i32⟩ : BufTy).Contents (Elt F) → (⟨S16x1, .i32⟩ : BufTy).Contents (Elt F)),
    ternary main_v9 main_v11 main_v7 main_v12 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_4 (constantI S_ 32 0#32),
    unary main_c_4 main_v13 (broadcastInDim S16x512 ![] bcast_S_S16x512 : (⟨S_, .i32⟩ : BufTy).Contents (Elt F) → (⟨S16x512, .i32⟩ : BufTy).Contents (Elt F)),
    binary main_v5 main_v13 main_v14 (cmpi .slt : (⟨S16x512, .i32⟩ : BufTy).Contents (Elt F) → (⟨S16x512, .i32⟩ : BufTy).Contents (Elt F) → (⟨S16x512, .i1⟩ : BufTy).Contents (Elt F)),
    nullary main_c_5 (constantI S_ 32 4096#32),
    unary main_c_5 main_v15 (broadcastInDim S16x512 ![] bcast_S_S16x512 : (⟨S_, .i32⟩ : BufTy).Contents (Elt F) → (⟨S16x512, .i32⟩ : BufTy).Contents (Elt F)),
    binary main_v5 main_v15 main_v16 (addi : (⟨S16x512, .i32⟩ : BufTy).Contents (Elt F) → (⟨S16x512, .i32⟩ : BufTy).Contents (Elt F) → (⟨S16x512, .i32⟩ : BufTy).Contents (Elt F)),
    ternary main_v14 main_v16 main_v5 main_v17 (select : (⟨S16x512, .i1⟩ : BufTy).Contents (Elt F) → (⟨S16x512, .i32⟩ : BufTy).Contents (Elt F) → (⟨S16x512, .i32⟩ : BufTy).Contents (Elt F) → (⟨S16x512, .i32⟩ : BufTy).Contents (Elt F)),
    unary main_v12 main_v18 (broadcastInDim S16x512 ![0, 1] bcast_S16x1_S16x512_0_1 : (⟨S16x1, .i32⟩ : BufTy).Contents (Elt F) → (⟨S16x512, .i32⟩ : BufTy).Contents (Elt F)),
    unary main_v18 main_v19 (broadcastInDim S16x512x1 ![0, 1] bcast_S16x512_S16x512x1_0_1 : (⟨S16x512, .i32⟩ : BufTy).Contents (Elt F) → (⟨S16x512x1, .i32⟩ : BufTy).Contents (Elt F)),
    unary main_v17 main_v20 (broadcastInDim S16x512x1 ![0, 1] bcast_S16x512_S16x512x1_0_1 : (⟨S16x512, .i32⟩ : BufTy).Contents (Elt F) → (⟨S16x512x1, .i32⟩ : BufTy).Contents (Elt F)),
    binary main_v19 main_v20 main_v21 ((fun a b => concatenate S16x512x2 2 [⟨S16x512x1, a⟩, ⟨S16x512x1, b⟩] concatenates_S16x512x1_S16x512x1_S16x512x2_d2) : (⟨S16x512x1, .i32⟩ : BufTy).Contents (Elt F) → (⟨S16x512x1, .i32⟩ : BufTy).Contents (Elt F) → (⟨S16x512x2, .i32⟩ : BufTy).Contents (Elt F)),
    binary main_v0 main_v21 main_v22 ((fun x i => Host.gather gather_S16x4096x3_S16x512x2_S16x512x3_2_01_n_n_01_2_113 x i) : (⟨S16x4096x3, .f32⟩ : BufTy).Contents (Elt F) → (⟨S16x512x2, .i32⟩ : BufTy).Contents (Elt F) → (⟨S16x512x3, .f32⟩ : BufTy).Contents (Elt F)),
    unary main_v22 main_v23 ((transpose S16x3x512 [0, 2, 1] · transposes_S16x512x3_S16x3x512_0_2_1) : (⟨S16x512x3, .f32⟩ : BufTy).Contents (Elt F) → (⟨S16x3x512, .f32⟩ : BufTy).Contents (Elt F))]

theorem postOps0_sub : (postOps0 : List (HloOp τ sig (Elt F))).Forall fun op => op.bufs ⊆ tcRefs τ sig :=
  ⟨unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub ..⟩

/-- The body's stretches. -/
abbrev bodyI : List (List (HloOp τ sig (Elt F))) := [bodyOps0, bodyOps1, bodyOps2, bodyOps3]
/-- The stretch before the loop. -/
abbrev preI : List (List (HloOp τ sig (Elt F))) := [preOps]
/-- The stretches after the loop. -/
abbrev postI : List (List (HloOp τ sig (Elt F))) := [postOps0]

theorem preI_plain : Plain (preI (F := F)) := .cons preOps_sub <| .nil
theorem bodyI_plain : Plain (bodyI (F := F)) := .cons bodyOps0_sub <| .cons bodyOps1_sub <| .cons bodyOps2_sub <| .cons bodyOps3_sub <| .nil
theorem postI_plain : Plain (postI (F := F)) := .cons postOps0_sub <| .nil

theorem body_eq : main_while0_body (F := F) = Pipeline.chain ((bodyI (F := F)).map fun ops => (seq ops : Prog _ PUnit)) := by
  simp only [List.map_cons, List.map_nil]
  rewrite [chain_seq_cons, chain_seq_cons, chain_seq_cons, chain_seq_cons]
  chain_rfl

theorem main_eq (c : Dev nD) : main (F := F) c = Pipeline.chain (((preI (F := F)).map fun ops => (seq ops : Prog _ PUnit)) ++ HostLoop.enter 0 :: (postI (F := F)).map fun ops => (seq ops : Prog _ PUnit)) := by
  simp only [List.map_cons, List.map_nil, List.cons_append, List.nil_append]
  rewrite [chain_seq_cons, Pipeline.chain_cons, chain_seq_cons]
  chain_rfl

open Cert.CentresIdeal.Value (rows far0 dists next update state state_succ)

/-! ## What each stretch leaves -/

section Stretches
variable (X : Valuation τ sig (Elt F))

theorem condOps_keep :
    after condOps X (Proc.devRef .tc main_v4_0) = X (Proc.devRef .tc main_v4_0) ∧ after condOps X (Proc.devRef .tc main_v4_1) = X (Proc.devRef .tc main_v4_1)
    ∧ after condOps X (Proc.devRef .tc main_v4_2) = X (Proc.devRef .tc main_v4_2) ∧ after condOps X (Proc.devRef .tc main_v4_3) = X (Proc.devRef .tc main_v4_3)
    ∧ after condOps X (Proc.devRef .tc main_v4_4) = X (Proc.devRef .tc main_v4_4) ∧ after condOps X (Proc.devRef .tc main_v0) = X (Proc.devRef .tc main_v0)
    ∧ after condOps X (Proc.devRef .tc main_arg0) = X (Proc.devRef .tc main_arg0) := by
  refine ⟨?_, ?_, ?_, ?_, ?_, ?_, ?_⟩ <;> after_results

theorem bodyOps0_new : after bodyOps0 X (Proc.devRef .tc main_while0b_v44) = dists (X (Proc.devRef .tc main_v4_0)) (X (Proc.devRef .tc main_v4_2)) (X (Proc.devRef .tc main_v4_3)) := by
  after_results
  rfl

theorem bodyOps0_keep :
    after bodyOps0 X (Proc.devRef .tc main_v4_0) = X (Proc.devRef .tc main_v4_0) ∧ after bodyOps0 X (Proc.devRef .tc main_v4_1) = X (Proc.devRef .tc main_v4_1)
    ∧ after bodyOps0 X (Proc.devRef .tc main_v4_3) = X (Proc.devRef .tc main_v4_3)
    ∧ after bodyOps0 X (Proc.devRef .tc main_v4_4) = X (Proc.devRef .tc main_v4_4) ∧ after bodyOps0 X (Proc.devRef .tc main_v0) = X (Proc.devRef .tc main_v0)
    ∧ after bodyOps0 X (Proc.devRef .tc main_arg0) = X (Proc.devRef .tc main_arg0) := by
  refine ⟨?_, ?_, ?_, ?_, ?_, ?_⟩ <;> after_results

theorem bodyOps1_new : after bodyOps1 X (Proc.devRef .tc main_while0b_v45) = next (X (Proc.devRef .tc main_while0b_v44)) := by
  after_results
  rfl

theorem bodyOps1_keep :
    after bodyOps1 X (Proc.devRef .tc main_v4_0) = X (Proc.devRef .tc main_v4_0) ∧ after bodyOps1 X (Proc.devRef .tc main_v4_1) = X (Proc.devRef .tc main_v4_1)
    ∧ after bodyOps1 X (Proc.devRef .tc main_while0b_v44) = X (Proc.devRef .tc main_while0b_v44) ∧ after bodyOps1 X (Proc.devRef .tc main_v4_3) = X (Proc.devRef .tc main_v4_3)
    ∧ after bodyOps1 X (Proc.devRef .tc main_v4_4) = X (Proc.devRef .tc main_v4_4) ∧ after bodyOps1 X (Proc.devRef .tc main_v0) = X (Proc.devRef .tc main_v0)
    ∧ after bodyOps1 X (Proc.devRef .tc main_arg0) = X (Proc.devRef .tc main_arg0) := by
  refine ⟨?_, ?_, ?_, ?_, ?_, ?_, ?_⟩ <;> after_results

theorem bodyOps2_new : after bodyOps2 X (Proc.devRef .tc main_while0b_v46) = update (F := F) (X (Proc.devRef .tc main_v4_4)) (X (Proc.devRef .tc main_v4_3)) (X (Proc.devRef .tc main_v4_1)) := by
  after_results
  refine congrArg (fun g => Host.dynamicUpdateSlice (X (Proc.devRef .tc main_v4_4) : (⟨S512x16, .i32⟩ : BufTy).Contents (Elt F)) (broadcastInDim S1x16 ![1] bcast_S16_S1x16_1 (X (Proc.devRef .tc main_v4_3) : (⟨S16, .i32⟩ : BufTy).Contents (Elt F))) g updateFits_S512x16_S1x16) ?_
  funext k
  fin_cases k
  all_goals
    after_results
    rfl

theorem bodyOps2_keep :
    after bodyOps2 X (Proc.devRef .tc main_v4_0) = X (Proc.devRef .tc main_v4_0) ∧ after bodyOps2 X (Proc.devRef .tc main_v4_1) = X (Proc.devRef .tc main_v4_1)
    ∧ after bodyOps2 X (Proc.devRef .tc main_while0b_v44) = X (Proc.devRef .tc main_while0b_v44) ∧ after bodyOps2 X (Proc.devRef .tc main_while0b_v45) = X (Proc.devRef .tc main_while0b_v45)
    ∧ after bodyOps2 X (Proc.devRef .tc main_v0) = X (Proc.devRef .tc main_v0)
    ∧ after bodyOps2 X (Proc.devRef .tc main_arg0) = X (Proc.devRef .tc main_arg0) := by
  refine ⟨?_, ?_, ?_, ?_, ?_, ?_⟩ <;> after_results

theorem bodyOps3_new :
    after bodyOps3 X (Proc.devRef .tc main_v4_0) = X (Proc.devRef .tc main_v4_0)
    ∧ after bodyOps3 X (Proc.devRef .tc main_v4_1) = addi (X (Proc.devRef .tc main_v4_1)) (constantI S_ 32 1#32)
    ∧ after bodyOps3 X (Proc.devRef .tc main_v4_2) = X (Proc.devRef .tc main_while0b_v44) ∧ after bodyOps3 X (Proc.devRef .tc main_v4_3) = X (Proc.devRef .tc main_while0b_v45)
    ∧ after bodyOps3 X (Proc.devRef .tc main_v4_4) = X (Proc.devRef .tc main_while0b_v46) ∧ after bodyOps3 X (Proc.devRef .tc main_v0) = X (Proc.devRef .tc main_v0)
    ∧ after bodyOps3 X (Proc.devRef .tc main_arg0) = X (Proc.devRef .tc main_arg0) := by
  refine ⟨?_, ?_, ?_, ?_, ?_, ?_, ?_⟩ <;> after_results <;> rfl

theorem preOps_new :
    after preOps X (Proc.devRef .tc main_v4_0) = rows (X (Proc.devRef .tc main_arg0)) ∧ after preOps X (Proc.devRef .tc main_v4_1) = (fun _ => (0#32 : BitVec 32))
    ∧ after preOps X (Proc.devRef .tc main_v4_2) = far0 (F := F) ∧ after preOps X (Proc.devRef .tc main_v4_3) = (fun _ => (0#32 : BitVec 32))
    ∧ after preOps X (Proc.devRef .tc main_v4_4) = (fun _ => (0#32 : BitVec 32)) ∧ after preOps X (Proc.devRef .tc main_v0) = rows (X (Proc.devRef .tc main_arg0))
    ∧ after preOps X (Proc.devRef .tc main_arg0) = X (Proc.devRef .tc main_arg0) := by
  refine ⟨?_, ?_, ?_, ?_, ?_, ?_, ?_⟩ <;> after_results <;> rfl

end Stretches

/-! ## The loop -/

section Loop
variable (m : (ℓ : Loc nD τ sig) → Buf (Elt F) ℓ)

/-- The buffers before the `k`-th run of the condition. -/
abbrev trip (k : ℕ) (c : Dev nD) : Valuation τ sig (Elt F) := atTrip condOps bodyI (entryContents preI m) k c

/-- The cloud a device was launched with. -/
abbrev cloud (c : Dev nD) : (⟨S16x3x4096, .f32⟩ : BufTy).Contents (Elt F) := m ((c : Thread nD τ).loc main_arg0)

/-- The carried buffers before the `k`-th run of the condition: the points, the counter, and the state after `k` choices. -/
theorem trip_at (c : Dev nD) : ∀ k,
    trip m k c (Proc.devRef .tc main_v4_0) = rows (cloud m c) ∧ trip m k c (Proc.devRef .tc main_v4_1) = (fun _ => Scf.iv 0#32 1#32 k)
    ∧ trip m k c (Proc.devRef .tc main_v4_2) = (state (rows (cloud m c)) k).1 ∧ trip m k c (Proc.devRef .tc main_v4_3) = (state (rows (cloud m c)) k).2.1
    ∧ trip m k c (Proc.devRef .tc main_v4_4) = (state (rows (cloud m c)) k).2.2 ∧ trip m k c (Proc.devRef .tc main_v0) = rows (cloud m c)
    ∧ trip m k c (Proc.devRef .tc main_arg0) = cloud m c
  | 0 => by
    obtain ⟨p0, p1, p2, p3, p4, p5, p6⟩ := preOps_new (launchContents m c)
    refine ⟨p0, ?_, p2, p3, p4, p5, p6⟩
    rw [Scf.iv_zero]
    exact p1
  | k + 1 => by
    obtain ⟨t0, t1, t2, t3, t4, t5, t6⟩ := trip_at c k
    rw [show trip m (k + 1) c = after bodyOps3 (after bodyOps2 (after bodyOps1 (after bodyOps0 (after condOps (trip m k c))))) from rfl]
    obtain ⟨c0, c1, c2, c3, c4, c5, c6⟩ := condOps_keep (trip m k c)
    generalize after condOps (trip m k c) = X at *
    obtain ⟨x0, x1, x3, x4, x5, x6⟩ := bodyOps0_keep X
    have xn := bodyOps0_new X
    generalize after bodyOps0 X = Y at *
    obtain ⟨y0, y1, y2, y3, y4, y5, y6⟩ := bodyOps1_keep Y
    have yn := bodyOps1_new Y
    generalize after bodyOps1 Y = Z at *
    obtain ⟨z0, z1, z2, z3, z5, z6⟩ := bodyOps2_keep Z
    have zn := bodyOps2_new Z
    generalize after bodyOps2 Z = W at *
    obtain ⟨w0, w1, w2, w3, w4, w5, w6⟩ := bodyOps3_new W
    have hd : Y (Proc.devRef .tc main_while0b_v44) = (state (rows (cloud m c)) (k + 1)).1 := by
      rw [xn, c0, c2, c3, t0, t2, t3, state_succ]
    refine ⟨?_, ?_, ?_, ?_, ?_, ?_, ?_⟩
    · rw [w0, z0, y0, x0, c0, t0]
    · rw [w1, z1, y1, x1, c1, t1, Scf.iv_succ]; rfl
    · rw [w2, z2, y2, hd]
    · rw [w3, z3, yn, hd, state_succ]
    · rw [w4, zn, y4, y3, y1, x4, x3, x1, c4, c3, c1, t4, t3, t1, state_succ]; rfl
    · rw [w5, z5, y5, x5, c5, t5]
    · rw [w6, z6, y6, x6, c6, t6]

-- The rule is stated for any thread, so its unification at the TensorCore thread unfolds plain definitions in the types.
set_option backward.isDefEq.respectTransparency.types false in
/-- The condition holds exactly while fewer than 512 centres are chosen. -/
theorem cond_spec : CondSpec (pcfgs (F := F)) defs₀ loops (main_while0_cond (F := F)) condOps bodyI (entryContents preI m) 512 := by
  intro k hk c bd
  obtain ⟨-, hctr, -⟩ := trip_at m c k
  unfold main_while0_cond
  simp only [bind_pure]
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip m k c) main_v4_1 HostLoop.idx0)
        (HloOp.result _ (trip m k c) main_while0c_c_10 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

/-- A run of the whole program leaves every buffer as the stretches and the 512 trips do. -/
theorem run_contents (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = finalContents condOps preI bodyI postI 512 m c (Proc.devRef .tc b)) :=
  run_loop pcfgs defs₀ loops main 0 main_while0_cond main_while0_body rfl preI bodyI postI condOps preI_plain bodyI_plain postI_plain
    main_eq body_eq 512 m ρ (cond_spec m)

end Loop

/-! ## After the loop -/

/-- The batch's number at every choice, counted from the end where negative. -/
def batches : (⟨S16x512x1, .i32⟩ : BufTy).Contents (Elt F) :=
  broadcastInDim S16x512x1 ![0, 1] bcast_S16x512_S16x512x1_0_1 (broadcastInDim S16x512 ![0, 1] bcast_S16x1_S16x512_0_1
    (select (cmpi .slt (broadcastInDim S16x1 ![0] bcast_S16_S16x1_0 (iotaInDim S16 32 0)) (broadcastInDim S16x1 ![] bcast_S_S16x1 (constantI S_ 32 0#32)))
      (addi (broadcastInDim S16x1 ![0] bcast_S16_S16x1_0 (iotaInDim S16 32 0)) (broadcastInDim S16x1 ![] bcast_S_S16x1 (constantI S_ 32 16#32)))
      (broadcastInDim S16x1 ![0] bcast_S16_S16x1_0 (iotaInDim S16 32 0))))

/-- The chosen points, batch by batch, those counted from the end counted from the start. -/
def points (s : (⟨S512x16, .i32⟩ : BufTy).Contents (Elt F)) : (⟨S16x512x1, .i32⟩ : BufTy).Contents (Elt F) :=
  broadcastInDim S16x512x1 ![0, 1] bcast_S16x512_S16x512x1_0_1
    (select (cmpi .slt (transpose S16x512 [1, 0] s transposes_S512x16_S16x512_1_0) (broadcastInDim S16x512 ![] bcast_S_S16x512 (constantI S_ 32 0#32)))
      (addi (transpose S16x512 [1, 0] s transposes_S512x16_S16x512_1_0) (broadcastInDim S16x512 ![] bcast_S_S16x512 (constantI S_ 32 4096#32)))
      (transpose S16x512 [1, 0] s transposes_S512x16_S16x512_1_0))

/-- Both, side by side. -/
def places (s : (⟨S512x16, .i32⟩ : BufTy).Contents (Elt F)) : (⟨S16x512x2, .i32⟩ : BufTy).Contents (Elt F) :=
  concatenate S16x512x2 2 [⟨S16x512x1, batches (F := F)⟩, ⟨S16x512x1, points (F := F) s⟩] concatenates_S16x512x1_S16x512x1_S16x512x2_d2

/-- The reference's result from the points and the choices. -/
def centres (x : (⟨S16x4096x3, .f32⟩ : BufTy).Contents (Elt F)) (s : (⟨S512x16, .i32⟩ : BufTy).Contents (Elt F)) : (⟨S16x3x512, .f32⟩ : BufTy).Contents (Elt F) :=
  transpose S16x3x512 [0, 2, 1] (Host.gather gather_S16x4096x3_S16x512x2_S16x512x3_2_01_n_n_01_2_113 x (places (F := F) s)) transposes_S16x512x3_S16x3x512_0_2_1

theorem postOps0_new (X : Valuation τ sig (Elt F)) :
    after postOps0 X (Proc.devRef .tc main_v23) = centres (X (Proc.devRef .tc main_v0)) (X (Proc.devRef .tc main_v4_4))
    ∧ after postOps0 X (Proc.devRef .tc main_arg0) = X (Proc.devRef .tc main_arg0) := by
  refine ⟨?_, ?_⟩ <;> after_results <;> rfl

/-- A run ends with the chosen points' coordinates in the result buffer and the cloud as it was. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v23) = centres (rows (cloud m c)) (state (rows (cloud m c)) 512).2.2
      ∧ r.2.mem ((c : Thread nD τ).loc main_arg0) = m ((c : Thread nD τ).loc main_arg0) := by
  refine (θ_run _ _ _).mono (fun r h c => ?_) (run_contents m ρ)
  rw [h c main_v23 rfl, h c main_arg0 rfl]
  rw [show finalContents condOps preI bodyI postI 512 m c = after postOps0 (after condOps (trip m 512 c)) from rfl]
  obtain ⟨-, -, -, -, t4, t5, t6⟩ := trip_at m c 512
  obtain ⟨-, -, -, -, c4, c5, c6⟩ := condOps_keep (trip m 512 c)
  generalize after condOps (trip m 512 c) = X at *
  obtain ⟨x23, xa⟩ := postOps0_new X
  refine ⟨?_, ?_⟩
  · rw [x23, c4, c5, t4, t5]
  · rw [xa, c6, t6]

end Cert.CentresRefIdeal.Value

end
-- ==== Proof.Centres.lean ====
/- The first step: every choice of a centre is one of the batch's points, so the program and the reference gather the same coordinates. -/
module

public import proofs.«01_k».proof.Proof.CentresRun
public import proofs.«01_k».proof.Proof.CentresRefRun
public import Idealize.ShloMosaic.PureOps.Ideal
public import Idealize.ShloMosaic.PureOps.Ideal.Laws
public import Idealize.ShloMosaic.Lib.Pointwise

@[expose] public section

set_option maxRecDepth 16384

noncomputable section

namespace Cert.CentresIdeal.Value

open Cert.CentresIdeal Cert.CentresIdeal.Gen Idealize.ShloMosaic

/-! ## Choices are points -/

/-- A fold by the comparison keeps the position of one of the pairs it folds. -/
theorem fold_lt (l : List (Ideal .f32 × BitVec 32)) (hl : ∀ p ∈ l, p.2.toNat < 4096) :
    ∀ a : Ideal .f32 × BitVec 32, a.2.toNat < 4096 → (l.foldl (reducer_argmax_f32_i32 (F := Ideal)) a).2.toNat < 4096 := by
  induction l with
  | nil => intro a ha; exact ha
  | cons p l ih =>
    intro a ha
    rw [List.foldl_cons]
    refine ih (fun q hq => hl q (List.mem_cons_of_mem _ hq)) _ ?_
    have hp := hl p List.mem_cons_self
    unfold reducer_argmax_f32_i32
    dsimp only
    unfold Scalar.select
    split
    · exact ha
    · exact hp

/-- The farthest point is one of the batch's 4096. -/
theorem next_lt (d : (⟨S16x4096, .f32⟩ : BufTy).Contents (Elt Ideal)) (j : S16.Idx) : (next d j : BitVec 32).toNat < 4096 := by
  unfold next
  rw [Ideal.argReduce_eq_reduce2, Host.reduce2_eq_foldl_fiber]
  refine fold_lt _ (fun p hp => ?_) _ (by decide)
  unfold Host.argReduceFiber at hp
  obtain ⟨n, -, rfl⟩ := List.mem_map.mp hp
  show (BitVec.ofNat 32 ((S16x4096.rowMajor.symm n) 1).val).toNat < 4096
  have h : ((S16x4096.rowMajor.symm n) 1).val < 4096 := ((S16x4096.rowMajor.symm n) 1).isLt
  rw [BitVec.toNat_ofNat]
  omega

/-- Writing a row of points among points leaves points. -/
theorem update_lt (s : (⟨S512x16, .i32⟩ : BufTy).Contents (Elt Ideal)) (p : (⟨S16, .i32⟩ : BufTy).Contents (Elt Ideal)) (i : (⟨S_, .i32⟩ : BufTy).Contents (Elt Ideal))
    (hs : ∀ j, (s j : BitVec 32).toNat < 4096) (hp : ∀ j, (p j : BitVec 32).toNat < 4096) (j : S512x16.Idx) :
    (update (F := Ideal) s p i j : BitVec 32).toNat < 4096 := by
  unfold update Host.dynamicUpdateSlice updateSlice
  dsimp only
  split
  · exact hp _
  · exact hs _

/-- After any number of choices, the next centre and the chosen points are points. -/
theorem state_lt (x : (⟨S16x4096x3, .f32⟩ : BufTy).Contents (Elt Ideal)) : ∀ k,
    (∀ j, ((state x k).2.1 j : BitVec 32).toNat < 4096) ∧ ∀ j, ((state x k).2.2 j : BitVec 32).toNat < 4096
  | 0 => ⟨fun _ => show (0#32).toNat < 4096 by decide, fun _ => show (0#32).toNat < 4096 by decide⟩
  | k + 1 => by
    obtain ⟨h1, h2⟩ := state_lt x k
    rw [state_succ]
    generalize state x k = s at h1 h2 ⊢
    dsimp only
    refine ⟨fun j => ?_, fun j => ?_⟩
    · generalize dists x s.1 s.2.1 = d
      exact next_lt d j
    · exact update_lt s.2.2 s.2.1 _ h2 h1 j

/-! ## Words below 4096 -/

theorem slt_zero (p : BitVec 32) (h : p.toNat < 4096) : IntOp.cmpi .slt p 0#32 = 0#1 := by
  have h1 : p.toInt = p.toNat := BitVec.toInt_eq_toNat_of_lt (by omega)
  show BitVec.ofBool (p.slt 0#32) = 0#1
  have : p.slt 0#32 = false := by
    simp only [BitVec.slt, decide_eq_false_iff_not, h1]
    simp
  rw [this]; rfl

theorem sge_zero (p : BitVec 32) (h : p.toNat < 4096) : IntOp.cmpi .sge p 0#32 = 1#1 := by
  have h1 : p.toInt = p.toNat := BitVec.toInt_eq_toNat_of_lt (by omega)
  show BitVec.ofBool ((0#32).sle p) = 1#1
  have : (0#32).sle p = true := by
    simp only [BitVec.sle, decide_eq_true_eq, h1]
    simp
  rw [this]; rfl

theorem sle_last (p : BitVec 32) (h : p.toNat < 4096) : IntOp.cmpi .sle p 4095#32 = 1#1 := by
  have h1 : p.toInt = p.toNat := BitVec.toInt_eq_toNat_of_lt (by omega)
  show BitVec.ofBool (p.sle 4095#32) = 1#1
  have : p.sle 4095#32 = true := by
    simp only [BitVec.sle, decide_eq_true_eq, h1]
    simp
    omega
  rw [this]; rfl

theorem wrap_eq (p q : BitVec 32) (h : p.toNat < 4096) : Scalar.select (IntOp.cmpi .slt p 0#32) q p = p := by
  rw [slt_zero p h]; rfl

/-! ## The gathers -/

/-- A gather along the points of each batch: its batch's row at the word given for the choice. -/
theorem gather_rows (x : (⟨S16x4096x3, .f32⟩ : BufTy).Contents (Elt Ideal)) (q : (⟨S16x512x1, .i32⟩ : BufTy).Contents (Elt Ideal)) (b : Fin 16) (k : Fin 512) (j : Fin 3) :
    Host.gather gather_S16x4096x3_S16x512x1_S16x512x3_2_1_0_0_1_2_113 x q (ix3 b k j)
      = x (ix3 b ⟨min (q (ix3 b k 0) : BitVec 32).toInt.toNat 4095, by omega⟩ j) := by
  refine congrArg x (funext fun (a : Fin 3) => Fin.ext ?_)
  show GatherDims.start gather_S16x4096x3_S16x512x1_S16x512x3_2_1_0_0_1_2_113 (ix3 b k j) q a
    + GatherDims.batchCoord gather_S16x4096x3_S16x512x1_S16x512x3_2_1_0_0_1_2_113 (ix3 b k j) a
    + GatherDims.offCoord gather_S16x4096x3_S16x512x1_S16x512x3_2_1_0_0_1_2_113 (ix3 b k j) a = _
  obtain rfl | rfl | rfl : a = 0 ∨ a = 1 ∨ a = 2 := by revert a; decide
  · rw [GatherDims.start_batching _ _ _ _ (by decide), GatherDims.offCoord_eq_zero _ _ _ (by decide), Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine congrArg (fun i => min (q i : BitVec 32).toInt.toNat 4095) (funext fun c => ?_)
    match c with
    | ⟨0, _⟩ => rfl
    | ⟨1, _⟩ => rfl
    | ⟨2, _⟩ => rfl
  · rw [GatherDims.batchCoord_eq_zero _ _ _ (by decide)]
    unfold GatherDims.start
    rw [dif_neg (by decide)]
    simp only [Nat.zero_add]
    rfl

/-- A gather by batch and point: the row that the two words give. -/
theorem gather_places (x : (⟨S16x4096x3, .f32⟩ : BufTy).Contents (Elt Ideal)) (q : (⟨Cert.CentresRefIdeal.S16x512x2, .i32⟩ : BufTy).Contents (Elt Ideal)) (b : Fin 16) (k : Fin 512) (j : Fin 3) :
    Host.gather Cert.CentresRefIdeal.gather_S16x4096x3_S16x512x2_S16x512x3_2_01_n_n_01_2_113 x q (ix3 b k j)
      = x (ix3 ⟨min (q (ix3 b k 0) : BitVec 32).toInt.toNat 15, by omega⟩ ⟨min (q (ix3 b k 1) : BitVec 32).toInt.toNat 4095, by omega⟩ j) := by
  refine congrArg x (funext fun (a : Fin 3) => Fin.ext ?_)
  show GatherDims.start Cert.CentresRefIdeal.gather_S16x4096x3_S16x512x2_S16x512x3_2_01_n_n_01_2_113 (ix3 b k j) q a
    + GatherDims.batchCoord Cert.CentresRefIdeal.gather_S16x4096x3_S16x512x2_S16x512x3_2_01_n_n_01_2_113 (ix3 b k j) a
    + GatherDims.offCoord Cert.CentresRefIdeal.gather_S16x4096x3_S16x512x2_S16x512x3_2_01_n_n_01_2_113 (ix3 b k j) a = _
  rw [GatherDims.batchCoord_eq_zero _ _ _ List.not_mem_nil, Nat.add_zero]
  obtain rfl | rfl | rfl : a = 0 ∨ a = 1 ∨ a = 2 := by revert a; decide
  · rw [GatherDims.offCoord_eq_zero _ _ _ (by decide), Nat.add_zero]
    unfold GatherDims.start
    rw [dif_pos (by decide)]
    refine congrArg (fun i => min (q i : BitVec 32).toInt.toNat 15) (funext fun c => ?_)
    match c with
    | ⟨0, _⟩ => rfl
    | ⟨1, _⟩ => rfl
    | ⟨2, _⟩ => rfl
  · rw [GatherDims.offCoord_eq_zero _ _ _ (by decide), Nat.add_zero]
    unfold GatherDims.start
    rw [dif_pos (by decide)]
    refine congrArg (fun i => min (q i : BitVec 32).toInt.toNat 4095) (funext fun c => ?_)
    match c with
    | ⟨0, _⟩ => rfl
    | ⟨1, _⟩ => rfl
    | ⟨2, _⟩ => rfl
  · unfold GatherDims.start
    rw [dif_neg (by decide), Nat.zero_add]
    rfl

/-! ## The program's entry and the reference's -/

theorem chosen_apply (s : (⟨S512x16, .i32⟩ : BufTy).Contents (Elt Ideal)) (b : Fin 16) (k : Fin 512) :
    chosen (F := Ideal) s (ix3 b k 0) = s (ix2 k b) := by
  unfold chosen
  pointwise

theorem wrapped_apply (s : (⟨S512x16, .i32⟩ : BufTy).Contents (Elt Ideal)) (hs : ∀ j, (s j : BitVec 32).toNat < 4096) (b : Fin 16) (k : Fin 512) :
    wrapped (F := Ideal) (chosen (F := Ideal) s) (ix3 b k 0) = s (ix2 k b) := by
  rw [← chosen_apply s b k]
  exact wrap_eq _ _ (by rw [chosen_apply]; exact hs _)

/-- A conjunction of true words is true. -/
theorem andi_true (l : List (BitVec 1)) (hl : ∀ v ∈ l, v = 1#1) : ∀ a : BitVec 1, a = 1#1 → l.foldl IntOp.andi a = 1#1 := by
  induction l with
  | nil => intro a ha; exact ha
  | cons v l ih =>
    intro a ha
    rw [List.foldl_cons]
    refine ih (fun u hu => hl u (List.mem_cons_of_mem _ hu)) _ ?_
    rw [ha, hl v List.mem_cons_self]; rfl

/-- Every choice is within its batch. -/
theorem within_true (q : (⟨S16x512x1, .i32⟩ : BufTy).Contents (Elt Ideal)) (hq : ∀ j, (q j : BitVec 32).toNat < 4096) (y : S16x512.Idx) :
    within (F := Ideal) q y = (1#1 : BitVec 1) := by
  unfold within Host.reduce
  rw [← List.foldl_map]
  refine andi_true _ (fun v hv => ?_) _ rfl
  obtain ⟨n, -, rfl⟩ := List.mem_map.mp hv
  show IntOp.andi (IntOp.cmpi .sge (q _) 0#32) (IntOp.cmpi .sle (q _) 4095#32) = 1#1
  rw [sge_zero _ (hq _), sle_last _ (hq _)]
  rfl

theorem batches_apply (b : Fin 16) (k : Fin 512) : (Cert.CentresRefIdeal.Value.batches (F := Ideal) (ix3 b k 0) : BitVec 32) = BitVec.ofNat 32 b.val := by
  refine wrap_eq (BitVec.ofNat 32 b.val) _ ?_
  rw [BitVec.toNat_ofNat]
  omega

theorem points_apply (s : (⟨S512x16, .i32⟩ : BufTy).Contents (Elt Ideal)) (hs : ∀ j, (s j : BitVec 32).toNat < 4096) (b : Fin 16) (k : Fin 512) :
    Cert.CentresRefIdeal.Value.points (F := Ideal) s (ix3 b k 0) = s (ix2 k b) := by
  have h : transpose S16x512 [1, 0] s transposes_S512x16_S16x512_1_0 (ix2 b k) = s (ix2 k b) := by pointwise
  have hw (w : (⟨S16x512, .i32⟩ : BufTy).Contents (Elt Ideal)) : broadcastInDim S16x512x1 ![0, 1] bcast_S16x512_S16x512x1_0_1 w (ix3 b k 0) = w (ix2 b k) := by pointwise
  unfold Cert.CentresRefIdeal.Value.points
  rw [← h]
  refine (hw _).trans ?_
  exact wrap_eq (transpose S16x512 [1, 0] s transposes_S512x16_S16x512_1_0 (ix2 b k)) _ (by rw [h]; exact hs _)

theorem places_apply (s : (⟨S512x16, .i32⟩ : BufTy).Contents (Elt Ideal)) (b : Fin 16) (k : Fin 512) :
    Cert.CentresRefIdeal.Value.places (F := Ideal) s (ix3 b k 0) = Cert.CentresRefIdeal.Value.batches (F := Ideal) (ix3 b k 0)
    ∧ Cert.CentresRefIdeal.Value.places (F := Ideal) s (ix3 b k 1) = Cert.CentresRefIdeal.Value.points (F := Ideal) s (ix3 b k 0) := by
  unfold Cert.CentresRefIdeal.Value.places
  constructor <;> pointwise

/-- Where every choice is a point, the program's centres are the reference's. -/
theorem centres_eq (x : (⟨S16x4096x3, .f32⟩ : BufTy).Contents (Elt Ideal)) (s : (⟨S512x16, .i32⟩ : BufTy).Contents (Elt Ideal)) (hs : ∀ j, (s j : BitVec 32).toNat < 4096) :
    Cert.CentresRefIdeal.Value.centres x s = centres x s := by
  funext y
  rw [eq_ix3 y]
  obtain ⟨b, hb⟩ : ∃ b : Fin 16, b = y 0 := ⟨_, rfl⟩
  obtain ⟨j, hj⟩ : ∃ j : Fin 3, j = y 1 := ⟨_, rfl⟩
  obtain ⟨k, hk⟩ : ∃ k : Fin 512, k = y 2 := ⟨_, rfl⟩
  rw [← hb, ← hj, ← hk]
  clear hb hj hk
  have hq : ∀ i, (wrapped (F := Ideal) (chosen (F := Ideal) s) i : BitVec 32).toNat < 4096 := fun i => by
    have hi : i = ix3 (i 0) (i 1) 0 := by
      conv_lhs => rw [eq_ix3 i]
      exact congrArg (ix3 (i 0) (i 1)) (Subsingleton.elim (α := Fin 1) _ _)
    have h := wrapped_apply s hs (i 0) (i 1)
    rw [hi]
    exact lt_of_eq_of_lt (congrArg BitVec.toNat h) (hs _)
  have hl : Cert.CentresRefIdeal.Value.centres x s (ix3 b j k)
      = Host.gather Cert.CentresRefIdeal.gather_S16x4096x3_S16x512x2_S16x512x3_2_01_n_n_01_2_113 x (Cert.CentresRefIdeal.Value.places (F := Ideal) s) (ix3 b k j) := by
    unfold Cert.CentresRefIdeal.Value.centres
    pointwise
  have hr : centres x s (ix3 b j k) = taken x (wrapped (F := Ideal) (chosen (F := Ideal) s)) (ix3 b k j) := by
    unfold centres
    pointwise
  have ht : taken x (wrapped (F := Ideal) (chosen (F := Ideal) s)) (ix3 b k j)
      = Host.gather gather_S16x4096x3_S16x512x1_S16x512x3_2_1_0_0_1_2_113 x (wrapped (F := Ideal) (chosen (F := Ideal) s)) (ix3 b k j) := by
    unfold taken
    show Scalar.select (within (F := Ideal) (wrapped (F := Ideal) (chosen (F := Ideal) s)) _) _ _ = _
    rw [within_true _ hq]
    rfl
  rw [hl, hr, ht, gather_rows, gather_places]
  refine congrArg x (congrArg₂ (fun u v => ix3 u v j) (Fin.ext ?_) (Fin.ext ?_))
  · show min (BitVec.toInt (Cert.CentresRefIdeal.Value.places (F := Ideal) s (ix3 b k 0) : BitVec 32)).toNat 15 = b.val
    rw [(places_apply s b k).1, batches_apply]
    have hb : b.val < 16 := b.isLt
    rw [BitVec.toInt_eq_toNat_of_lt (by rw [BitVec.toNat_ofNat]; omega), BitVec.toNat_ofNat]
    omega
  · refine congrArg (fun w : BitVec 32 => min w.toInt.toNat 4095) ?_
    exact ((places_apply s b k).2.trans (points_apply s hs b k)).trans (wrapped_apply s hs b k).symm

end Cert.CentresIdeal.Value

end
-- ==== Proof.Normal.lean ====
/- The normalization over the extended reals: scaling and shifting a value is subtracting the mean and dividing by the
   deviation, where the mean and the weight are real numbers. -/
module

public import Idealize.ShloMosaic.PureOps.Ideal
public import Mathlib.Data.EReal.Inv

@[expose] public section

noncomputable section

namespace Cert.Normal

open Idealize.ShloMosaic

/-- Division by the root of a number no less than `e` is a product with a real number. -/
theorem div_root (v : EReal) (e : ℝ) (he : 0 < e) : ∃ r : ℝ, ∀ x : EReal, Ideal.div x (Ideal.sqrt (max v 0 + (e : EReal))) = x * (r : EReal) := by
  have hv : max v 0 = ⊤ ∨ ∃ w : ℝ, 0 ≤ w ∧ max v 0 = (w : EReal) := by
    have h0 : (0 : EReal) ≤ max v 0 := le_max_right _ _
    generalize max v 0 = u at h0 ⊢
    induction u with
    | bot => exact absurd h0 (by simp)
    | top => exact .inl rfl
    | coe w => exact .inr ⟨w, by exact_mod_cast h0, rfl⟩
  rcases hv with h | ⟨w, hw, h⟩
  · refine ⟨0, fun x => ?_⟩
    rw [h, EReal.top_add_coe]
    show (if (⊤ : EReal) = 0 then _ else x * (⊤ : EReal)⁻¹) = _
    rw [if_neg (by simp), EReal.inv_top, EReal.coe_zero]
  · have hp : 0 < Real.sqrt (w + e) := Real.sqrt_pos.mpr (by linarith)
    refine ⟨(Real.sqrt (w + e))⁻¹, fun x => ?_⟩
    rw [h, ← EReal.coe_add]
    have hs : Ideal.sqrt ((w + e : ℝ) : EReal) = (Real.sqrt (w + e) : EReal) := by
      show (if w + e < 0 then (⊥ : EReal) else (Real.sqrt (w + e) : EReal)) = _
      rw [if_neg (by linarith)]
    rw [hs, EReal.coe_inv]
    unfold Ideal.div
    rw [if_neg (by exact_mod_cast hp.ne')]

/-- The two forms of the normalization are equal where the mean, the weight and the factor are real numbers. -/
theorem scaled (z b : EReal) (m g r : ℝ) : z * ((g : EReal) * r) + (b - (m : EReal) * ((g : EReal) * r)) = (g : EReal) * (z - m) * r + b := by
  have e : (g : EReal) * (z - m) * r = (z - m) * ((g * r : ℝ) : EReal) := by rw [EReal.coe_mul, mul_comm (g : EReal), mul_assoc]
  rw [e, ← EReal.coe_mul g r]
  generalize g * r = a
  induction z with
  | coe z =>
    rw [← EReal.coe_sub, ← EReal.coe_mul, ← EReal.coe_mul, ← EReal.coe_mul]
    induction b with
    | coe b => norm_cast; ring
    | top => rw [EReal.top_sub_coe, EReal.coe_add_top, EReal.coe_add_top]
    | bot => simp
  | top =>
    rw [EReal.top_sub_coe]
    rcases lt_trichotomy a 0 with h | h | h
    · rw [EReal.top_mul_coe_of_neg h]; simp
    · subst h; simp
    · rw [EReal.top_mul_coe_of_pos h, ← EReal.coe_mul]
      induction b with
      | coe b => norm_cast
      | top => rw [EReal.top_sub_coe]
      | bot => simp
  | bot =>
    rw [EReal.bot_sub]
    rcases lt_trichotomy a 0 with h | h | h
    · rw [EReal.bot_mul_coe_of_neg h, ← EReal.coe_mul]
      induction b with
      | coe b => norm_cast
      | top => rw [EReal.top_sub_coe]
      | bot => simp
    · subst h; simp
    · rw [EReal.bot_mul_coe_of_pos h]; simp

/-- A number whose magnitude is less than infinity is real. -/
theorem real_of_lt (x : EReal) (h : max x (-x) < ⊤) : ∃ r : ℝ, x = r := by
  induction x with
  | coe r => exact ⟨r, rfl⟩
  | top => simp at h
  | bot => simp at h

/-- A product with a difference from a real number. -/
theorem mul_less (x : EReal) (q w : ℝ) : (w : EReal) * (x - (q : EReal)) = x * (w : EReal) + ((-(q * w) : ℝ) : EReal) := by
  have h := scaled x 0 q 1 w
  simp only [EReal.coe_one, one_mul, add_zero, zero_sub] at h
  rw [mul_comm, ← h, EReal.coe_neg, EReal.coe_mul]

/-- An affine map of a difference is the affine map less its linear part at what is taken away, where that part is real. -/
theorem affine_less (s b x0 x1 x2 : EReal) (q0 q1 q2 w0 w1 w2 : ℝ) :
    s + x0 * (w0 : EReal) + x1 * (w1 : EReal) + x2 * (w2 : EReal) + b - ((q0 : EReal) * (w0 : EReal) + (q1 : EReal) * (w1 : EReal) + (q2 : EReal) * (w2 : EReal))
      = s + (w0 : EReal) * (x0 - (q0 : EReal)) + (w1 : EReal) * (x1 - (q1 : EReal)) + (w2 : EReal) * (x2 - (q2 : EReal)) + b := by
  have e : (q0 : EReal) * (w0 : EReal) + (q1 : EReal) * (w1 : EReal) + (q2 : EReal) * (w2 : EReal) = ((q0 * w0 + q1 * w1 + q2 * w2 : ℝ) : EReal) := by push_cast; rfl
  have n : -((q0 * w0 + q1 * w1 + q2 * w2 : ℝ) : EReal) = ((-(q0 * w0) : ℝ) : EReal) + ((-(q1 * w1) : ℝ) : EReal) + ((-(q2 * w2) : ℝ) : EReal) := by
    rw [← EReal.coe_neg, ← EReal.coe_add, ← EReal.coe_add]
    congr 1
    ring
  rw [mul_less, mul_less, mul_less, e, sub_eq_add_neg, n]
  ac_rfl

end Cert.Normal

end
-- ==== Proof.Outcome.lean ====
/- The last call with what stands around it: the scale and the shift from the column sums, the scaled, shifted and clipped
   maxima, and their arrangement as the second result. -/
module

public import proofs.«01_k».proof.Proof.Gen.OutcomeIdeal.Frame
public import proofs.«01_k».proof.Proof.Gen.OutcomeRefIdeal.Run
public import proofs.«01_k».proof.Proof.Gen.Pre_finite
public import Idealize.ShloMosaic.Lib.ReduceAll
public import proofs.«01_k».proof.Proof.Final
public import proofs.«01_k».proof.Proof.Normal

@[expose] public section

set_option maxRecDepth 16384

noncomputable section

namespace Cert.OutcomeRefIdeal.Value

open Cert.OutcomeRefIdeal Cert.OutcomeRefIdeal.Gen Idealize.ShloMosaic Idealize.ShloMosaic.TcCoe Idealize.SL.Sem
open Cert.Normal

/-- The columns' means, from their sums. -/
def mean (s : Vec Ideal S8x128 .f32) : Vec Ideal S128 .f32 :=
  Host.divf (F := Ideal) (φ := .f32) (shapeCast S128 (extractStridedSlice S1x128 ![0, 0] s slices_S8x128_S1x128_0_0) shapeCasts_S1x128_S128)
    (broadcastInDim S128 ![] bcast_S_S128 (constant S_ .f32 0x48800000#32))

/-- The columns' mean squares less the squared means, none below zero. -/
def variance (s : Vec Ideal S8x128 .f32) : Vec Ideal S128 .f32 :=
  maximumf (F := Ideal) (φ := .f32) (subf (Host.divf (F := Ideal) (φ := .f32) (shapeCast S128 (extractStridedSlice S1x128 ![1, 0] s slices_S8x128_S1x128_1_0) shapeCasts_S1x128_S128)
    (broadcastInDim S128 ![] bcast_S_S128 (constant S_ .f32 0x48800000#32))) (mulf (mean s) (mean s)))
    (broadcastInDim S128 ![] bcast_S_S128 (constant S_ .f32 0x00000000#32))

/-- The columns' deviations. -/
def deviation (s : Vec Ideal S8x128 .f32) : Vec Ideal S128 .f32 :=
  Host.sqrt (F := Ideal) (φ := .f32) (addf (variance s) (broadcastInDim S128 ![] bcast_S_S128 (constant S_ .f32 0x3727C5AC#32)))

/-- A vector along the columns of every row. -/
def wide (v : Vec Ideal S128 .f32) : Vec Ideal S8192x128 .f32 :=
  broadcastInDim S8192x128 ![0, 1] bcast_S1x128_S8192x128_0_1 (broadcastInDim S1x128 ![1] bcast_S128_S1x128_1 v)

/-- The reference's rows: normalized, weighted, shifted and clipped. -/
def normal (z : Vec Ideal S8192x128 .f32) (s : Vec Ideal S8x128 .f32) (g : Vec Ideal S128 .f32) (b : Vec Ideal S128 .f32) : Vec Ideal S8192x128 .f32 :=
  maximumf (F := Ideal) (φ := .f32) (addf (Host.divf (F := Ideal) (φ := .f32) (mulf (wide g) (subf z (wide (mean s)))) (wide (deviation s))) (wide b))
    (broadcastInDim S8192x128 ![] bcast_S_S8192x128 (constant S_ .f32 0x00000000#32))

/-- Rows as the second result has them. -/
def arranged (x : Vec Ideal S8192x128 .f32) : Vec Ideal S16x128x512 .f32 :=
  transpose S16x128x512 [0, 2, 1] (shapeCast S16x512x128 x shapeCasts_S8192x128_S16x512x128) transposes_S16x512x128_S16x128x512_0_2_1

theorem normal_apply (z : Vec Ideal S8192x128 .f32) (s : Vec Ideal S8x128 .f32) (g : Vec Ideal S128 .f32) (b : Vec Ideal S128 .f32) (j : S8192x128.Idx) :
    normal z s g b j = max (Ideal.div (g (ix1 (j 1)) * (z (ix2 (j 0) (j 1)) - mean s (ix1 (j 1)))) (deviation s (ix1 (j 1))) + b (ix1 (j 1))) 0 := by
  unfold normal wide
  pointwise

theorem mean_apply (s : Vec Ideal S8x128 .f32) (i : S128.Idx) : mean s i = Ideal.div (s (ix2 0 (i 0))) (Ideal.ofBits .f32 0x48800000#32) := by
  unfold mean
  pointwise

theorem deviation_apply (s : Vec Ideal S8x128 .f32) (i : S128.Idx) : ∃ v : EReal, deviation s i = Ideal.sqrt (max v 0 + Ideal.ofBits .f32 0x3727C5AC#32) := by
  refine ⟨Ideal.div (s (ix2 1 (i 0))) (Ideal.ofBits .f32 0x48800000#32) - mean s i * mean s i, ?_⟩
  unfold deviation variance
  pointwise

theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = arranged (normal (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => h c) (run m ρ)

theorem ofBits_eps : ∃ e : ℝ, 0 < e ∧ Ideal.ofBits .f32 0x3727C5AC#32 = (e : EReal) := by
  refine ⟨10995116 * 2 ^ (-40 : ℤ), by positivity, ?_⟩
  simp [Ideal.ofBits, Ideal.ieee]

theorem ofBits_count : Ideal.ofBits .f32 0x48800000#32 = ((262144 : ℝ) : EReal) := by
  simp [Ideal.ofBits, Ideal.ieee, -EReal.coe_mul]
  norm_num

/-- Where the column sums and the weights are real numbers, scaling and shifting is normalizing. -/
theorem clip_eq (z : Vec Ideal S8192x128 .f32) (s : Vec Ideal S8x128 .f32) (g : Vec Ideal S128 .f32) (b : Vec Ideal S128 .f32)
    (hs : ∀ i : Fin 128, ∃ r : ℝ, s (ix2 0 i) = (r : EReal)) (hg : ∀ i : Fin 128, ∃ r : ℝ, g (ix1 i) = (r : EReal)) :
    Cert.FinalRefIdeal.Value.clip z (Host.divf (F := Ideal) (φ := .f32) g (deviation s)) (subf (F := Ideal) (φ := .f32) b (mulf (mean s) (Host.divf (F := Ideal) (φ := .f32) g (deviation s))))
      = normal z s g b := by
  funext j
  rw [Cert.FinalRefIdeal.Value.clip_apply, normal_apply]
  refine congrArg₂ max ?_ rfl
  show z (ix2 (j 0) (j 1)) * Ideal.div (g (ix1 (j 1))) (deviation s (ix1 (j 1)))
      + (b (ix1 (j 1)) - mean s (ix1 (j 1)) * Ideal.div (g (ix1 (j 1))) (deviation s (ix1 (j 1)))) = _
  obtain ⟨e, he, hb⟩ := ofBits_eps
  obtain ⟨v, hv⟩ := deviation_apply s (ix1 (j 1))
  obtain ⟨r, hr⟩ := div_root v e he
  obtain ⟨w, hw⟩ := hs (j 1)
  obtain ⟨a, ha⟩ := hg (j 1)
  have hm : mean s (ix1 (j 1)) = ((w * (262144 : ℝ)⁻¹ : ℝ) : EReal) := by
    rw [mean_apply, ofBits_count]
    refine (if_neg (by norm_num)).trans ?_
    rw [EReal.coe_mul, EReal.coe_inv]
    exact congrArg (· * ((262144 : ℝ) : EReal)⁻¹) hw
  rw [hm, hv, hb, hr, hr, ha]
  exact scaled _ _ _ _ _

end Cert.OutcomeRefIdeal.Value

namespace Cert.OutcomeIdeal.Value

open Cert.OutcomeIdeal Cert.OutcomeIdeal.Gen Idealize.ShloMosaic Idealize.ShloMosaic.TcCoe Idealize.SL.Sem
open Cert.Rows Cert.Normal
open Cert.OutcomeRefIdeal.Value (mean deviation normal arranged)
open Cert.FinalRefIdeal.Value (clip)

theorem pay1_apply (x0 : Vec Ideal S1024x128 .f32) (x1 : Vec Ideal S1x128 .f32) (x2 : Vec Ideal S1x128 .f32) (j : S1024x128.Idx) :
    k0_pay1 x0 x1 x2 j = max (x0 (ix2 (j 0) (j 1)) * x1 (ix2 0 (j 1)) + x2 (ix2 0 (j 1))) 0 := by
  unfold_payloads
  pointwise

theorem out3_eq (x0 : Vec Ideal S1024x128 .f32) (x1 : Vec Ideal S1x128 .f32) (x2 : Vec Ideal S1x128 .f32) : out0_3 x0 x1 x2 = k0_pay1 x0 x1 x2 := by
  unfold out0_3
  rw [View.canon_unit_zero (S := S1024x128) hz, View.ld_unit_zero (S := S1024x128) hz, View.ld_unit_zero (S := S1x128) hz, View.ld_unit_zero (S := S1x128) hz]

variable (m : (ℓ : Loc nD τ sig) → Buf (Elt Ideal) ℓ)

/-- The group maxima, the column sums, the weights and the offsets, as launched. -/
abbrev maxima (c : Dev nD) : Vec Ideal S8192x128 .f32 := m ((c.tc : Thread nD τ).loc main_arg0)
abbrev sums (c : Dev nD) : Vec Ideal S8x128 .f32 := m ((c.tc : Thread nD τ).loc main_arg1)
abbrev weights (c : Dev nD) : Vec Ideal S128 .f32 := m ((c.tc : Thread nD τ).loc main_arg2)
abbrev offsets (c : Dev nD) : Vec Ideal S128 .f32 := m ((c.tc : Thread nD τ).loc main_arg3)

/-- The scale the call is given, -/
def scale (c : Dev nD) : Vec Ideal S128 .f32 := Host.divf (F := Ideal) (φ := .f32) (weights m c) (deviation (sums m c))
/-- and the shift. -/
def shift (c : Dev nD) : Vec Ideal S128 .f32 := subf (F := Ideal) (φ := .f32) (offsets m c) (mulf (mean (sums m c)) (scale m c))

/-- What the call leaves. -/
def R (c : Dev nD) : Vec Ideal S8192x128 .f32 := clip (maxima m c) (scale m c) (shift m c)

theorem blk0 (c : Dev nD) (t : Fin cfg0.N) (r : Fin 1024) (k : Fin 128) :
    (iblk m c 0 t : Vec Ideal S1024x128 .f32) (ix2 r k) = maxima m c (ix2 ⟨t.val * 1024 + r.val, by have h : t.val < 8 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  have e : V m c main_arg0 = maxima m c := V_main_arg0 m c
  rw [← e]
  unfold iblk
  generalize V m c = W
  blk_ext [hi.1, hi.2]

theorem blk1 (c : Dev nD) (t : Fin cfg0.N) (k : Fin 128) : (iblk m c 1 t : Vec Ideal S1x128 .f32) (ix2 0 k) = scale m c (ix1 k) := by
  have hi : win0_1.index t 0 = 0 ∧ win0_1.index t 1 = 0 :=
    (by decide +kernel : ∀ t : Fin grid0.N, win0_1.index t 0 = 0 ∧ win0_1.index t 1 = 0) t
  have e : V m c main_v18 = broadcastInDim S1x128 ![1] bcast_S128_S1x128_1 (scale m c) := by entry_read; rfl
  have h : (iblk m c 1 t : Vec Ideal S1x128 .f32) (ix2 0 k) = V m c main_v18 (ix2 0 k) := by
    unfold iblk
    generalize V m c = W
    blk_ext [hi.1, hi.2]
  rw [h, e]
  pointwise

theorem blk2 (c : Dev nD) (t : Fin cfg0.N) (k : Fin 128) : (iblk m c 2 t : Vec Ideal S1x128 .f32) (ix2 0 k) = shift m c (ix1 k) := by
  have hi : win0_2.index t 0 = 0 ∧ win0_2.index t 1 = 0 :=
    (by decide +kernel : ∀ t : Fin grid0.N, win0_2.index t 0 = 0 ∧ win0_2.index t 1 = 0) t
  have e : V m c main_v19 = broadcastInDim S1x128 ![1] bcast_S128_S1x128_1 (shift m c) := by entry_read; rfl
  have h : (iblk m c 2 t : Vec Ideal S1x128 .f32) (ix2 0 k) = V m c main_v19 (ix2 0 k) := by
    unfold iblk
    generalize V m c = W
    blk_ext [hi.1, hi.2]
  rw [h, e]
  pointwise

theorem idx3 : ∀ t : Fin cfg0.N, win0_3.index t 0 = t.val ∧ win0_3.index t 1 = 0 :=
  (by decide +kernel : ∀ t : Fin grid0.N, win0_3.index t 0 = t.val ∧ win0_3.index t 1 = 0)

theorem flushes3 : ∀ t : Fin cfg0.N, (cfg0.win 3).flush t = true :=
  (by decide +kernel : ∀ t : Fin grid0.N, win0_3.flush t = true)

theorem written (c : Dev nD) (t : Fin cfg0.N) : (dats m 0 c).flushed 3 t = ((cfg0.win 3).blk t).view.read (Elt Ideal) (R m c) := by
  have hN : t.val < 8 := lt_of_lt_of_eq t.isLt N_0
  show (cfg0.win 3).cut (grid0.coords t) ((dats m 0 c).after 3 t) = _
  rw [after0_3, out3_eq]
  funext y
  have hy0 : (y 0).val < 1024 := (y 0).isLt
  have hy1 : (y 1).val < 128 := (y 1).isLt
  show k0_pay1 (iblk m c 0 t) (iblk m c 1 t) (iblk m c 2 t) ((cfg0.win 3).xinj (grid0.coords t) y) = R m c (((cfg0.win 3).blk t).view.emb y)
  have he : ((cfg0.win 3).blk t).view.emb y = (ix2 ⟨t.val * 1024 + (y 0).val, by omega⟩ ⟨(y 1).val, hy1⟩ : S8192x128.Idx) := by
    funext a; apply Fin.ext
    match a with
    | ⟨0, _⟩ => show win0_3.index t (0 : Fin 2) * 1024 + 1 * (y 0).val = t.val * 1024 + (y 0).val; rw [(idx3 t).1]; omega
    | ⟨1, _⟩ => show win0_3.index t (1 : Fin 2) * 128 + 1 * (y 1).val = (y 1).val; rw [(idx3 t).2]; omega
  rw [he, pay1_apply]
  unfold R
  rw [Cert.FinalRefIdeal.Value.clip_apply]
  exact congrArg₂ max (congrArg₂ (· + ·) (congrArg₂ (· * ·) (blk0 m c t ⟨(y 0).val, hy0⟩ ⟨(y 1).val, hy1⟩) (blk1 m c t ⟨(y 1).val, hy1⟩)) (blk2 m c t ⟨(y 1).val, hy1⟩)) rfl

theorem covered (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  refine ⟨⟨(i 0).val / 1024, lt_of_lt_of_eq (by omega) N_0.symm⟩, flushes3 _, ?_⟩
  generalize ht : (⟨(i 0).val / 1024, lt_of_lt_of_eq (by omega) N_0.symm⟩ : Fin cfg0.N) = t
  have htv : t.val = (i 0).val / 1024 := by rw [← ht]
  show i ∈ ((View.whole main_v20).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [(idx3 t).1]; omega
  | ⟨1, _⟩ => show win0_3.index t (1 : Fin 2) * 128 ≤ (i 1).val ∧ (i 1).val < win0_3.index t (1 : Fin 2) * 128 + 128; rw [(idx3 t).2]; omega

theorem result (c : Dev nD) : (dats m 0 c).arrAt 3 cfg0.N = R m c :=
  (dats m 0 c).arrAt_eq_of_cover 3 _ (fun t _ => written m c t) covered

/-- The second result: the call's rows as the lines after it arrange them. -/
theorem final (c : Dev nD) : Pipeline.afterTail₀ cfgs (dats m) 0 (V0 m) [hostOps1] c main_v22 = arranged (R m c) := by
  have e : Pipeline.withArrays spec0 c (V0 m c) (fun w => (dats m 0 c).arrAt w cfg0.N) (Proc.devRef .tc main_v20) = R m c :=
    (Pipeline.withArrays_arr spec0 launch0.win.arr_inj c (V0 m c) (fun w => (dats m 0 c).arrAt w cfg0.N) 3).trans (result m c)
  unfold Pipeline.afterTail₀
  show arranged (Pipeline.withArrays spec0 c (V0 m c) (fun w => (dats m 0 c).arrAt w cfg0.N) (Proc.devRef .tc main_v20)) = _
  rw [e]

/-- The program ends with the arranged rows, its arguments as they were. -/
theorem run (g : Dev nD → PrngReg) :
    θ_run defs (onTc (τ := τ) (main (F := Ideal))) ⟨m, fun _ => 0, g⟩ (fun r => ∀ c : Dev nD,
      r.2.mem ((c.tc : Thread nD τ).loc main_v22) = arranged (R m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have h1 : θ_run defs (onTc (τ := τ) (main (F := Ideal))) ⟨m, fun _ => 0, g⟩ (fun r => ∀ c : Dev nD, r.2.mem ((c.tc : Thread nD τ).loc main_v22) = arranged (R m c)) :=
    (θ_run defs _ _).mono (fun _ h c => ((h c).2 main_v22 (Pipeline.mem_restRefs_of main_v22 (by decide) (by decide))).trans (final m c)) (run_main m g)
  (θ_run defs _ _).mono (fun _ h c => ⟨h.1 c, h.2 c⟩) (θ_run_and h1 (unchanged m g))

/-- Numbers below the largest value in absolute value, tested one by one, are all real. -/
theorem all_real (v : Vec Ideal Cert.Pre_finite.S128 .f32) (j : Cert.Pre_finite.S_.Idx)
    (h : Host.reduce IntOp.andi (cmpf (F := Ideal) (φ := .f32) .olt (Host.absf v) (broadcastInDim Cert.Pre_finite.S128 ![] Cert.Pre_finite.Gen.bcast_S_S128 (constant Cert.Pre_finite.S_ .f32 0x7F800000#32)))
      (constantI Cert.Pre_finite.S_ 1 1#1) Cert.Pre_finite.Gen.reducesTo_S128_S_d0 Cert.Pre_finite.Gen.h_S_ j = 1#1) (i : Fin 128) :
    ∃ r : ℝ, v (ix1 i) = (r : EReal) := by
  haveI : Subsingleton Cert.Pre_finite.S_.Idx := ⟨fun a b => funext fun k => k.elim0⟩
  have e := Host.reduce_andi_all _ _ _ _ j h (ix1 i)
  have e' : BitVec.ofBool (decide (max (v (ix1 i)) (-(v (ix1 i))) < Ideal.ofBits .f32 0x7F800000#32)) = 1#1 := e
  have ht : Ideal.ofBits .f32 0x7F800000#32 = ⊤ := by simp [Ideal.ofBits, Ideal.ieee]
  rw [ht] at e'
  refine real_of_lt _ ?_
  by_contra hn
  rw [decide_eq_false hn] at e'
  exact absurd e' (by decide)

/-- Under the precondition, the call's rows are the reference's. -/
theorem rows_eq (c : Dev nD) (h : Cert.Pre_finite.fn (F := Ideal) (maxima m c) (sums m c) (weights m c) (offsets m c) = (fun _ => 1#1)) :
    R m c = normal (maxima m c) (sums m c) (weights m c) (offsets m c) := by
  have hj := congrFun h (fun k => k.elim0)
  obtain ⟨h1, h2⟩ := IntOp.andi_eq_one.1 hj
  refine Cert.OutcomeRefIdeal.Value.clip_eq _ _ _ _ (fun i => ?_) fun i => all_real _ _ h2 i
  obtain ⟨r, hr⟩ := all_real _ _ h1 i
  exact ⟨r, Eq.trans (by pointwise) hr⟩

end Cert.OutcomeIdeal.Value

end
-- ==== Proof.GroupedRef.lean ====
/- The reference's first layer on the grouped points, read entry by entry: the weights times the gathered coordinates less
   the centre's and the gathered features, and the bias. -/
module

public import proofs.«01_k».proof.Proof.Gen.HeadRefIdeal.Run
public import proofs.«01_k».proof.Proof.Centres

@[expose] public section

set_option maxRecDepth 16384

noncomputable section

namespace Cert.HeadRefIdeal.Value

open Cert.HeadRefIdeal Cert.HeadRefIdeal.Gen Idealize.ShloMosaic Idealize.ShloMosaic.TcCoe Idealize.SL.Sem
open Cert.CentresIdeal.Value (wrap_eq)

/-- The batch of every place, -/
def batches : Vec Ideal S16x512x32x1 .i32 :=
  broadcastInDim S16x512x32x1 ![0, 1, 2] bcast_S16x512x32_S16x512x32x1_0_1_2 (broadcastInDim S16x512x32 ![0, 1, 2] bcast_S16x1x1_S16x512x32_0_1_2
    (select (cmpi .slt (shapeCast S16x1x1 (iotaInDim S16 32 0) shapeCasts_S16_S16x1x1) (broadcastInDim S16x1x1 ![] bcast_S_S16x1x1 (constantI S_ 32 0#32)))
      (addi (shapeCast S16x1x1 (iotaInDim S16 32 0) shapeCasts_S16_S16x1x1) (broadcastInDim S16x1x1 ![] bcast_S_S16x1x1 (constantI S_ 32 16#32)))
      (shapeCast S16x1x1 (iotaInDim S16 32 0) shapeCasts_S16_S16x1x1)))

/-- its point, -/
def members (i : Vec Ideal S16x512x32 .i32) : Vec Ideal S16x512x32x1 .i32 :=
  broadcastInDim S16x512x32x1 ![0, 1, 2] bcast_S16x512x32_S16x512x32x1_0_1_2
    (select (cmpi .slt i (broadcastInDim S16x512x32 ![] bcast_S_S16x512x32 (constantI S_ 32 0#32)))
      (addi i (broadcastInDim S16x512x32 ![] bcast_S_S16x512x32 (constantI S_ 32 4096#32))) i)

/-- and both. -/
def places (i : Vec Ideal S16x512x32 .i32) : Vec Ideal S16x512x32x2 .i32 :=
  concatenate S16x512x32x2 3 [⟨S16x512x32x1, batches⟩, ⟨S16x512x32x1, members i⟩] concatenates_S16x512x32x1_S16x512x32x1_S16x512x32x2_d3

/-- The gathered coordinates, -/
def coords (xyz : Vec Ideal S16x3x4096 .f32) (i : Vec Ideal S16x512x32 .i32) : Vec Ideal S16x512x32x3 .f32 :=
  Host.gather gather_S16x4096x3_S16x512x32x2_S16x512x32x3_3_01_n_n_01_3_113 (transpose S16x4096x3 [0, 2, 1] xyz transposes_S16x3x4096_S16x4096x3_0_2_1) (places i)

/-- the gathered features, -/
def feats (pts : Vec Ideal S16x64x4096 .f32) (i : Vec Ideal S16x512x32 .i32) : Vec Ideal S16x512x32x64 .f32 :=
  Host.gather gather_S16x4096x64_S16x512x32x2_S16x512x32x64_3_01_n_n_01_3_1164 (transpose S16x4096x64 [0, 2, 1] pts transposes_S16x64x4096_S16x4096x64_0_2_1) (places i)

/-- the coordinates less the centre's, then the features, -/
def joined (x : Vec Ideal S16x512x32x3 .f32) (q : Vec Ideal S16x512x3 .f32) (f : Vec Ideal S16x512x32x64 .f32) : Vec Ideal S16x512x32x67 .f32 :=
  concatenate S16x512x32x67 3 [⟨S16x512x32x3, subf (F := Ideal) (φ := .f32) x (broadcastInDim S16x512x32x3 ![0, 1, 2, 3] bcast_S16x512x1x3_S16x512x32x3_0_1_2_3
    (broadcastInDim S16x512x1x3 ![0, 1, 3] bcast_S16x512x3_S16x512x1x3_0_1_3 q))⟩, ⟨S16x512x32x64, f⟩] concatenates_S16x512x32x3_S16x512x32x64_S16x512x32x67_d3

/-- and the layer of them. -/
def layer (x : Vec Ideal S16x512x32x67 .f32) (w : Vec Ideal S64x67 .f32) (b : Vec Ideal S64 .f32) : Vec Ideal S262144x64 .f32 :=
  shapeCast S262144x64 (transpose S16x512x32x64 [0, 3, 2, 1] (addf (F := Ideal) (φ := .f32) (transpose S16x64x32x512 [1, 0, 2, 3]
    (Host.dotGeneral (F := Ideal) (φ₁ := .f32) (φ₂ := .f32) dot_S64x67_S16x67x32x512_S64x16x32x512_1_1_0_023_n_n none w
      (transpose S16x67x32x512 [0, 3, 2, 1] x transposes_S16x512x32x67_S16x67x32x512_0_3_2_1)) transposes_S64x16x32x512_S16x64x32x512_1_0_2_3)
    (broadcastInDim S16x64x32x512 ![0, 1, 2, 3] bcast_S1x64x1x1_S16x64x32x512_0_1_2_3 (broadcastInDim S1x64x1x1 ![1] bcast_S64_S1x64x1x1_1 b)))
    transposes_S16x64x32x512_S16x512x32x64_0_3_2_1) shapeCasts_S16x512x32x64_S262144x64

theorem layer_apply (x : Vec Ideal S16x512x32x67 .f32) (w : Vec Ideal S64x67 .f32) (b : Vec Ideal S64 .f32) (n : Fin 262144) (o : Fin 64) :
    layer x w b (ix2 n o) = ∑ k : Fin 67, w (ix2 o k) * x (ix4 ⟨n.val / 16384, by omega⟩ ⟨n.val / 32 % 512, by omega⟩ ⟨n.val % 32, by omega⟩ k) + b (ix1 o) := by
  unfold layer
  pointwise [dot_S64x67_S16x67x32x512_S64x16x32x512_1_1_0_023_n_n]

theorem joined_xyz (x : Vec Ideal S16x512x32x3 .f32) (q : Vec Ideal S16x512x3 .f32) (f : Vec Ideal S16x512x32x64 .f32) (b : Fin 16) (s : Fin 512) (k : Fin 32) (j : Fin 3) :
    joined x q f (ix4 b s k ⟨j.val, by omega⟩) = x (ix4 b s k j) - q (ix3 b s j) := by
  unfold joined
  pointwise

theorem joined_pts (x : Vec Ideal S16x512x32x3 .f32) (q : Vec Ideal S16x512x3 .f32) (f : Vec Ideal S16x512x32x64 .f32) (b : Fin 16) (s : Fin 512) (k : Fin 32) (j : Fin 64) :
    joined x q f (ix4 b s k ⟨3 + j.val, by omega⟩) = f (ix4 b s k j) := by
  unfold joined
  pointwise

theorem batches_apply (b : Fin 16) (s : Fin 512) (k : Fin 32) : (batches (ix4 b s k 0) : BitVec 32) = BitVec.ofNat 32 b.val := by
  have hb (v : Vec Ideal S16x1x1 .i32) : broadcastInDim S16x512x32x1 ![0, 1, 2] bcast_S16x512x32_S16x512x32x1_0_1_2 (broadcastInDim S16x512x32 ![0, 1, 2] bcast_S16x1x1_S16x512x32_0_1_2 v) (ix4 b s k 0) = v (ix3 b 0 0) := by pointwise
  have hr (v : Vec Ideal S16 .i32) : shapeCast S16x1x1 v shapeCasts_S16_S16x1x1 (ix3 b 0 0) = v (ix1 b) := by pointwise
  have e : (shapeCast S16x1x1 (iotaInDim S16 32 0) shapeCasts_S16_S16x1x1 (ix3 b 0 0) : BitVec 32) = BitVec.ofNat 32 b.val := (hr _).trans rfl
  refine ((hb _).trans (wrap_eq _ _ ?_)).trans e
  rw [e, BitVec.toNat_ofNat]
  omega

theorem members_apply (i : Vec Ideal S16x512x32 .i32) (b : Fin 16) (s : Fin 512) (k : Fin 32) (h : (i (ix3 b s k) : BitVec 32).toNat < 4096) :
    (members i (ix4 b s k 0) : BitVec 32) = i (ix3 b s k) := by
  have hw (w : Vec Ideal S16x512x32 .i32) : broadcastInDim S16x512x32x1 ![0, 1, 2] bcast_S16x512x32_S16x512x32x1_0_1_2 w (ix4 b s k 0) = w (ix3 b s k) := by pointwise
  unfold members
  refine (hw _).trans ?_
  exact wrap_eq _ _ h

theorem places_apply (i : Vec Ideal S16x512x32 .i32) (b : Fin 16) (s : Fin 512) (k : Fin 32) :
    places i (ix4 b s k 0) = batches (ix4 b s k 0) ∧ places i (ix4 b s k 1) = members i (ix4 b s k 0) := by
  unfold places
  constructor <;> pointwise

/-- A gather by batch and point of `w` values each: the point's values. -/
theorem gather_xyz (x : Vec Ideal S16x4096x3 .f32) (q : Vec Ideal S16x512x32x2 .i32) (b : Fin 16) (s : Fin 512) (k : Fin 32) (j : Fin 3) :
    Host.gather gather_S16x4096x3_S16x512x32x2_S16x512x32x3_3_01_n_n_01_3_113 x q (ix4 b s k j)
      = x (ix3 ⟨min (q (ix4 b s k 0) : BitVec 32).toInt.toNat 15, by omega⟩ ⟨min (q (ix4 b s k 1) : BitVec 32).toInt.toNat 4095, by omega⟩ j) := by
  refine congrArg x (funext fun (a : Fin 3) => Fin.ext ?_)
  show GatherDims.start gather_S16x4096x3_S16x512x32x2_S16x512x32x3_3_01_n_n_01_3_113 (ix4 b s k j) q a
    + GatherDims.batchCoord gather_S16x4096x3_S16x512x32x2_S16x512x32x3_3_01_n_n_01_3_113 (ix4 b s k j) a
    + GatherDims.offCoord gather_S16x4096x3_S16x512x32x2_S16x512x32x3_3_01_n_n_01_3_113 (ix4 b s k j) a = _
  rw [GatherDims.batchCoord_eq_zero _ _ _ List.not_mem_nil, Nat.add_zero]
  obtain rfl | rfl | rfl : a = 0 ∨ a = 1 ∨ a = 2 := by revert a; decide
  · rw [GatherDims.offCoord_eq_zero _ _ _ (by decide), Nat.add_zero]
    unfold GatherDims.start
    rw [dif_pos (by decide)]
    exact congrArg (fun i => min (q i : BitVec 32).toInt.toNat 15) (funext fun c => by fin_cases c <;> rfl)
  · rw [GatherDims.offCoord_eq_zero _ _ _ (by decide), Nat.add_zero]
    unfold GatherDims.start
    rw [dif_pos (by decide)]
    exact congrArg (fun i => min (q i : BitVec 32).toInt.toNat 4095) (funext fun c => by fin_cases c <;> rfl)
  · unfold GatherDims.start
    rw [dif_neg (by decide), Nat.zero_add]
    rfl

theorem gather_pts (x : Vec Ideal S16x4096x64 .f32) (q : Vec Ideal S16x512x32x2 .i32) (b : Fin 16) (s : Fin 512) (k : Fin 32) (j : Fin 64) :
    Host.gather gather_S16x4096x64_S16x512x32x2_S16x512x32x64_3_01_n_n_01_3_1164 x q (ix4 b s k j)
      = x (ix3 ⟨min (q (ix4 b s k 0) : BitVec 32).toInt.toNat 15, by omega⟩ ⟨min (q (ix4 b s k 1) : BitVec 32).toInt.toNat 4095, by omega⟩ j) := by
  refine congrArg x (funext fun (a : Fin 3) => Fin.ext ?_)
  show GatherDims.start gather_S16x4096x64_S16x512x32x2_S16x512x32x64_3_01_n_n_01_3_1164 (ix4 b s k j) q a
    + GatherDims.batchCoord gather_S16x4096x64_S16x512x32x2_S16x512x32x64_3_01_n_n_01_3_1164 (ix4 b s k j) a
    + GatherDims.offCoord gather_S16x4096x64_S16x512x32x2_S16x512x32x64_3_01_n_n_01_3_1164 (ix4 b s k j) a = _
  rw [GatherDims.batchCoord_eq_zero _ _ _ List.not_mem_nil, Nat.add_zero]
  obtain rfl | rfl | rfl : a = 0 ∨ a = 1 ∨ a = 2 := by revert a; decide
  · rw [GatherDims.offCoord_eq_zero _ _ _ (by decide), Nat.add_zero]
    unfold GatherDims.start
    rw [dif_pos (by decide)]
    exact congrArg (fun i => min (q i : BitVec 32).toInt.toNat 15) (funext fun c => by fin_cases c <;> rfl)
  · rw [GatherDims.offCoord_eq_zero _ _ _ (by decide), Nat.add_zero]
    unfold GatherDims.start
    rw [dif_pos (by decide)]
    exact congrArg (fun i => min (q i : BitVec 32).toInt.toNat 4095) (funext fun c => by fin_cases c <;> rfl)
  · unfold GatherDims.start
    rw [dif_neg (by decide), Nat.zero_add]
    rfl

/-- A word below 4096, clamped, is itself. -/
theorem clamp_batch (b : Fin 16) (w : BitVec 32) (h : w = BitVec.ofNat 32 b.val) : min w.toInt.toNat 15 = b.val := by
  have hb : b.val < 16 := b.isLt
  rw [h, BitVec.toInt_eq_toNat_of_lt (by rw [BitVec.toNat_ofNat]; omega), BitVec.toNat_ofNat]
  omega

theorem clamp_point (w v : BitVec 32) (h : w = v) (hv : v.toNat < 4096) : min w.toInt.toNat 4095 = v.toNat := by
  rw [h, BitVec.toInt_eq_toNat_of_lt (by omega)]
  omega

theorem coords_apply (xyz : Vec Ideal S16x3x4096 .f32) (i : Vec Ideal S16x512x32 .i32) (b : Fin 16) (s : Fin 512) (k : Fin 32) (j : Fin 3)
    (h : (i (ix3 b s k) : BitVec 32).toNat < 4096) : coords xyz i (ix4 b s k j) = xyz (ix3 b j ⟨(i (ix3 b s k) : BitVec 32).toNat, h⟩) := by
  obtain ⟨h0, h1⟩ := places_apply i b s k
  have hr (u : Fin 16) (v : Fin 4096) : transpose S16x4096x3 [0, 2, 1] xyz transposes_S16x3x4096_S16x4096x3_0_2_1 (ix3 u v j) = xyz (ix3 u j v) := by pointwise
  unfold coords
  rw [gather_xyz, hr]
  exact congrArg₂ (fun u v => xyz (ix3 u j v)) (Fin.ext (clamp_batch b _ (h0.trans (batches_apply b s k))))
    (Fin.ext (clamp_point _ _ (h1.trans (members_apply i b s k h)) h))

theorem feats_apply (pts : Vec Ideal S16x64x4096 .f32) (i : Vec Ideal S16x512x32 .i32) (b : Fin 16) (s : Fin 512) (k : Fin 32) (j : Fin 64)
    (h : (i (ix3 b s k) : BitVec 32).toNat < 4096) : feats pts i (ix4 b s k j) = pts (ix3 b j ⟨(i (ix3 b s k) : BitVec 32).toNat, h⟩) := by
  obtain ⟨h0, h1⟩ := places_apply i b s k
  have hr (u : Fin 16) (v : Fin 4096) : transpose S16x4096x64 [0, 2, 1] pts transposes_S16x64x4096_S16x4096x64_0_2_1 (ix3 u v j) = pts (ix3 u j v) := by pointwise
  unfold feats
  rw [gather_pts, hr]
  exact congrArg₂ (fun u v => pts (ix3 u j v)) (Fin.ext (clamp_batch b _ (h0.trans (batches_apply b s k))))
    (Fin.ext (clamp_point _ _ (h1.trans (members_apply i b s k h)) h))

/-- The reference's result. -/
def grouped (xyz : Vec Ideal S16x3x4096 .f32) (pts : Vec Ideal S16x64x4096 .f32) (w : Vec Ideal S64x67 .f32) (b : Vec Ideal S64 .f32)
    (q : Vec Ideal S16x512x3 .f32) (i : Vec Ideal S16x512x32 .i32) : Vec Ideal S262144x64 .f32 :=
  layer (joined (coords xyz i) q (feats pts i)) w b

theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47)
        = grouped (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => h c) (run m ρ)

end Cert.HeadRefIdeal.Value

end
-- ==== Proof.Grouped.lean ====
/- The first layer on the grouped points: the table's rows gathered by batch and point, less the centre's part. -/
module

public import proofs.«01_k».proof.Proof.Gen.HeadIdeal.Frame
public import proofs.«01_k».proof.Proof.Gen.Pre_inside
public import Idealize.ShloMosaic.Lib.ReduceAll
public import proofs.«01_k».proof.Proof.Table
public import proofs.«01_k».proof.Proof.Normal
public import proofs.«01_k».proof.Proof.GroupedRef

@[expose] public section

set_option maxRecDepth 16384

noncomputable section

namespace Cert.HeadIdeal.Value

open Cert.HeadIdeal Cert.HeadIdeal.Gen Idealize.ShloMosaic Idealize.ShloMosaic.TcCoe Idealize.SL.Sem
open Cert.Rows

/-! ## The lines after the call -/

/-- Every place's point in its batch, counted over all batches, -/
def counted (i : Vec Ideal S16x512x32 .i32) : Vec Ideal S16x512x32 .i32 :=
  addi i (broadcastInDim S16x512x32 ![0, 1, 2] bcast_S16x1x1_S16x512x32_0_1_2 (broadcastInDim S16x1x1 ![0] bcast_S16_S16x1x1_0
    (muli (iotaInDim S16 32 0) (broadcastInDim S16 ![] bcast_S_S16 (constantI S_ 32 4096#32)))))

/-- as the gather takes it. -/
def taken (v : Vec Ideal S16x512x32 .i32) : Vec Ideal S262144x1 .i32 :=
  broadcastInDim S262144x1 ![0] bcast_S262144_S262144x1_0
    (select (cmpi .slt (shapeCast S262144 v shapeCasts_S16x512x32_S262144) (broadcastInDim S262144 ![] bcast_S_S262144 (constantI S_ 32 0#32)))
      (addi (shapeCast S262144 v shapeCasts_S16x512x32_S262144) (broadcastInDim S262144 ![] bcast_S_S262144 (constantI S_ 32 65536#32)))
      (shapeCast S262144 v shapeCasts_S16x512x32_S262144))

/-- Rows less the centres' part. -/
def less (t : Vec Ideal S262144x64 .f32) (q : Vec Ideal S16x512x3 .f32) (w : Vec Ideal S64x67 .f32) : Vec Ideal S262144x64 .f32 :=
  shapeCast S262144x64 (subf (F := Ideal) (φ := .f32) (shapeCast S16x512x32x64 t shapeCasts_S262144x64_S16x512x32x64)
    (broadcastInDim S16x512x32x64 ![0, 1, 2, 3] bcast_S16x512x1x64_S16x512x32x64_0_1_2_3 (broadcastInDim S16x512x1x64 ![0, 1, 3] bcast_S16x512x64_S16x512x1x64_0_1_3
      (Host.dotGeneral (F := Ideal) (φ₁ := .f32) (φ₂ := .f32) dot_S16x512x3_S64x3_S16x512x64_2_1_01_0_n_n none q (extractStridedSlice S64x3 ![0, 0] w slices_S64x67_S64x3_0_0)))))
    shapeCasts_S16x512x32x64_S262144x64

theorem less_apply (t : Vec Ideal S262144x64 .f32) (q : Vec Ideal S16x512x3 .f32) (w : Vec Ideal S64x67 .f32) (n : Fin 262144) (o : Fin 64) :
    less t q w (ix2 n o) = t (ix2 n o) - ∑ k : Fin 3, q (ix3 ⟨n.val / 16384, by omega⟩ ⟨n.val / 32 % 512, by omega⟩ k) * w (ix2 o ⟨k.val, by omega⟩) := by
  unfold less
  pointwise [dot_S16x512x3_S64x3_S16x512x64_2_1_01_0_n_n]

theorem slt_zero (p : BitVec 32) (h : p.toNat < 2 ^ 31) : IntOp.cmpi .slt p 0#32 = 0#1 := by
  have h1 : p.toInt = p.toNat := BitVec.toInt_eq_toNat_of_lt (by omega)
  have h2 : p.slt 0#32 = false := by
    simp only [BitVec.slt, decide_eq_false_iff_not, h1]
    simp
  show BitVec.ofBool (p.slt 0#32) = 0#1
  rw [h2]; rfl

theorem counted_apply (i : Vec Ideal S16x512x32 .i32) (b : Fin 16) (s : Fin 512) (k : Fin 32) :
    (counted i (ix3 b s k) : BitVec 32) = (i (ix3 b s k) : BitVec 32) + BitVec.ofNat 32 b.val * 4096#32 := by
  have hb (v : Vec Ideal S16 .i32) : broadcastInDim S16x512x32 ![0, 1, 2] bcast_S16x1x1_S16x512x32_0_1_2 (broadcastInDim S16x1x1 ![0] bcast_S16_S16x1x1_0 v) (ix3 b s k) = v (ix1 b) := by pointwise
  unfold counted
  exact congrArg (fun u : BitVec 32 => (i (ix3 b s k) : BitVec 32) + u) ((hb _).trans rfl)

theorem taken_apply (v : Vec Ideal S16x512x32 .i32) (n : Fin 262144)
    (h : (v (ix3 ⟨n.val / 16384, by omega⟩ ⟨n.val / 32 % 512, by omega⟩ ⟨n.val % 32, by omega⟩) : BitVec 32).toNat < 2 ^ 31) :
    (taken v (ix2 n 0) : BitVec 32) = v (ix3 ⟨n.val / 16384, by omega⟩ ⟨n.val / 32 % 512, by omega⟩ ⟨n.val % 32, by omega⟩) := by
  have hb (u : Vec Ideal S262144 .i32) : broadcastInDim S262144x1 ![0] bcast_S262144_S262144x1_0 u (ix2 n 0) = u (ix1 n) := by pointwise
  have hr : shapeCast S262144 v shapeCasts_S16x512x32_S262144 (ix1 n) = v (ix3 ⟨n.val / 16384, by omega⟩ ⟨n.val / 32 % 512, by omega⟩ ⟨n.val % 32, by omega⟩) := by pointwise
  have hs : IntOp.cmpi .slt (shapeCast S262144 v shapeCasts_S16x512x32_S262144 (ix1 n) : BitVec 32) 0#32 = 0#1 := slt_zero _ (by rw [hr]; exact h)
  have hq (p q : BitVec 32) (e : IntOp.cmpi .slt p 0#32 = 0#1) : Scalar.select (IntOp.cmpi .slt p 0#32) q p = p := by rw [e]; rfl
  exact ((hb _).trans (hq _ _ hs)).trans hr

/-- A gather of the table's rows: the row at the place's word. -/
theorem gather_row (x : Vec Ideal S65536x64 .f32) (r : Vec Ideal S262144x1 .i32) (n : Fin 262144) (o : Fin 64) :
    Host.gather gather_S65536x64_S262144x1_S262144x64_1_0_n_n_0_1_164 x r (ix2 n o) = x (ix2 ⟨min (r (ix2 n 0) : BitVec 32).toInt.toNat 65535, by omega⟩ o) := by
  refine congrArg x (funext fun (a : Fin 2) => Fin.ext ?_)
  show GatherDims.start gather_S65536x64_S262144x1_S262144x64_1_0_n_n_0_1_164 (ix2 n o) r a
    + GatherDims.batchCoord gather_S65536x64_S262144x1_S262144x64_1_0_n_n_0_1_164 (ix2 n o) a
    + GatherDims.offCoord gather_S65536x64_S262144x1_S262144x64_1_0_n_n_0_1_164 (ix2 n o) a = _
  rw [GatherDims.batchCoord_eq_zero _ _ _ List.not_mem_nil, Nat.add_zero]
  obtain rfl | rfl : a = 0 ∨ a = 1 := by revert a; decide
  · rw [GatherDims.offCoord_eq_zero _ _ _ (by decide), Nat.add_zero]
    unfold GatherDims.start
    rw [dif_pos (by decide)]
    exact congrArg (fun i => min (r i : BitVec 32).toInt.toNat 65535) (funext fun c => by fin_cases c <;> rfl)
  · unfold GatherDims.start
    rw [dif_neg (by decide), Nat.zero_add]
    rfl

/-- Where every place's point is one, the gather takes the row of its batch and point. -/
theorem gathered_apply (x : Vec Ideal S65536x64 .f32) (i : Vec Ideal S16x512x32 .i32) (n : Fin 262144) (o : Fin 64) (p : Fin 65536)
    (h : (i (ix3 ⟨n.val / 16384, by omega⟩ ⟨n.val / 32 % 512, by omega⟩ ⟨n.val % 32, by omega⟩) : BitVec 32).toNat < 4096)
    (hp : p.val = n.val / 16384 * 4096 + (i (ix3 ⟨n.val / 16384, by omega⟩ ⟨n.val / 32 % 512, by omega⟩ ⟨n.val % 32, by omega⟩) : BitVec 32).toNat) :
    Host.gather gather_S65536x64_S262144x1_S262144x64_1_0_n_n_0_1_164 x (taken (counted i)) (ix2 n o) = x (ix2 p o) := by
  have hc := counted_apply i ⟨n.val / 16384, by omega⟩ ⟨n.val / 32 % 512, by omega⟩ ⟨n.val % 32, by omega⟩
  have hn : (counted i (ix3 ⟨n.val / 16384, by omega⟩ ⟨n.val / 32 % 512, by omega⟩ ⟨n.val % 32, by omega⟩) : BitVec 32).toNat = p.val := by
    have hb : n.val / 16384 < 16 := by omega
    rw [hc, BitVec.toNat_add, BitVec.toNat_mul, BitVec.toNat_ofNat, hp]
    show (_ + n.val / 16384 % 2 ^ 32 * 4096 % 2 ^ 32) % 2 ^ 32 = _
    omega
  have ht := taken_apply (counted i) n (by rw [hn]; omega)
  rw [gather_row]
  refine congrArg (fun u => x (ix2 u o)) (Fin.ext ?_)
  show min (BitVec.toInt (taken (counted i) (ix2 n 0) : BitVec 32)).toNat 65535 = p.val
  rw [ht, BitVec.toInt_eq_toNat_of_lt (by rw [hn]; omega), hn]
  omega

/-! ## The call -/

/-- The body is the table call's. -/
theorem out5_eq : (out0_5 : Vec Ideal S2048x64 .f32 → Vec Ideal S2048x3 .f32 → Vec Ideal S64x64 .f32 → Vec Ideal S3x64 .f32 → Vec Ideal S1x64 .f32 → Vec Ideal S2048x64 .f32)
    = Cert.TableIdeal.Gen.out0_5 := rfl

variable (m : (ℓ : Loc nD τ sig) → Buf (Elt Ideal) ℓ)

/-- The arguments, as launched. -/
abbrev cloud (c : Dev nD) : Vec Ideal S16x3x4096 .f32 := m ((c.tc : Thread nD τ).loc main_arg0)
abbrev features (c : Dev nD) : Vec Ideal S16x64x4096 .f32 := m ((c.tc : Thread nD τ).loc main_arg1)
abbrev weights (c : Dev nD) : Vec Ideal S64x67 .f32 := m ((c.tc : Thread nD τ).loc main_arg2)
abbrev biases (c : Dev nD) : Vec Ideal S64 .f32 := m ((c.tc : Thread nD τ).loc main_arg3)
abbrev centres (c : Dev nD) : Vec Ideal S16x512x3 .f32 := m ((c.tc : Thread nD τ).loc main_arg4)
abbrev chosen (c : Dev nD) : Vec Ideal S16x512x32 .i32 := m ((c.tc : Thread nD τ).loc main_arg5)

/-- The table. -/
def R (c : Dev nD) : Vec Ideal S65536x64 .f32 := Cert.TableRefIdeal.Value.affine (cloud m c) (features m c) (weights m c) (biases m c)

theorem blk0 (c : Dev nD) (t : Fin cfg0.N) (r : Fin 2048) (k : Fin 64) (n : Fin 65536) (hn : n.val = t.val * 2048 + r.val) :
    (iblk m c 0 t : Vec Ideal S2048x64 .f32) (ix2 r k) = features m c (ix3 ⟨n.val / 4096, by omega⟩ k ⟨n.val % 4096, by omega⟩) := by
  have hi : win0_0.index t 0 = t.val ∧ win0_0.index t 1 = 0 :=
    (by decide +kernel : ∀ t : Fin grid0.N, win0_0.index t 0 = t.val ∧ win0_0.index t 1 = 0) t
  have e : V m c main_v8 = shapeCast S65536x64 (transpose S16x4096x64 [0, 2, 1] (features m c) transposes_S16x64x4096_S16x4096x64_0_2_1) shapeCasts_S16x4096x64_S65536x64 := by entry_read; rfl
  have h : (iblk m c 0 t : Vec Ideal S2048x64 .f32) (ix2 r k) = V m c main_v8 (ix2 n k) := by
    unfold iblk
    generalize V m c = W
    blk_ext [hi.1, hi.2, hn]
  rw [h, e]
  pointwise

theorem blk1 (c : Dev nD) (t : Fin cfg0.N) (r : Fin 2048) (k : Fin 3) (n : Fin 65536) (hn : n.val = t.val * 2048 + r.val) :
    (iblk m c 1 t : Vec Ideal S2048x3 .f32) (ix2 r k) = cloud m c (ix3 ⟨n.val / 4096, by omega⟩ k ⟨n.val % 4096, by omega⟩) := by
  have hi : win0_1.index t 0 = t.val ∧ win0_1.index t 1 = 0 :=
    (by decide +kernel : ∀ t : Fin grid0.N, win0_1.index t 0 = t.val ∧ win0_1.index t 1 = 0) t
  have e : V m c main_v9 = shapeCast S65536x3 (transpose S16x4096x3 [0, 2, 1] (cloud m c) transposes_S16x3x4096_S16x4096x3_0_2_1) shapeCasts_S16x4096x3_S65536x3 := by entry_read; rfl
  have h : (iblk m c 1 t : Vec Ideal S2048x3 .f32) (ix2 r k) = V m c main_v9 (ix2 n k) := by
    unfold iblk
    generalize V m c = W
    blk_ext [hi.1, hi.2, hn]
  rw [h, e]
  pointwise

theorem blk2 (c : Dev nD) (t : Fin cfg0.N) (k : Fin 64) (j : Fin 64) :
    (iblk m c 2 t : Vec Ideal S64x64 .f32) (ix2 k j) = weights m c (ix2 j ⟨3 + k.val, by omega⟩) := by
  have hi : win0_2.index t 0 = 0 ∧ win0_2.index t 1 = 0 :=
    (by decide +kernel : ∀ t : Fin grid0.N, win0_2.index t 0 = 0 ∧ win0_2.index t 1 = 0) t
  have e : V m c main_v11 = transpose S64x64 [1, 0] (extractStridedSlice S64x64 ![0, 3] (weights m c) slices_S64x67_S64x64_0_3) transposes_S64x64_S64x64_1_0 := by entry_read; rfl
  have h : (iblk m c 2 t : Vec Ideal S64x64 .f32) (ix2 k j) = V m c main_v11 (ix2 k j) := by
    unfold iblk
    generalize V m c = W
    blk_ext [hi.1, hi.2]
  rw [h, e]
  pointwise

theorem blk3 (c : Dev nD) (t : Fin cfg0.N) (k : Fin 3) (j : Fin 64) :
    (iblk m c 3 t : Vec Ideal S3x64 .f32) (ix2 k j) = weights m c (ix2 j ⟨k.val, by omega⟩) := by
  have hi : win0_3.index t 0 = 0 ∧ win0_3.index t 1 = 0 :=
    (by decide +kernel : ∀ t : Fin grid0.N, win0_3.index t 0 = 0 ∧ win0_3.index t 1 = 0) t
  have e : V m c main_v13 = transpose S3x64 [1, 0] (extractStridedSlice S64x3 ![0, 0] (weights m c) slices_S64x67_S64x3_0_0) transposes_S64x3_S3x64_1_0 := by entry_read; rfl
  have h : (iblk m c 3 t : Vec Ideal S3x64 .f32) (ix2 k j) = V m c main_v13 (ix2 k j) := by
    unfold iblk
    generalize V m c = W
    blk_ext [hi.1, hi.2]
  rw [h, e]
  pointwise

theorem blk4 (c : Dev nD) (t : Fin cfg0.N) (k : Fin 64) : (iblk m c 4 t : Vec Ideal S1x64 .f32) (ix2 0 k) = biases m c (ix1 k) := by
  have hi : win0_4.index t 0 = 0 ∧ win0_4.index t 1 = 0 :=
    (by decide +kernel : ∀ t : Fin grid0.N, win0_4.index t 0 = 0 ∧ win0_4.index t 1 = 0) t
  have e : V m c main_v14 = broadcastInDim S1x64 ![1] bcast_S64_S1x64_1 (biases m c) := by entry_read; rfl
  have h : (iblk m c 4 t : Vec Ideal S1x64 .f32) (ix2 0 k) = V m c main_v14 (ix2 0 k) := by
    unfold iblk
    generalize V m c = W
    blk_ext [hi.1, hi.2]
  rw [h, e]
  pointwise

/-- One entry of the table, from the blocks of its point. -/
theorem entry (c : Dev nD) (t : Fin cfg0.N) (r : Fin 2048) (j : Fin 64) (n : Fin 65536) (hn : n.val = t.val * 2048 + r.val) :
    out0_5 (iblk m c 0 t) (iblk m c 1 t) (iblk m c 2 t) (iblk m c 3 t) (iblk m c 4 t) (ix2 r j) = R m c (ix2 n j) := by
  rw [out5_eq]
  refine (Cert.TableIdeal.Value.out5_apply _ _ _ _ _ r j).trans ?_
  unfold R
  rw [Cert.TableRefIdeal.Value.affine_apply, Cert.TableIdeal.Value.sum67]
  have hx (k : Fin 3) := congrArg₂ (fun a b : EReal => a * b) ((blk1 m c t r k n hn).trans (Cert.TableRefIdeal.Value.both_xyz (cloud m c) (features m c) n k).symm) (blk3 m c t k j)
  have hp (k : Fin 64) := congrArg₂ (fun a b : EReal => a * b) ((blk0 m c t r k n hn).trans (Cert.TableRefIdeal.Value.both_pts (cloud m c) (features m c) n k).symm) (blk2 m c t k j)
  exact congrArg₂ (· + ·) (congrArg₂ (· + ·) (congrArg₂ (· + ·) (congrArg₂ (· + ·) (Finset.sum_congr rfl fun k _ => hp k) (hx 0)) (hx 1)) (hx 2)) (blk4 m c t j)

theorem idx5 : ∀ t : Fin cfg0.N, win0_5.index t 0 = t.val ∧ win0_5.index t 1 = 0 :=
  (by decide +kernel : ∀ t : Fin grid0.N, win0_5.index t 0 = t.val ∧ win0_5.index t 1 = 0)

theorem flushes5 : ∀ t : Fin cfg0.N, (cfg0.win 5).flush t = true :=
  (by decide +kernel : ∀ t : Fin grid0.N, win0_5.flush t = true)

theorem written (c : Dev nD) (t : Fin cfg0.N) : (dats m 0 c).flushed 5 t = ((cfg0.win 5).blk t).view.read (Elt Ideal) (R m c) := by
  have hN : t.val < 32 := lt_of_lt_of_eq t.isLt N_0
  show (cfg0.win 5).cut (grid0.coords t) ((dats m 0 c).after 5 t) = _
  rw [after0_5]
  funext y
  have hy0 : (y 0).val < 2048 := (y 0).isLt
  have hy1 : (y 1).val < 64 := (y 1).isLt
  show out0_5 (iblk m c 0 t) (iblk m c 1 t) (iblk m c 2 t) (iblk m c 3 t) (iblk m c 4 t) ((cfg0.win 5).xinj (grid0.coords t) y) = R m c (((cfg0.win 5).blk t).view.emb y)
  have he : ((cfg0.win 5).blk t).view.emb y = (ix2 ⟨t.val * 2048 + (y 0).val, by omega⟩ ⟨(y 1).val, hy1⟩ : S65536x64.Idx) := by
    funext a; apply Fin.ext
    match a with
    | ⟨0, _⟩ => show win0_5.index t (0 : Fin 2) * 2048 + 1 * (y 0).val = t.val * 2048 + (y 0).val; rw [(idx5 t).1]; omega
    | ⟨1, _⟩ => show win0_5.index t (1 : Fin 2) * 64 + 1 * (y 1).val = (y 1).val; rw [(idx5 t).2]; omega
  have hx : (cfg0.win 5).xinj (grid0.coords t) y = (ix2 ⟨(y 0).val, hy0⟩ ⟨(y 1).val, hy1⟩ : S2048x64.Idx) := by
    funext a; apply Fin.ext
    match a with
    | ⟨0, _⟩ => rfl
    | ⟨1, _⟩ => rfl
  rw [he, hx]
  exact entry m c t _ _ _ rfl

theorem covered (i : S65536x64.Idx) : ∃ t : Fin cfg0.N, (cfg0.win 5).flush t = true ∧ i ∈ ((cfg0.win 5).blk t).view.set := by
  have hi0 : (i 0).val < 65536 := (i 0).isLt
  have hi1 : (i 1).val < 64 := (i 1).isLt
  refine ⟨⟨(i 0).val / 2048, lt_of_lt_of_eq (by omega) N_0.symm⟩, flushes5 _, ?_⟩
  generalize ht : (⟨(i 0).val / 2048, lt_of_lt_of_eq (by omega) N_0.symm⟩ : Fin cfg0.N) = t
  have htv : t.val = (i 0).val / 2048 := by rw [← ht]
  show i ∈ ((View.whole main_v15).slice (win0_5.rect t)).set
  rw [View.set_slice_whole, Rect.mem_set_unit]
  intro a
  match a with
  | ⟨0, _⟩ => show win0_5.index t (0 : Fin 2) * 2048 ≤ (i 0).val ∧ (i 0).val < win0_5.index t (0 : Fin 2) * 2048 + 2048; rw [(idx5 t).1]; omega
  | ⟨1, _⟩ => show win0_5.index t (1 : Fin 2) * 64 ≤ (i 1).val ∧ (i 1).val < win0_5.index t (1 : Fin 2) * 64 + 64; rw [(idx5 t).2]; omega

theorem result (c : Dev nD) : (dats m 0 c).arrAt 5 cfg0.N = R m c :=
  (dats m 0 c).arrAt_eq_of_cover 5 _ (fun t _ => written m c t) covered

/-! ## The whole program -/

/-- The rows the program leaves. -/
def rows (c : Dev nD) : Vec Ideal S262144x64 .f32 :=
  less (Host.gather gather_S65536x64_S262144x1_S262144x64_1_0_n_n_0_1_164 (R m c) (taken (counted (chosen m c)))) (centres m c) (weights m c)

/-- What the lines after the call leave, of whatever they find. -/
theorem after_tail (W : Valuation τ sig (Elt Ideal)) : StableHlo.after (List.flatten [hostOps1]) W (Proc.devRef .tc main_v30)
    = less (Host.gather gather_S65536x64_S262144x1_S262144x64_1_0_n_n_0_1_164 (W (Proc.devRef .tc main_v15)) (taken (W (Proc.devRef .tc main_v5))))
      (W (Proc.devRef .tc main_arg4)) (W (Proc.devRef .tc main_arg2)) := by
  simp only [hostOps1, List.flatten_cons, List.flatten_nil, List.append_nil, List.cons_append, List.nil_append]
  after_results_simp <;> rfl

theorem final (c : Dev nD) : Pipeline.afterTail₀ cfgs (dats m) 0 (V0 m) [hostOps1] c main_v30 = rows m c := by
  have e15 : Pipeline.withArrays spec0 c (V0 m c) (fun w => (dats m 0 c).arrAt w cfg0.N) (Proc.devRef .tc main_v15) = R m c :=
    (Pipeline.withArrays_arr spec0 launch0.win.arr_inj c (V0 m c) (fun w => (dats m 0 c).arrAt w cfg0.N) 5).trans (result m c)
  have e5 : Pipeline.withArrays spec0 c (V0 m c) (fun w => (dats m 0 c).arrAt w cfg0.N) (Proc.devRef .tc main_v5) = counted (chosen m c) :=
    (Pipeline.withArrays_of_ne spec0 c (V0 m c) _ main_v5 (by decide)).trans (show V m c main_v5 = counted (chosen m c) by entry_read; rfl)
  have e4 : Pipeline.withArrays spec0 c (V0 m c) (fun w => (dats m 0 c).arrAt w cfg0.N) (Proc.devRef .tc main_arg4) = centres m c :=
    (Pipeline.withArrays_of_ne spec0 c (V0 m c) _ main_arg4 (by decide)).trans (V_main_arg4 m c)
  have e2 : Pipeline.withArrays spec0 c (V0 m c) (fun w => (dats m 0 c).arrAt w cfg0.N) (Proc.devRef .tc main_arg2) = weights m c :=
    (Pipeline.withArrays_of_ne spec0 c (V0 m c) _ main_arg2 (by decide)).trans (V_main_arg2 m c)
  unfold Pipeline.afterTail₀ rows
  rw [after_tail]
  refine congr (congr (congrArg less ?_) e4) e2
  exact congr (congrArg (Host.gather gather_S65536x64_S262144x1_S262144x64_1_0_n_n_0_1_164) e15) (congrArg taken e5)

/-- The program ends with these rows, its arguments as they were. -/
theorem run (g : Dev nD → PrngReg) :
    θ_run defs (onTc (τ := τ) (main (F := Ideal))) ⟨m, fun _ => 0, g⟩ (fun r => ∀ c : Dev nD,
      r.2.mem ((c.tc : Thread nD τ).loc main_v30) = rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have h1 : θ_run defs (onTc (τ := τ) (main (F := Ideal))) ⟨m, fun _ => 0, g⟩ (fun r => ∀ c : Dev nD, r.2.mem ((c.tc : Thread nD τ).loc main_v30) = rows m c) :=
    (θ_run defs _ _).mono (fun _ h c => ((h c).2 main_v30 (Pipeline.mem_restRefs_of main_v30 (by decide) (by decide))).trans (final m c)) (run_main m g)
  (θ_run defs _ _).mono (fun _ h c => ⟨h.1 c, h.2 c⟩) (θ_run_and h1 (unchanged m g))

/-- Where every place's point is one and the centres and the coordinates' weights are real, the gathered rows less the
    centres' part are the layer of the grouped points. -/
theorem less_eq (xyz : Vec Ideal S16x3x4096 .f32) (pts : Vec Ideal S16x64x4096 .f32) (w : Vec Ideal S64x67 .f32) (b : Vec Ideal S64 .f32)
    (q : Vec Ideal S16x512x3 .f32) (i : Vec Ideal S16x512x32 .i32) (hi : ∀ y, (i y : BitVec 32).toNat < 4096)
    (hw : ∀ (o : Fin 64) (k : Fin 3), ∃ r : ℝ, w (ix2 o ⟨k.val, by omega⟩) = (r : EReal)) (hq : ∀ y, ∃ r : ℝ, q y = (r : EReal)) :
    less (Host.gather gather_S65536x64_S262144x1_S262144x64_1_0_n_n_0_1_164 (Cert.TableRefIdeal.Value.affine xyz pts w b) (taken (counted i))) q w
      = Cert.HeadRefIdeal.Value.grouped xyz pts w b q i := by
  funext y
  rw [eq_ix2 y]
  obtain ⟨n, hn⟩ : ∃ n : Fin 262144, n = y 0 := ⟨_, rfl⟩
  obtain ⟨o, ho⟩ : ∃ o : Fin 64, o = y 1 := ⟨_, rfl⟩
  rw [← hn, ← ho]
  clear hn ho
  have hc := hi (ix3 ⟨n.val / 16384, by omega⟩ ⟨n.val / 32 % 512, by omega⟩ ⟨n.val % 32, by omega⟩)
  obtain ⟨p, hp⟩ : ∃ p : Fin 65536, p.val = n.val / 16384 * 4096 + (i (ix3 ⟨n.val / 16384, by omega⟩ ⟨n.val / 32 % 512, by omega⟩ ⟨n.val % 32, by omega⟩) : BitVec 32).toNat :=
    ⟨⟨n.val / 16384 * 4096 + (i (ix3 ⟨n.val / 16384, by omega⟩ ⟨n.val / 32 % 512, by omega⟩ ⟨n.val % 32, by omega⟩) : BitVec 32).toNat, by omega⟩, rfl⟩
  have hb : (⟨p.val / 4096, by omega⟩ : Fin 16) = ⟨n.val / 16384, by omega⟩ := Fin.ext (by show p.val / 4096 = n.val / 16384; omega)
  have hm : (⟨p.val % 4096, by omega⟩ : Fin 4096) = ⟨_, hc⟩ := Fin.ext (by show p.val % 4096 = (i (ix3 ⟨n.val / 16384, by omega⟩ ⟨n.val / 32 % 512, by omega⟩ ⟨n.val % 32, by omega⟩) : BitVec 32).toNat; omega)
  unfold Cert.HeadRefIdeal.Value.grouped
  rw [less_apply, gathered_apply _ i n o p hc hp, Cert.TableRefIdeal.Value.affine_apply, Cert.TableIdeal.Value.sum67,
    Cert.HeadRefIdeal.Value.layer_apply, Cert.TableIdeal.Value.sum67, Fin.sum_univ_three]
  have hx (k : Fin 3) := Cert.TableRefIdeal.Value.both_xyz xyz pts p k
  have hf (k : Fin 64) := Cert.TableRefIdeal.Value.both_pts xyz pts p k
  rw [hb, hm] at hx hf
  have gx (k : Fin 3) := (Cert.HeadRefIdeal.Value.joined_xyz (Cert.HeadRefIdeal.Value.coords xyz i) q (Cert.HeadRefIdeal.Value.feats pts i) ⟨n.val / 16384, by omega⟩ ⟨n.val / 32 % 512, by omega⟩ ⟨n.val % 32, by omega⟩ k).trans
    (congrArg (· - q (ix3 ⟨n.val / 16384, by omega⟩ ⟨n.val / 32 % 512, by omega⟩ k)) (Cert.HeadRefIdeal.Value.coords_apply xyz i _ _ _ k hc))
  have gf (k : Fin 64) := (Cert.HeadRefIdeal.Value.joined_pts (Cert.HeadRefIdeal.Value.coords xyz i) q (Cert.HeadRefIdeal.Value.feats pts i) ⟨n.val / 16384, by omega⟩ ⟨n.val / 32 % 512, by omega⟩ ⟨n.val % 32, by omega⟩ k).trans
    (Cert.HeadRefIdeal.Value.feats_apply pts i _ _ _ k hc)
  obtain ⟨w0, hw0⟩ := hw o 0
  obtain ⟨w1, hw1⟩ := hw o 1
  obtain ⟨w2, hw2⟩ := hw o 2
  obtain ⟨q0, hq0⟩ := hq (ix3 ⟨n.val / 16384, by omega⟩ ⟨n.val / 32 % 512, by omega⟩ 0)
  obtain ⟨q1, hq1⟩ := hq (ix3 ⟨n.val / 16384, by omega⟩ ⟨n.val / 32 % 512, by omega⟩ 1)
  obtain ⟨q2, hq2⟩ := hq (ix3 ⟨n.val / 16384, by omega⟩ ⟨n.val / 32 % 512, by omega⟩ 2)
  have times {x x' y y' : EReal} (h : x = x') (h' : y = y') : x * y = x' * y' := congrArg₂ (fun a b : EReal => a * b) h h'
  have plus {x x' y y' : EReal} (h : x = x') (h' : y = y') : x + y = x' + y' := congrArg₂ (fun a b : EReal => a + b) h h'
  have minus {x x' y y' : EReal} (h : x = x') (h' : y = y') : x - y = x' - y' := congrArg₂ (fun a b : EReal => a - b) h h'
  refine (minus (plus (plus (plus (plus (Finset.sum_congr rfl fun k _ => times (hf k) rfl) (times (hx 0) hw0)) (times (hx 1) hw1)) (times (hx 2) hw2)) rfl)
    (plus (plus (times hq0 hw0) (times hq1 hw1)) (times hq2 hw2))).trans ((Cert.Normal.affine_less _ _ _ _ _ q0 q1 q2 w0 w1 w2).trans ?_)
  refine (plus (plus (plus (plus (Finset.sum_congr rfl fun k _ => ?_) (times hw0 ((gx 0).trans (minus rfl hq0)))) (times hw1 ((gx 1).trans (minus rfl hq1)))) (times hw2 ((gx 2).trans (minus rfl hq2)))) rfl).symm
  exact (times rfl (gf k)).trans (mul_comm _ _)

/-! ## The precondition -/

/-- A number from zero below 4096, as signed numbers compare, is so as a number. -/
theorem within (v : BitVec 32) (h0 : IntOp.cmpi .sge v 0#32 = 1#1) (h1 : IntOp.cmpi .slt v 4096#32 = 1#1) : v.toNat < 4096 := by
  have e0 : BitVec.ofBool (BitVec.sle 0#32 v) = 1#1 := h0
  have e1 : BitVec.ofBool (BitVec.slt v 4096#32) = 1#1 := h1
  have l0 : BitVec.sle 0#32 v = true := by
    cases h : BitVec.sle 0#32 v
    · rw [h] at e0; exact absurd e0 (by decide)
    · rfl
  have l1 : BitVec.slt v 4096#32 = true := by
    cases h : BitVec.slt v 4096#32
    · rw [h] at e1; exact absurd e1 (by decide)
    · rfl
  rw [BitVec.sle, decide_eq_true_eq] at l0
  rw [BitVec.slt, decide_eq_true_eq] at l1
  have z : (0#32).toInt = 0 := by decide
  have f : (4096#32).toInt = 4096 := by decide
  rw [z, BitVec.toInt_eq_toNat_cond] at l0
  rw [f, BitVec.toInt_eq_toNat_cond] at l1
  have hv := v.isLt
  split at l0 <;> split at l1 <;> omega

/-- A number below the largest value in absolute value is real. -/
theorem real_of_test (v : EReal) (h : BitVec.ofBool (decide (max v (-v) < Ideal.ofBits .f32 0x7F800000#32)) = 1#1) : ∃ r : ℝ, v = (r : EReal) := by
  have ht : Ideal.ofBits .f32 0x7F800000#32 = ⊤ := by simp [Ideal.ofBits, Ideal.ieee]
  rw [ht] at h
  refine Cert.Normal.real_of_lt _ ?_
  by_contra hn
  rw [decide_eq_false hn] at h
  exact absurd h (by decide)

/-- Under the precondition, the rows are the reference's. -/
theorem rows_eq (c : Dev nD)
    (h : Cert.Pre_inside.fn (F := Ideal) (cloud m c) (features m c) (weights m c) (biases m c) (centres m c) (chosen m c) = (fun _ => 1#1)) :
    rows m c = Cert.HeadRefIdeal.Value.grouped (cloud m c) (features m c) (weights m c) (biases m c) (centres m c) (chosen m c) := by
  haveI : Subsingleton Cert.Pre_inside.S_.Idx := ⟨fun a b => funext fun k => k.elim0⟩
  have hj := congrFun h (fun k => k.elim0)
  obtain ⟨h12, h3⟩ := IntOp.andi_eq_one.1 hj
  obtain ⟨h1, h2⟩ := IntOp.andi_eq_one.1 h12
  refine less_eq _ _ _ _ _ _ (fun y => ?_) (fun o k => ?_) fun y => ?_
  · obtain ⟨a, b⟩ := IntOp.andi_eq_one.1 (Host.reduce_andi_all _ _ _ _ _ h1 y)
    exact within _ a b
  · have e := Host.reduce_andi_all _ _ _ _ _ h2 (ix2 o k)
    have hw : extractStridedSlice Cert.Pre_inside.S64x3 ![0, 0] (weights m c) Cert.Pre_inside.Facts.slices_S64x67_S64x3_0_0 (ix2 o k) = weights m c (ix2 o ⟨k.val, by omega⟩) := by pointwise
    refine real_of_test _ ?_
    rw [← hw]
    exact e
  · exact real_of_test _ (Host.reduce_andi_all _ _ _ _ _ h3 y)

end Cert.HeadIdeal.Value

end
-- ==== Proof.Spread.lean ====
/- The variance of real numbers, both ways: the mean of the squared differences from the mean, and the mean of the squares
   less the square of the mean. -/
module

public import Idealize.ShloMosaic.PureOps.Ideal
public import Mathlib.Data.EReal.Inv

@[expose] public section

noncomputable section

namespace Cert.Normal

open Idealize.ShloMosaic

variable {n : ℕ}

theorem sum_coe (f : Fin n → ℝ) : ∑ r, (f r : EReal) = ((∑ r, f r : ℝ) : EReal) := by
  induction n with
  | zero => simp
  | succ n ih => rw [Fin.sum_univ_succ, Fin.sum_univ_succ, ih, EReal.coe_add]

theorem div_coe (x k : ℝ) (hk : k ≠ 0) : Ideal.div (x : EReal) (k : EReal) = ((x * k⁻¹ : ℝ) : EReal) := by
  rw [EReal.coe_mul, EReal.coe_inv]
  unfold Ideal.div
  rw [if_neg (by exact_mod_cast hk)]

/-- The squared differences from `a`, summed. -/
theorem squares (f : Fin n → ℝ) (a : ℝ) : ∑ r, (f r - a) * (f r - a) = ∑ r, f r * f r - 2 * a * ∑ r, f r + n * (a * a) := by
  induction n with
  | zero => simp
  | succ n ih => rw [Fin.sum_univ_succ, Fin.sum_univ_succ, Fin.sum_univ_succ, ih]; push_cast; ring

/-- The two forms of the variance of real numbers are equal, and the bound below at zero does nothing. -/
theorem variance (x : Fin n → EReal) (hx : ∀ r, ∃ v : ℝ, x r = (v : EReal)) (k : ℝ) (hk : (n : ℝ) = k) (hp : 0 < k) :
    max (Ideal.div (∑ r, x r * x r) (k : EReal) - Ideal.div (∑ r, x r) (k : EReal) * Ideal.div (∑ r, x r) (k : EReal)) 0
      = Ideal.div (∑ r, (x r - Ideal.div (∑ s, x s) (k : EReal)) * (x r - Ideal.div (∑ s, x s) (k : EReal))) (k : EReal) := by
  choose f hf using hx
  obtain rfl : x = fun r => (f r : EReal) := funext hf
  have h2 : ∑ r, (f r : EReal) * (f r : EReal) = ((∑ r, f r * f r : ℝ) : EReal) := by
    rw [← sum_coe]
    exact Finset.sum_congr rfl fun r _ => (EReal.coe_mul _ _).symm
  dsimp only
  rw [h2, sum_coe, div_coe _ k hp.ne', div_coe _ k hp.ne']
  set a := (∑ r, f r) * k⁻¹ with ha
  have h3 : ∑ r, ((f r : EReal) - (a : EReal)) * ((f r : EReal) - (a : EReal)) = ((∑ r, (f r - a) * (f r - a) : ℝ) : EReal) := by
    rw [← sum_coe]
    exact Finset.sum_congr rfl fun r _ => by rw [← EReal.coe_sub, ← EReal.coe_mul]
  rw [h3, div_coe _ k hp.ne', ← EReal.coe_mul, ← EReal.coe_sub]
  have e : (∑ r, f r * f r) * k⁻¹ - a * a = (∑ r, (f r - a) * (f r - a)) * k⁻¹ := by
    have hs : ∑ r, f r = a * k := by rw [ha]; field_simp
    rw [squares, hs, hk]
    field_simp
    ring
  have h0 : 0 ≤ (∑ r, (f r - a) * (f r - a)) * k⁻¹ :=
    mul_nonneg (Finset.sum_nonneg fun r _ => mul_self_nonneg _) (inv_nonneg.mpr hp.le)
  rw [e]
  exact max_eq_left (by exact_mod_cast h0)

end Cert.Normal

end
-- ==== Proof.Moments.lean ====
/- The first layer's scale and shift: the call that sums a layer and its squares, with the lines after it, against the mean
   and the variance of the layer. -/
module

public import proofs.«01_k».proof.Proof.Gen.MomentsIdeal.Frame
public import proofs.«01_k».proof.Proof.Gen.Pre_bounded
public import proofs.«01_k».proof.Proof.Gen.MomentsRefIdeal.Run
public import proofs.«01_k».proof.Proof.ColumnSums
public import proofs.«01_k».proof.Proof.Grouped
public import proofs.«01_k».proof.Proof.Spread

@[expose] public section

set_option maxRecDepth 16384

noncomputable section

namespace Cert.MomentsIdeal.Value

open Cert.MomentsIdeal Cert.MomentsIdeal.Gen Idealize.ShloMosaic Idealize.ShloMosaic.TcCoe Idealize.SL.Sem
open Cert.Rows
open Cert.StatsIdeal.Value (stepAcc)

/-! ## The call -/

section
variable {F : FTy → Type} [FloatOps F]
variable (c : Dev nD) (i : grid0.Coords) (arg1 : Memref sig .tc .vmem S1024x64 .f32) (harg1 : arg1.IsWhole) (arg2 : Memref sig .tc .vmem S8x64 .f32) (harg2 : arg2.IsWhole) (arg3 : Memref sig .tc .vmem S8x64 .f32) (harg3 : arg3.IsWhole)
    (x0 : Vec F S1024x64 .f32) (xs0 : Vec F S8x64 .f32)

/-- The first point starts from zeros, -/
theorem opened (hc0 : cond0_0 i) (hc1 : ¬cond0_1 i) :
    sout0_A_0 c i arg1 harg1 arg2 harg2 arg3 harg3 hc0 hc1 x0 = stepAcc x0 (k0_pay1 (F := F)) := by
  unfold sout0_A_0 kernelRun0_A
  dsimp only
  sl_unfold_words
  refine (read_two (d := 64) VS0_0 VS0_0.junk _ _ _ _ _).trans ?_
  rw [read_whole (d := 64), readCov0 (d := 64), readCov1 (d := 64)]
  simp only [View.readAt_eq_ld, harg1.read_unread, View.ld_unit_zero (S := S1024x64) hz]
  rfl

/-- a later one from what it finds, -/
theorem carried (hc0 : ¬cond0_0 i) (hc1 : ¬cond0_1 i) :
    sout0_B_0 c i arg1 harg1 arg2 harg2 arg3 harg3 hc0 hc1 x0 xs0 = stepAcc x0 xs0 := by
  unfold sout0_B_0 kernelRun0_B
  dsimp only
  sl_unfold_words
  refine (read_two (d := 64) arg3.view _ _ _ _ _ _).trans ?_
  simp only [View.readAt_eq_ld, harg1.read_unread, harg3.read_unread, View.ld_unit_zero (S := S1024x64) hz, View.writes_nil]
  unfold stepAcc
  rw [← ld_row (Val := Elt F) (e := .f32) (d := 64) xs0 0 inb_S8x64_S1x64_0_0, ← ld_row (Val := Elt F) (e := .f32) (d := 64) xs0 1 inb_S8x64_S1x64_1_0]
  rfl

/-- and so does the last, -/
theorem closed (hc0 : ¬cond0_0 i) (hc1 : cond0_1 i) :
    sout0_C_0 c i arg1 harg1 arg2 harg2 arg3 harg3 hc0 hc1 x0 xs0 = stepAcc x0 xs0 := by
  unfold sout0_C_0 kernelRun0_C
  dsimp only
  sl_unfold_words
  refine (read_two (d := 64) arg3.view _ _ _ _ _ _).trans ?_
  simp only [View.readAt_eq_ld, harg1.read_unread, harg3.read_unread, View.ld_unit_zero (S := S1024x64) hz, View.writes_nil]
  unfold stepAcc
  rw [← ld_row (Val := Elt F) (e := .f32) (d := 64) xs0 0 inb_S8x64_S1x64_0_0, ← ld_row (Val := Elt F) (e := .f32) (d := 64) xs0 1 inb_S8x64_S1x64_1_0]
  rfl

/-- which also writes it out. -/
theorem written_out (hc0 : ¬cond0_0 i) (hc1 : cond0_1 i) :
    out0_C_1 c i arg1 harg1 arg2 harg2 arg3 harg3 hc0 hc1 x0 xs0 = stepAcc x0 xs0 := by
  rw [← closed c i arg1 harg1 arg2 harg2 arg3 harg3 x0 xs0 hc0 hc1]
  unfold out0_C_1 sout0_C_0
  rw [View.read_writes_junk_eq_canon]
  unfold kernelRun0_C
  dsimp only
  sl_unfold_words
  rw [View.canon_unit_zero (S := S8x64) hz]
  simp only [View.readAt_eq_ld, View.ld_unit_zero (S := S8x64) hz]

end

variable (m : (ℓ : Loc nD τ sig) → Buf (Elt Ideal) ℓ)

/-- The arguments, as launched. -/
abbrev layer (c : Dev nD) : Vec Ideal S262144x64 .f32 := m ((c.tc : Thread nD τ).loc main_arg0)
abbrev gains (c : Dev nD) : Vec Ideal S64 .f32 := m ((c.tc : Thread nD τ).loc main_arg1)
abbrev offsets (c : Dev nD) : Vec Ideal S64 .f32 := m ((c.tc : Thread nD τ).loc main_arg2)

theorem blk0 (c : Dev nD) (t : Fin cfg0.N) (r : Fin 1024) (k : Fin 64) :
    (iblk m c 0 t : Vec Ideal S1024x64 .f32) (ix2 r k) = layer m c (ix2 ⟨t.val * 1024 + r.val, by have h : t.val < 256 := lt_of_lt_of_eq t.isLt N_0; have := r.isLt; omega⟩ k) := by
  have hi : win0_0.index t 0 = t.val ∧ win0_0.index t 1 = 0 :=
    (by decide +kernel : ∀ t : Fin grid0.N, win0_0.index t 0 = t.val ∧ win0_0.index t 1 = 0) t
  blk_ext [iblk, V, hi.1, hi.2]

theorem step_eq (c : Dev nD) (t : Fin cfg0.N) (acc : Vec Ideal S8x64 .f32) :
    stepAcc (iblk m c 0 t) acc = addBlock (d := 64) (layer m c) t.val acc :=
  Cert.StatsIdeal.Value.step_of _ _ t.val (lt_of_lt_of_eq t.isLt N_0) (fun r k => blk0 m c t r k) acc

/-- The accumulator after point `n`. -/
def held (c : Dev nD) (n : ℕ) : Vec Ideal S8x64 .f32 := if h : n < cfg0.N then (outsAt0 m c n h).2 else fun _ => (0 : EReal)

theorem held_zero (c : Dev nD) : held m c 0 = addBlock (d := 64) (layer m c) 0 fun _ => (0 : EReal) := by
  have h : 0 < cfg0.N := lt_of_lt_of_eq (by decide) N_0.symm
  unfold held
  rw [dif_pos h, outsAt0_A m c ⟨0, h⟩ (by simp) (by simp)]
  dsimp only
  rw [opened, step_eq]
  exact congrArg _ Cert.StatsIdeal.Value.zero_eq

theorem held_succ (c : Dev nD) (n : ℕ) (h : n + 1 < cfg0.N) : held m c (n + 1) = addBlock (d := 64) (layer m c) (n + 1) (held m c n) := by
  have hN : n + 1 < 256 := lt_of_lt_of_eq h N_0
  have hn : n < cfg0.N := Nat.lt_of_succ_lt h
  unfold held
  rw [dif_pos h, dif_pos hn, ← step_eq m c ⟨n + 1, h⟩]
  by_cases h1 : (n + 1) % 256 = 255
  · rw [outsAt0_C m c ⟨n + 1, h⟩ (by dsimp only; omega) h1]
    dsimp only
    rw [closed]
    rfl
  · rw [outsAt0_B m c ⟨n + 1, h⟩ (by dsimp only; omega) h1]
    dsimp only
    rw [carried]
    rfl

theorem held_last (c : Dev nD) : held m c 255 = totals (d := 64) (layer m c) :=
  accum_totals (d := 64) _ (held m c) cfg0.N N_0 (held_zero m c) (held_succ m c)

/-- The last point writes the accumulator out. -/
theorem out_last (c : Dev nD) (t : Fin cfg0.N) (h : t.val = 255) : (outsAt0 m c t.val t.isLt).1 = totals (d := 64) (layer m c) := by
  have e : (outsAt0 m c t.val t.isLt).1 = (outsAt0 m c t.val t.isLt).2 := by
    rw [outsAt0_C m c t (by omega) (by omega)]
    dsimp only
    rw [closed, written_out]
  rw [e, ← held_last, ← h]
  unfold held
  rw [dif_pos t.isLt]

theorem idx1 : ∀ t : Fin cfg0.N, win0_1.index t 0 = 0 ∧ win0_1.index t 1 = 0 :=
  (by decide +kernel : ∀ t : Fin grid0.N, win0_1.index t 0 = 0 ∧ win0_1.index t 1 = 0)

theorem flushes1 : ∀ t : Fin cfg0.N, (cfg0.win 1).flush t = true ↔ t.val = 255 :=
  (by decide +kernel : ∀ t : Fin grid0.N, win0_1.flush t = true ↔ t.val = 255)

theorem written (c : Dev nD) (t : Fin cfg0.N) (ht : (cfg0.win 1).flush t = true) :
    (dats m 0 c).flushed 1 t = ((cfg0.win 1).blk t).view.read (Elt Ideal) (totals (d := 64) (layer m c)) := by
  show (cfg0.win 1).cut (grid0.coords t) ((dats m 0 c).after 1 t) = _
  rw [after0_1, out_last m c t ((flushes1 t).1 ht)]
  generalize totals (d := 64) (layer m c) = T
  funext y
  show T ((cfg0.win 1).xinj (grid0.coords t) y) = T (((cfg0.win 1).blk t).view.emb y)
  refine congrArg T (funext fun a => Fin.ext ?_)
  match a with
  | ⟨0, _⟩ => show (y 0).val = win0_1.index t (0 : Fin 2) * 8 + 1 * (y 0).val; rw [(idx1 t).1]; omega
  | ⟨1, _⟩ => show (y 1).val = win0_1.index t (1 : Fin 2) * 64 + 1 * (y 1).val; rw [(idx1 t).2]; omega

theorem covered (i : S8x64.Idx) : ∃ t : Fin cfg0.N, (cfg0.win 1).flush t = true ∧ i ∈ ((cfg0.win 1).blk t).view.set := by
  have hi0 : (i 0).val < 8 := (i 0).isLt
  have hi1 : (i 1).val < 64 := (i 1).isLt
  obtain ⟨t, ht⟩ : ∃ t : Fin cfg0.N, t.val = 255 := ⟨⟨255, lt_of_lt_of_eq (by decide) N_0.symm⟩, rfl⟩
  refine ⟨t, (flushes1 t).2 ht, ?_⟩
  show i ∈ ((View.whole main_v0).slice (win0_1.rect t)).set
  rw [View.set_slice_whole, Rect.mem_set_unit]
  intro a
  match a with
  | ⟨0, _⟩ => show win0_1.index t (0 : Fin 2) * 8 ≤ (i 0).val ∧ (i 0).val < win0_1.index t (0 : Fin 2) * 8 + 8; rw [(idx1 t).1]; omega
  | ⟨1, _⟩ => show win0_1.index t (1 : Fin 2) * 64 ≤ (i 1).val ∧ (i 1).val < win0_1.index t (1 : Fin 2) * 64 + 64; rw [(idx1 t).2]; omega

theorem result (c : Dev nD) : (dats m 0 c).arrAt 1 cfg0.N = totals (d := 64) (layer m c) :=
  (dats m 0 c).arrAt_eq_of_cover 1 _ (written m c) covered

/-! ## The lines after the call -/

/-- The count, at every column. -/
def count : Vec Ideal S64 .f32 := broadcastInDim S64 ![] bcast_S_S64 (constant (F := Ideal) S_ .f32 0x48800000#32)

/-- The columns' means, from the sums, -/
def average (s : Vec Ideal S8x64 .f32) : Vec Ideal S64 .f32 :=
  Host.divf (F := Ideal) (φ := .f32) (shapeCast S64 (extractStridedSlice S1x64 ![0, 0] s slices_S8x64_S1x64_0_0) shapeCasts_S1x64_S64) count

/-- their variances, from the sums of squares, -/
def spread (s : Vec Ideal S8x64 .f32) : Vec Ideal S64 .f32 :=
  maximumf (F := Ideal) (φ := .f32) (subf (F := Ideal) (φ := .f32) (Host.divf (F := Ideal) (φ := .f32) (shapeCast S64 (extractStridedSlice S1x64 ![1, 0] s slices_S8x64_S1x64_1_0) shapeCasts_S1x64_S64) count)
    (mulf (F := Ideal) (φ := .f32) (average s) (average s))) (broadcastInDim S64 ![] bcast_S_S64 (constant (F := Ideal) S_ .f32 0x00000000#32))

/-- the scale of variances `v` -/
def scale (v g : Vec Ideal S64 .f32) : Vec Ideal S64 .f32 :=
  Host.divf (F := Ideal) (φ := .f32) g (Host.sqrt (F := Ideal) (φ := .f32) (addf (F := Ideal) (φ := .f32) v (broadcastInDim S64 ![] bcast_S_S64 (constant (F := Ideal) S_ .f32 0x3727C5AC#32))))

/-- and the shift of means `a`. -/
def shift (a v g b : Vec Ideal S64 .f32) : Vec Ideal S64 .f32 :=
  subf (F := Ideal) (φ := .f32) b (mulf (F := Ideal) (φ := .f32) a (scale v g))

theorem tail16 (W : Valuation τ sig (Elt Ideal)) : StableHlo.after (List.flatten [hostOps1]) W (Proc.devRef .tc main_v16)
    = scale (spread (W (Proc.devRef .tc main_v0))) (W (Proc.devRef .tc main_arg1)) := by
  simp only [hostOps1, List.flatten_cons, List.flatten_nil, List.append_nil, List.cons_append, List.nil_append]
  after_results_simp <;> rfl

theorem tail18 (W : Valuation τ sig (Elt Ideal)) : StableHlo.after (List.flatten [hostOps1]) W (Proc.devRef .tc main_v18)
    = shift (average (W (Proc.devRef .tc main_v0))) (spread (W (Proc.devRef .tc main_v0))) (W (Proc.devRef .tc main_arg1)) (W (Proc.devRef .tc main_arg2)) := by
  simp only [hostOps1, List.flatten_cons, List.flatten_nil, List.append_nil, List.cons_append, List.nil_append]
  after_results_simp <;> rfl

section
variable (c : Dev nD)

theorem left0 : Pipeline.withArrays spec0 c (V0 m c) (fun w => (dats m 0 c).arrAt w cfg0.N) (Proc.devRef .tc main_v0) = totals (d := 64) (layer m c) :=
  (Pipeline.withArrays_arr spec0 launch0.win.arr_inj c (V0 m c) (fun w => (dats m 0 c).arrAt w cfg0.N) 1).trans (result m c)

theorem left1 : Pipeline.withArrays spec0 c (V0 m c) (fun w => (dats m 0 c).arrAt w cfg0.N) (Proc.devRef .tc main_arg1) = gains m c :=
  (Pipeline.withArrays_of_ne spec0 c (V0 m c) _ main_arg1 (by decide)).trans rfl

theorem left2 : Pipeline.withArrays spec0 c (V0 m c) (fun w => (dats m 0 c).arrAt w cfg0.N) (Proc.devRef .tc main_arg2) = offsets m c :=
  (Pipeline.withArrays_of_ne spec0 c (V0 m c) _ main_arg2 (by decide)).trans rfl

/-- The scale and the shift the program leaves. -/
def scales : Vec Ideal S64 .f32 := scale (spread (totals (d := 64) (layer m c))) (gains m c)
def shifts : Vec Ideal S64 .f32 := shift (average (totals (d := 64) (layer m c))) (spread (totals (d := 64) (layer m c))) (gains m c) (offsets m c)

theorem final16 : Pipeline.afterTail₀ cfgs (dats m) 0 (V0 m) [hostOps1] c main_v16 = scales m c := by
  unfold Pipeline.afterTail₀ scales
  rw [tail16]
  exact congr (congrArg scale (congrArg spread (left0 m c))) (left1 m c)

theorem final18 : Pipeline.afterTail₀ cfgs (dats m) 0 (V0 m) [hostOps1] c main_v18 = shifts m c := by
  unfold Pipeline.afterTail₀ shifts
  rw [tail18]
  exact congr (congr (congr (congrArg shift (congrArg average (left0 m c))) (congrArg spread (left0 m c))) (left1 m c)) (left2 m c)

end

/-- The program ends with these, its arguments as they were. -/
theorem run (g : Dev nD → PrngReg) :
    θ_run defs (onTc (τ := τ) (main (F := Ideal))) ⟨m, fun _ => 0, g⟩ (fun r => ∀ c : Dev nD,
      r.2.mem ((c.tc : Thread nD τ).loc main_v16) = scales m c
      ∧ r.2.mem ((c.tc : Thread nD τ).loc main_v18) = shifts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have h1 : θ_run defs (onTc (τ := τ) (main (F := Ideal))) ⟨m, fun _ => 0, g⟩ (fun r => ∀ c : Dev nD,
      r.2.mem ((c.tc : Thread nD τ).loc main_v16) = scales m c ∧ r.2.mem ((c.tc : Thread nD τ).loc main_v18) = shifts m c) :=
    (θ_run defs _ _).mono (fun _ h c => ⟨((h c).2 main_v16 (Pipeline.mem_restRefs_of main_v16 (by decide) (by decide))).trans (final16 m c),
      ((h c).2 main_v18 (Pipeline.mem_restRefs_of main_v18 (by decide) (by decide))).trans (final18 m c)⟩) (run_main m g)
  (θ_run defs _ _).mono (fun _ h c => ⟨(h.1 c).1, (h.1 c).2, h.2 c⟩) (θ_run_and h1 (unchanged m g))

theorem count_eq : Ideal.ofBits .f32 0x48800000#32 = ((262144 : ℝ) : EReal) := by
  simp [Ideal.ofBits, Ideal.ieee]
  norm_cast
  norm_num

theorem average_apply (s : Vec Ideal S8x64 .f32) (j : Fin 64) : average s (ix1 j) = Ideal.div (s (ix2 0 j)) (Ideal.ofBits .f32 0x48800000#32) := by
  unfold average count
  pointwise

theorem spread_apply (s : Vec Ideal S8x64 .f32) (j : Fin 64) :
    spread s (ix1 j) = max (Ideal.div (s (ix2 1 j)) (Ideal.ofBits .f32 0x48800000#32) - average s (ix1 j) * average s (ix1 j)) 0 := by
  unfold spread count
  generalize average s = a
  pointwise

end Cert.MomentsIdeal.Value

namespace Cert.MomentsRefIdeal.Value

open Cert.MomentsRefIdeal Cert.MomentsRefIdeal.Gen Idealize.ShloMosaic Idealize.ShloMosaic.TcCoe Idealize.SL.Sem
open Cert.Rows

/-! ## The reference -/

/-- The columns' means, as a row, -/
def meanRow (z : Vec Ideal S262144x64 .f32) : Vec Ideal S1x64 .f32 :=
  Host.divf (F := Ideal) (φ := .f32) (broadcastInDim S1x64 ![1] bcast_S64_S1x64_1 (Host.reduceAdd z (constant (F := Ideal) S_ .f32 0x00000000#32) reducesTo_S262144x64_S64_d0 h_S_ : FVec Ideal S64 .f32))
    (broadcastInDim S1x64 ![] bcast_S_S1x64 (constant (F := Ideal) S_ .f32 0x48800000#32))

/-- and as a vector, -/
def mean (z : Vec Ideal S262144x64 .f32) : Vec Ideal S64 .f32 :=
  Host.divf (F := Ideal) (φ := .f32) (Host.reduceAdd z (constant (F := Ideal) S_ .f32 0x00000000#32) reducesTo_S262144x64_S64_d0 h_S_ : FVec Ideal S64 .f32)
    (broadcastInDim S64 ![] bcast_S_S64 (constant (F := Ideal) S_ .f32 0x48800000#32))

/-- the differences from them, -/
def diffs (z : Vec Ideal S262144x64 .f32) : Vec Ideal S262144x64 .f32 :=
  subf (F := Ideal) (φ := .f32) z (broadcastInDim S262144x64 ![0, 1] bcast_S1x64_S262144x64_0_1 (meanRow z))

/-- what the squares' sum is divided by, -/
def degrees : Vec Ideal S_ .f32 := subf (F := Ideal) (φ := .f32) (constant (F := Ideal) S_ .f32 0x48800000#32) (sitofp (F := Ideal) .f32 (constantI S_ 32 0#32))

/-- and the variances. -/
def variance (z : Vec Ideal S262144x64 .f32) : Vec Ideal S64 .f32 :=
  select (broadcastInDim S64 ![] bcast_S_S64 (cmpf (F := Ideal) (φ := .f32) .ogt degrees (constant (F := Ideal) S_ .f32 0x00000000#32)))
    (Host.divf (F := Ideal) (φ := .f32) (Host.reduceAdd (mulf (F := Ideal) (φ := .f32) (diffs z) (diffs z)) (constant (F := Ideal) S_ .f32 0x00000000#32) reducesTo_S262144x64_S64_d0 h_S_ : FVec Ideal S64 .f32)
      (broadcastInDim S64 ![] bcast_S_S64 degrees))
    (broadcastInDim S64 ![] bcast_S_S64 (id (constant (F := Ideal) S_ .f32 0x7FC00000#32)))

/-- The reference ends with the scale of the variances and the shift of the means. -/
theorem result_eq (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v4) = Cert.MomentsIdeal.Value.scale (variance (m ((c.tc : Thread nD τ).loc main_arg0))) (m ((c.tc : Thread nD τ).loc main_arg1))
      ∧ r.2.mem ((c.tc : Thread nD τ).loc main_v9) = Cert.MomentsIdeal.Value.shift (mean (m ((c.tc : Thread nD τ).loc main_arg0))) (variance (m ((c.tc : Thread nD τ).loc main_arg0)))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2.1.trans rfl, (h c).2.2⟩) (run m g)

theorem mean_apply (z : Vec Ideal S262144x64 .f32) (j : Fin 64) : mean z (ix1 j) = Ideal.div (∑ r : Fin 262144, z (ix2 r j)) (Ideal.ofBits .f32 0x48800000#32) := by
  unfold mean
  pointwise

theorem diffs_apply (z : Vec Ideal S262144x64 .f32) (r : Fin 262144) (j : Fin 64) :
    diffs z (ix2 r j) = z (ix2 r j) - Ideal.div (∑ s : Fin 262144, z (ix2 s j)) (Ideal.ofBits .f32 0x48800000#32) := by
  unfold diffs meanRow
  pointwise

theorem degrees_eq (i : S_.Idx) : degrees i = Ideal.ofBits .f32 0x48800000#32 := by
  have e : degrees i = Ideal.ofBits .f32 0x48800000#32 - ((((0#32 : BitVec 32).toInt : ℤ) : ℝ) : EReal) := rfl
  rw [e]
  simp

theorem variance_apply (z : Vec Ideal S262144x64 .f32) (j : Fin 64) :
    variance z (ix1 j) = Ideal.div (∑ r : Fin 262144, diffs z (ix2 r j) * diffs z (ix2 r j)) (Ideal.ofBits .f32 0x48800000#32) := by
  have hd : degrees = fun _ => Ideal.ofBits .f32 0x48800000#32 := funext degrees_eq
  have hc : cmpf (F := Ideal) (φ := .f32) .ogt degrees (constant (F := Ideal) S_ .f32 0x00000000#32) = fun _ => 1#1 := by
    funext i
    rw [hd]
    have e : cmpf (F := Ideal) (φ := .f32) .ogt (fun _ : S_.Idx => Ideal.ofBits .f32 0x48800000#32) (constant (F := Ideal) S_ .f32 0x00000000#32) i
      = BitVec.ofBool (decide (Ideal.ofBits .f32 0x00000000#32 < Ideal.ofBits .f32 0x48800000#32)) := rfl
    have hz : Ideal.ofBits .f32 0x00000000#32 = ((0 : ℝ) : EReal) := by simp [Ideal.ofBits, Ideal.ieee]
    have hl : ((0 : ℝ) : EReal) < ((262144 : ℝ) : EReal) := by exact_mod_cast (by norm_num : (0 : ℝ) < 262144)
    rw [e, hz, Cert.MomentsIdeal.Value.count_eq, decide_eq_true hl]
    rfl
  have hs (a b : Vec Ideal S64 .f32) : select (broadcastInDim S64 ![] bcast_S_S64 (fun _ : S_.Idx => (1#1 : BitVec 1))) a b = a := rfl
  unfold variance
  rw [hc, hs, hd]
  generalize diffs z = d
  pointwise

end Cert.MomentsRefIdeal.Value

namespace Cert.MomentsIdeal.Value

open Cert.MomentsIdeal Cert.MomentsIdeal.Gen Idealize.ShloMosaic Idealize.ShloMosaic.TcCoe Idealize.SL.Sem
open Cert.Rows

/-! ## Both ways -/

theorem average_eq (z : Vec Ideal S262144x64 .f32) : average (totals (d := 64) z) = Cert.MomentsRefIdeal.Value.mean z := by
  funext y
  rw [eq_ix1 y]
  obtain ⟨j, hj⟩ : ∃ j : Fin 64, j = y 0 := ⟨_, rfl⟩
  rw [← hj, average_apply]
  exact (Cert.MomentsRefIdeal.Value.mean_apply z j).symm

/-- The variance from the sums is the variance, where the layer is real. -/
theorem spread_eq (z : Vec Ideal S262144x64 .f32) (hz : ∀ y, ∃ r : ℝ, z y = (r : EReal)) :
    spread (totals (d := 64) z) = Cert.MomentsRefIdeal.Value.variance z := by
  funext y
  rw [eq_ix1 y]
  obtain ⟨j, hj⟩ : ∃ j : Fin 64, j = y 0 := ⟨_, rfl⟩
  have t0 : totals (d := 64) z (ix2 0 j) = ∑ r : Fin 262144, z (ix2 r j) := rfl
  have t1 : totals (d := 64) z (ix2 1 j) = ∑ r : Fin 262144, z (ix2 r j) * z (ix2 r j) := rfl
  rw [← hj, spread_apply, average_apply, t0, t1, count_eq]
  refine (Cert.Normal.variance (fun r : Fin 262144 => z (ix2 r j)) (fun r => hz _) 262144 (by norm_num) (by norm_num)).trans ?_
  have hv := Cert.MomentsRefIdeal.Value.variance_apply z j
  simp only [Cert.MomentsRefIdeal.Value.diffs_apply, count_eq] at hv
  exact hv.symm

/-- Under the precondition the layer is real. -/
theorem real_layer (z : Vec Ideal S262144x64 .f32) (g b : Vec Ideal S64 .f32) (h : Cert.Pre_bounded.fn (F := Ideal) z g b = (fun _ => 1#1)) (y : S262144x64.Idx) :
    ∃ r : ℝ, z y = (r : EReal) := by
  haveI : Subsingleton Cert.Pre_bounded.S_.Idx := ⟨fun a b => funext fun k => k.elim0⟩
  exact Cert.HeadIdeal.Value.real_of_test _ (Host.reduce_andi_all _ _ _ _ _ (congrFun h (fun k => k.elim0)) y)

end Cert.MomentsIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Table
public import proofs.«01_k».proof.Proof.Gen.Table.Skeleton
public import proofs.«01_k».proof.Proof.Gen.Table.Launch
public import proofs.«01_k».proof.Proof.Gen.Table.Points
public import proofs.«01_k».proof.Proof.Gen.Table.Frame
public import proofs.«01_k».proof.Proof.Gen.TableIdeal
public import proofs.«01_k».proof.Proof.Gen.TableIdeal.Skeleton
public import proofs.«01_k».proof.Proof.Gen.TableIdeal.Launch
public import proofs.«01_k».proof.Proof.Gen.TableIdeal.Points
public import proofs.«01_k».proof.Proof.Gen.TableIdeal.Frame
public import proofs.«01_k».proof.Proof.Gen.TableRefIdeal
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsRefIdeal
public import proofs.«01_k».proof.Proof.Gen.Second
public import proofs.«01_k».proof.Proof.Gen.Second.Skeleton
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.TableIdeal.Value
public import proofs.«01_k».proof.Proof.Gen.StatsIdeal.Value
public import proofs.«01_k».proof.Proof.Gen.SecondIdeal.Value
public import proofs.«01_k».proof.Proof.Gen.FinalIdeal.Value
public import proofs.«01_k».proof.Proof.Gen.TableRefIdeal.Run
public import proofs.«01_k».proof.Proof.Gen.StatsRefIdeal.Run
public import proofs.«01_k».proof.Proof.Gen.SecondRefIdeal.Run
public import proofs.«01_k».proof.Proof.Gen.FinalRefIdeal.Run
public import proofs.«01_k».proof.Proof.Gen.Centres
public import proofs.«01_k».proof.Proof.Gen.CentresIdeal
public import proofs.«01_k».proof.Proof.Gen.CentresRefIdeal
public import proofs.«01_k».proof.Proof.Gen.Outcome
public import proofs.«01_k».proof.Proof.Gen.Outcome.Skeleton
public import proofs.«01_k».proof.Proof.Gen.Outcome.Launch
public import proofs.«01_k».proof.Proof.Gen.Outcome.Points
public import proofs.«01_k».proof.Proof.Gen.Outcome.Frame
public import proofs.«01_k».proof.Proof.Gen.OutcomeIdeal
public import proofs.«01_k».proof.Proof.Gen.OutcomeIdeal.Skeleton
public import proofs.«01_k».proof.Proof.Gen.OutcomeIdeal.Launch
public import proofs.«01_k».proof.Proof.Gen.OutcomeIdeal.Points
public import proofs.«01_k».proof.Proof.Gen.OutcomeIdeal.Frame
public import proofs.«01_k».proof.Proof.Gen.OutcomeRefIdeal
public import proofs.«01_k».proof.Proof.Gen.OutcomeRefIdeal.Run
public import proofs.«01_k».proof.Proof.Gen.Pre_finite
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.Gen.Pre_inside
public import proofs.«01_k».proof.Proof.Gen.Moments
public import proofs.«01_k».proof.Proof.Gen.Moments.Skeleton
public import proofs.«01_k».proof.Proof.Gen.Moments.Launch
public import proofs.«01_k».proof.Proof.Gen.Moments.Points
public import proofs.«01_k».proof.Proof.Gen.Moments.Frame
public import proofs.«01_k».proof.Proof.Gen.MomentsIdeal
public import proofs.«01_k».proof.Proof.Gen.MomentsIdeal.Skeleton
public import proofs.«01_k».proof.Proof.Gen.MomentsIdeal.Launch
public import proofs.«01_k».proof.Proof.Gen.MomentsIdeal.Points
public import proofs.«01_k».proof.Proof.Gen.MomentsIdeal.Frame
public import proofs.«01_k».proof.Proof.Gen.MomentsRefIdeal
public import proofs.«01_k».proof.Proof.Gen.MomentsRefIdeal.Run
public import proofs.«01_k».proof.Proof.Gen.Pre_bounded
public import proofs.«01_k».proof.Proof.Total
public import proofs.«01_k».proof.Proof.Reference
public import proofs.«01_k».proof.Proof.Table
public import proofs.«01_k».proof.Proof.ColumnSums
public import proofs.«01_k».proof.Proof.SecondTotal
public import proofs.«01_k».proof.Proof.Final
public import proofs.«01_k».proof.Proof.Centres
public import proofs.«01_k».proof.Proof.Outcome
public import proofs.«01_k».proof.Proof.Grouped
public import proofs.«01_k».proof.Proof.Moments
public import Idealize.ShloMosaic.Adequacy
public import Idealize.ShloMosaic.Init

@[expose] public section

set_option maxRecDepth 16384

noncomputable section

namespace Cert.Proof

open Idealize.ShloMosaic Idealize.SL.Sem Cert.Kernel

/-- The third layer's call: the two results are the reference's. -/
theorem layer : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G4 m c, fun c => Cert.KernelIdeal.Value.G5 m c, Cert.KernelIdeal.Value.run m g, ?_⟩
  refine (θ_run _ _ _).mono (fun r h c => ?_) (Cert.ReferenceIdeal.Value.run m' g')
  obtain ⟨h18, h16, h0, h1, h2, h3⟩ := h c
  obtain ⟨e0, e1, e2, e3⟩ := hargs c
  refine ⟨h18.trans ?_, h16.trans ?_, h0, h1, h2, h3⟩
  · rw [e0, e1, e2, e3]
    funext y
    refine Eq.trans ?_ (Cert.KernelIdeal.Value.groups m c y).symm
    exact Cert.ReferenceIdeal.Value.max_apply (Cert.KernelIdeal.Value.P m c) y
  · rw [e0, e1, e2, e3]
    exact (Cert.ReferenceIdeal.Value.cat_totals (Cert.KernelIdeal.Value.P m c)).trans (Cert.KernelIdeal.Value.stats m c).symm

/-- The table call: each point's row of the table is the reference's affine map of its coordinates and features. -/
theorem table : Cert.algebraic_TableIdeal_TableRefIdeal (hTableIdeal := Cert.TableIdeal.Gen.facts) (hTableRefIdeal := Cert.TableRefIdeal.Gen.facts) := by
  intro m g m' g' _ hargs
  refine ⟨fun c => Cert.TableIdeal.Value.R m c, ?_, ?_⟩
  · refine (θ_run _ _ _).mono (fun r h c => ?_) (Cert.TableIdeal.Value.run_blocks m g)
    exact ⟨(h c).1.trans (Cert.TableIdeal.Value.result m c), (h c).2⟩
  · refine (θ_run _ _ _).mono (fun r h c => ?_) (Cert.TableRefIdeal.Value.run m' g')
    obtain ⟨hr, hk⟩ := h c
    obtain ⟨e0, e1, e2, e3⟩ := hargs c
    refine ⟨hr.trans ?_, hk⟩
    rw [e0, e1, e2, e3]
    rfl

/-- The call that sums the first layer: the column sums and the column sums of squares are the reference's. -/
theorem sums : Cert.algebraic_StatsIdeal_StatsRefIdeal (hStatsIdeal := Cert.StatsIdeal.Gen.facts) (hStatsRefIdeal := Cert.StatsRefIdeal.Gen.facts) := by
  intro m g m' g' _ hargs
  refine ⟨fun c => Cert.StatsIdeal.Value.G1 m c, Cert.StatsIdeal.Value.run m g, ?_⟩
  refine (θ_run _ _ _).mono (fun r h c => ?_) (Cert.StatsRefIdeal.Value.run m' g')
  obtain ⟨hr, hk⟩ := h c
  refine ⟨hr.trans ?_, hk⟩
  rw [hargs c]
  exact (Cert.StatsRefIdeal.Value.cat_totals _).trans (Cert.StatsIdeal.Value.result m c).symm

/-- The second layer's call: the products and their column sums are the reference's. -/
theorem second : Cert.algebraic_SecondIdeal_SecondRefIdeal (hSecondIdeal := Cert.SecondIdeal.Gen.facts) (hSecondRefIdeal := Cert.SecondRefIdeal.Gen.facts) := by
  intro m g m' g' _ hargs
  refine ⟨fun c => Cert.SecondIdeal.Value.G4 m c, fun c => Cert.SecondIdeal.Value.G5 m c, Cert.SecondIdeal.Value.run m g, ?_⟩
  refine (θ_run _ _ _).mono (fun r h c => ?_) (Cert.SecondRefIdeal.Value.run m' g')
  obtain ⟨h9, h16, h0, h1, h2, h3⟩ := h c
  obtain ⟨e0, e1, e2, e3⟩ := hargs c
  refine ⟨h9.trans ?_, h16.trans ?_, h0, h1, h2, h3⟩
  · rw [e0, e1, e2, e3]
    exact (Cert.SecondIdeal.Value.products m c).symm
  · rw [e0, e1, e2, e3]
    exact (Cert.StatsRefIdeal.Value.cat_totals (Cert.SecondIdeal.Value.P m c)).trans (Cert.SecondIdeal.Value.stats m c).symm

/-- The last call: the scaled, shifted and clipped maxima are the reference's. -/
theorem last : Cert.algebraic_FinalIdeal_FinalRefIdeal (hFinalIdeal := Cert.FinalIdeal.Gen.facts) (hFinalRefIdeal := Cert.FinalRefIdeal.Gen.facts) := by
  intro m g m' g' _ hargs
  refine ⟨fun c => Cert.FinalIdeal.Value.R m c, ?_, ?_⟩
  · refine (θ_run _ _ _).mono (fun r h c => ?_) (Cert.FinalIdeal.Value.run_blocks m g)
    exact ⟨(h c).1.trans (Cert.FinalIdeal.Value.result m c), (h c).2⟩
  · refine (θ_run _ _ _).mono (fun r h c => ?_) (Cert.FinalRefIdeal.Value.run m' g')
    obtain ⟨hr, hk⟩ := h c
    obtain ⟨e0, e1, e2⟩ := hargs c
    refine ⟨hr.trans ?_, hk⟩
    rw [e0, e1, e2]
    rfl

/-- The first result: the sampled centres are the reference's. -/
theorem centres : Cert.algebraic_CentresIdeal_CentresRefIdeal (hCentresIdeal := Cert.CentresIdeal.Gen.facts) (hCentresRefIdeal := Cert.CentresRefIdeal.Gen.facts) := by
  intro m g m' g' _ hargs
  refine ⟨fun c => Cert.CentresIdeal.Value.centres (Cert.CentresIdeal.Value.rows (Cert.CentresIdeal.Value.cloud m c))
    (Cert.CentresIdeal.Value.state (Cert.CentresIdeal.Value.rows (Cert.CentresIdeal.Value.cloud m c)) 512).2.2, Cert.CentresIdeal.Value.run m g, ?_⟩
  refine (θ_run _ _ _).mono (fun r h c => ?_) (Cert.CentresRefIdeal.Value.run m' g')
  obtain ⟨hr, hk⟩ := h c
  have e : Cert.CentresRefIdeal.Value.cloud m' c = Cert.CentresIdeal.Value.cloud m c := hargs c
  refine ⟨hr.trans ?_, hk⟩
  rw [e]
  exact Cert.CentresIdeal.Value.centres_eq _ _ (Cert.CentresIdeal.Value.state_lt _ 512).2

/-- The second result from the group maxima and the column sums: scaled, shifted, clipped and arranged, it is the reference's
    normalization, where the sums and the weights are real numbers. -/
theorem outcome : Cert.algebraic_OutcomeIdeal_OutcomeRefIdeal_pre_finite (hOutcomeIdeal := Cert.OutcomeIdeal.Gen.facts) (hOutcomeRefIdeal := Cert.OutcomeRefIdeal.Gen.facts)
    (hPre_finite := Cert.Pre_finite.Gen.facts) := by
  intro m g m' g' hpre hargs
  refine ⟨fun c => Cert.OutcomeRefIdeal.Value.arranged (Cert.OutcomeIdeal.Value.R m c), Cert.OutcomeIdeal.Value.run m g, ?_⟩
  refine (θ_run _ _ _).mono (fun r h c => ?_) (Cert.OutcomeRefIdeal.Value.result_eq m' g')
  obtain ⟨hr, hk⟩ := h c
  obtain ⟨e0, e1, e2, e3⟩ := hargs c
  refine ⟨hr.trans ?_, hk⟩
  rw [e0, e1, e2, e3]
  exact congrArg Cert.OutcomeRefIdeal.Value.arranged (Cert.OutcomeIdeal.Value.rows_eq m c (hpre c)).symm

/-- The first layer on the grouped points: the gathered rows less the centres' part are the reference's, where the numbers
    are in range and the centres and the coordinates' weights are real numbers. -/
theorem head : Cert.algebraic_HeadIdeal_HeadRefIdeal_pre_inside (hHeadIdeal := Cert.HeadIdeal.Gen.facts) (hHeadRefIdeal := Cert.HeadRefIdeal.Gen.facts)
    (hPre_inside := Cert.Pre_inside.Gen.facts) := by
  intro m g m' g' hpre hargs
  refine ⟨fun c => Cert.HeadIdeal.Value.rows m c, Cert.HeadIdeal.Value.run m g, ?_⟩
  refine (θ_run _ _ _).mono (fun r h c => ?_) (Cert.HeadRefIdeal.Value.result_eq m' g')
  obtain ⟨hr, hk⟩ := h c
  obtain ⟨e0, e1, e2, e3, e4, e5⟩ := hargs c
  refine ⟨hr.trans ?_, hk⟩
  rw [e0, e1, e2, e3, e4, e5]
  exact (Cert.HeadIdeal.Value.rows_eq m c (hpre c)).symm

/-- The first layer's scale and shift: from the sums and the sums of squares they are those of the mean and the variance,
    where the layer is real numbers. -/
theorem moments : Cert.algebraic_MomentsIdeal_MomentsRefIdeal_pre_bounded (hMomentsIdeal := Cert.MomentsIdeal.Gen.facts) (hMomentsRefIdeal := Cert.MomentsRefIdeal.Gen.facts)
    (hPre_bounded := Cert.Pre_bounded.Gen.facts) := by
  intro m g m' g' hpre hargs
  refine ⟨fun c => Cert.MomentsIdeal.Value.scales m c, fun c => Cert.MomentsIdeal.Value.shifts m c, Cert.MomentsIdeal.Value.run m g, ?_⟩
  refine (θ_run _ _ _).mono (fun r h c => ?_) (Cert.MomentsRefIdeal.Value.result_eq m' g')
  obtain ⟨h4, h9, hk⟩ := h c
  obtain ⟨e0, e1, e2⟩ := hargs c
  have hv := Cert.MomentsIdeal.Value.spread_eq (Cert.MomentsIdeal.Value.layer m c) (Cert.MomentsIdeal.Value.real_layer _ _ _ (hpre c))
  refine ⟨h4.trans ?_, h9.trans ?_, hk⟩
  · rw [e0, e1]
    exact congrArg (fun v => Cert.MomentsIdeal.Value.scale v (Cert.MomentsIdeal.Value.gains m c)) hv.symm
  · rw [e0, e1, e2]
    exact congrArg₂ (fun a v => Cert.MomentsIdeal.Value.shift a v (Cert.MomentsIdeal.Value.gains m c) (Cert.MomentsIdeal.Value.offsets m c))
      (Cert.MomentsIdeal.Value.average_eq _).symm hv.symm

theorem claim : Cert.Claim := ⟨Cert.Kernel.Gen.facts, Cert.KernelIdeal.Gen.facts, Cert.ReferenceIdeal.Gen.facts, Cert.Table.Gen.facts, Cert.TableIdeal.Gen.facts, Cert.TableRefIdeal.Gen.facts, Cert.Stats.Gen.facts, Cert.StatsIdeal.Gen.facts, Cert.StatsRefIdeal.Gen.facts, Cert.Second.Gen.facts, Cert.SecondIdeal.Gen.facts, Cert.SecondRefIdeal.Gen.facts, Cert.Final.Gen.facts, Cert.FinalIdeal.Gen.facts, Cert.FinalRefIdeal.Gen.facts, Cert.Centres.Gen.facts, Cert.CentresIdeal.Gen.facts, Cert.CentresRefIdeal.Gen.facts, Cert.Outcome.Gen.facts, Cert.OutcomeIdeal.Gen.facts, Cert.OutcomeRefIdeal.Gen.facts, Cert.Head.Gen.facts, Cert.HeadIdeal.Gen.facts, Cert.HeadRefIdeal.Gen.facts, Cert.Moments.Gen.facts, Cert.MomentsIdeal.Gen.facts, Cert.MomentsRefIdeal.Gen.facts, Cert.Pre_finite.Gen.facts, Cert.Pre_inside.Gen.facts, Cert.Pre_bounded.Gen.facts,
  fun m g _ => Cert.Kernel.Gen.frame m g, fun m g _ => Cert.KernelIdeal.Gen.frame m g,
  fun m g _ => (θ_run _ _ _).mono (fun r h => ⟨fun c => (h c).2.2, sem_eq_zero_of_no_sems (by decide) r.2⟩) (Cert.ReferenceIdeal.Value.run m g),
  fun m g _ => Cert.Table.Gen.frame m g, fun m g _ => Cert.TableIdeal.Gen.frame m g,
  fun m g _ => (θ_run _ _ _).mono (fun r h => ⟨fun c => (h c).2, sem_eq_zero_of_no_sems (by decide) r.2⟩) (Cert.TableRefIdeal.Value.run m g),
  fun m g _ => Cert.Stats.Gen.frame m g, fun m g _ => Cert.StatsIdeal.Gen.frame m g,
  fun m g _ => (θ_run _ _ _).mono (fun r h => ⟨fun c => (h c).2, sem_eq_zero_of_no_sems (by decide) r.2⟩) (Cert.StatsRefIdeal.Value.run m g),
  fun m g _ => Cert.Second.Gen.frame m g, fun m g _ => Cert.SecondIdeal.Gen.frame m g,
  fun m g _ => (θ_run _ _ _).mono (fun r h => ⟨fun c => (h c).2.2, sem_eq_zero_of_no_sems (by decide) r.2⟩) (Cert.SecondRefIdeal.Value.run m g),
  fun m g _ => Cert.Final.Gen.frame m g, fun m g _ => Cert.FinalIdeal.Gen.frame m g,
  fun m g _ => (θ_run _ _ _).mono (fun r h => ⟨fun c => (h c).2, sem_eq_zero_of_no_sems (by decide) r.2⟩) (Cert.FinalRefIdeal.Value.run m g),
  fun m g _ => (θ_run (Cert.Centres.defs (F := Bits)) (onTc (τ := Cert.Centres.τ) (Cert.Centres.main (F := Bits))) ⟨m, fun _ => 0, g⟩).mono
    (fun r h => ⟨fun c => (h c).2, sem_eq_zero_of_no_sems (by decide) r.2⟩) (Cert.CentresIdeal.Value.run (F := Bits) m g),
  fun m g _ => (θ_run _ _ _).mono (fun r h => ⟨fun c => (h c).2, sem_eq_zero_of_no_sems (by decide) r.2⟩) (Cert.CentresIdeal.Value.run m g),
  fun m g _ => (θ_run _ _ _).mono (fun r h => ⟨fun c => (h c).2, sem_eq_zero_of_no_sems (by decide) r.2⟩) (Cert.CentresRefIdeal.Value.run m g),
  fun m g _ => Cert.Outcome.Gen.frame m g, fun m g _ => Cert.OutcomeIdeal.Gen.frame m g, fun m g _ => Cert.OutcomeIdeal.Gen.frame m g,
  fun m g _ => (θ_run _ _ _).mono (fun r h => ⟨fun c => (h c).2, sem_eq_zero_of_no_sems (by decide) r.2⟩) (Cert.OutcomeRefIdeal.Value.result_eq m g),
  fun m g _ => (θ_run _ _ _).mono (fun r h => ⟨fun c => (h c).2, sem_eq_zero_of_no_sems (by decide) r.2⟩) (Cert.OutcomeRefIdeal.Value.result_eq m g),
  fun m g _ => Cert.Head.Gen.frame m g, fun m g _ => Cert.HeadIdeal.Gen.frame m g, fun m g _ => Cert.HeadIdeal.Gen.frame m g,
  fun m g _ => (θ_run _ _ _).mono (fun r h => ⟨fun c => (h c).2, sem_eq_zero_of_no_sems (by decide) r.2⟩) (Cert.HeadRefIdeal.Value.result_eq m g),
  fun m g _ => (θ_run _ _ _).mono (fun r h => ⟨fun c => (h c).2, sem_eq_zero_of_no_sems (by decide) r.2⟩) (Cert.HeadRefIdeal.Value.result_eq m g),
  fun m g _ => Cert.Moments.Gen.frame m g, fun m g _ => Cert.MomentsIdeal.Gen.frame m g, fun m g _ => Cert.MomentsIdeal.Gen.frame m g,
  fun m g _ => (θ_run _ _ _).mono (fun r h => ⟨fun c => (h c).2.2, sem_eq_zero_of_no_sems (by decide) r.2⟩) (Cert.MomentsRefIdeal.Value.result_eq m g),
  fun m g _ => (θ_run _ _ _).mono (fun r h => ⟨fun c => (h c).2.2, sem_eq_zero_of_no_sems (by decide) r.2⟩) (Cert.MomentsRefIdeal.Value.result_eq m g),
  trivial, layer, trivial, table, trivial, sums, trivial, second, trivial, last, trivial, centres, trivial, outcome, trivial, head, trivial, moments⟩

end Cert.Proof

end
